-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_step_counted [hPre_step_counted : Cert.Pre_step_counted.Facts] (m : (ℓ : Loc Cert.KernelIdeal.nD Cert.KernelIdeal.τ Cert.KernelIdeal.sig) → Buf (Elt Ideal) ℓ) : Prop :=
  ∀ c : Dev Cert.KernelIdeal.nD,
    (Cert.Pre_step_counted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_step_counted [hPre_step_counted : Cert.Pre_step_counted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_step_counted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_step_counted [hKernelIdeal : Cert.KernelIdeal.Facts] [hPre_step_counted : Cert.Pre_step_counted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_step_counted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_step_counted [hReferenceIdeal : Cert.ReferenceIdeal.Facts] [hPre_step_counted : Cert.Pre_step_counted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_step_counted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "log_beta1" .f32 0xBDD7C745#32 ((Real.log (7549747 / 8388608) : ℝ) : EReal)
  ∧ IdealRules.named_const.Statement Cert.KernelIdeal.κ "log_beta2" .f32 0xBA8322CA#32 ((Real.log (16760439 / 16777216) : ℝ) : EReal)

def algebraic_KernelIdeal_ReferenceIdeal_pre_step_counted [hKernelIdeal : Cert.KernelIdeal.Facts] [hReferenceIdeal : Cert.ReferenceIdeal.Facts] [hPre_step_counted : Cert.Pre_step_counted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_step_counted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)) (v4 : (c : Dev Cert.KernelIdeal.nD) → Buf (Elt Ideal) ((c.tc : Thread Cert.KernelIdeal.nD Cert.KernelIdeal.τ).loc Cert.KernelIdeal.main_v1_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_v1_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_v1_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_step_counted : Cert.Pre_step_counted.Facts),
    quiescent_Kernel (hKernel := hKernel)
    ∧ quiescent_KernelIdeal (hKernelIdeal := hKernelIdeal)
    ∧ quiescent_KernelIdeal_pre_step_counted (hKernelIdeal := hKernelIdeal) (hPre_step_counted := hPre_step_counted)
    ∧ quiescent_ReferenceIdeal (hReferenceIdeal := hReferenceIdeal)
    ∧ quiescent_ReferenceIdeal_pre_step_counted (hReferenceIdeal := hReferenceIdeal) (hPre_step_counted := hPre_step_counted)
    ∧ preserves_Kernel_KernelIdeal
    ∧ algebraic_KernelIdeal_ReferenceIdeal_pre_step_counted (hKernelIdeal := hKernelIdeal) (hReferenceIdeal := hReferenceIdeal) (hPre_step_counted := hPre_step_counted)
-- ==== Pre_step_counted.lean ====
abbrev S8832x5120 : Shape := ⟨2, ![8832, 5120]⟩
abbrev S69x5120 : Shape := ⟨2, ![69, 5120]⟩
abbrev S_ : Shape := ⟨0, ![]⟩

class Facts : Prop where

variable [Facts]

def fn {F : FTy → Type} [FloatOps F] (main_arg0 : FVec F S8832x5120 .f32) (main_arg1 : FVec F S8832x5120 .bf16) (main_arg2 : IVec S8832x5120 8) (main_arg3 : FVec F S69x5120 .f32) (main_arg4 : IVec S8832x5120 8) (main_arg5 : FVec F S69x5120 .f32) (main_arg6 : IVec S_ 32) : IVec S_ 1 :=
  let main_c : IVec S_ 32 := constantI S_ 32 0#32
  let main_v0 : IVec S_ 1 := cmpi .ne main_arg6 main_c
  main_v0
-- ==== Kernel.lean ====
abbrev S8832x5120 : Shape := ⟨2, ![8832, 5120]⟩
abbrev S69x5120 : Shape := ⟨2, ![69, 5120]⟩
abbrev S_ : Shape := ⟨0, ![]⟩
abbrev S1 : Shape := ⟨1, ![1]⟩
abbrev S128x5120 : Shape := ⟨2, ![128, 5120]⟩
abbrev S8x5120 : Shape := ⟨2, ![8, 5120]⟩
abbrev S40x8x128 : Shape := ⟨3, ![40, 8, 128]⟩
abbrev S1x128 : Shape := ⟨2, ![1, 128]⟩
abbrev S8x128 : Shape := ⟨2, ![8, 128]⟩
abbrev S1x8x128 : Shape := ⟨3, ![1, 8, 128]⟩
abbrev S128x128 : Shape := ⟨2, ![128, 128]⟩
abbrev S1x1x128 : Shape := ⟨3, ![1, 1, 128]⟩
abbrev S128 : Shape := ⟨1, ![128]⟩

abbrev nBuf : Space → Nat
  | .hbm => 13
  | .vmem => 26
  | .smem => 1
  | _ => 0

abbrev bufTy : (tb : Table) → Fin (tcTables nBuf tb) → BufTy
  | .hbm, ⟨0, _⟩ => ⟨S8832x5120, .f32⟩
  | .hbm, ⟨1, _⟩ => ⟨S8832x5120, .bf16⟩
  | .hbm, ⟨2, _⟩ => ⟨S8832x5120, .i8⟩
  | .hbm, ⟨3, _⟩ => ⟨S69x5120, .f32⟩
  | .hbm, ⟨4, _⟩ => ⟨S8832x5120, .i8⟩
  | .hbm, ⟨5, _⟩ => ⟨S69x5120, .f32⟩
  | .hbm, ⟨6, _⟩ => ⟨S_, .i32⟩
  | .hbm, ⟨7, _⟩ => ⟨S1, .i32⟩
  | .hbm, ⟨8, _⟩ => ⟨S8832x5120, .f32⟩
  | .hbm, ⟨9, _⟩ => ⟨S8832x5120, .i8⟩
  | .hbm, ⟨10, _⟩ => ⟨S69x5120, .f32⟩
  | .hbm, ⟨11, _⟩ => ⟨S8832x5120, .i8⟩
  | .hbm, ⟨12, _⟩ => ⟨S69x5120, .f32⟩
  | .local _ .vmem, ⟨0, _⟩ => ⟨S128x5120, .f32⟩
  | .local _ .vmem, ⟨1, _⟩ => ⟨S128x5120, .f32⟩
  | .local _ .vmem, ⟨2, _⟩ => ⟨S128x5120, .bf16⟩
  | .local _ .vmem, ⟨3, _⟩ => ⟨S128x5120, .bf16⟩
  | .local _ .vmem, ⟨4, _⟩ => ⟨S128x5120, .i8⟩
  | .local _ .vmem, ⟨5, _⟩ => ⟨S128x5120, .i8⟩
  | .local _ .vmem, ⟨6, _⟩ => ⟨S8x5120, .f32⟩
  | .local _ .vmem, ⟨7, _⟩ => ⟨S8x5120, .f32⟩
  | .local _ .vmem, ⟨8, _⟩ => ⟨S128x5120, .i8⟩
  | .local _ .vmem, ⟨9, _⟩ => ⟨S128x5120, .i8⟩
  | .local _ .vmem, ⟨10, _⟩ => ⟨S8x5120, .f32⟩
  | .local _ .vmem, ⟨11, _⟩ => ⟨S8x5120, .f32⟩
  | .local _ .vmem, ⟨12, _⟩ => ⟨S128x5120, .f32⟩
  | .local _ .vmem, ⟨13, _⟩ => ⟨S128x5120, .f32⟩
  | .local _ .vmem, ⟨14, _⟩ => ⟨S128x5120, .i8⟩
  | .local _ .vmem, ⟨15, _⟩ => ⟨S128x5120, .i8⟩
  | .local _ .vmem, ⟨16, _⟩ => ⟨S8x5120, .f32⟩
  | .local _ .vmem, ⟨17, _⟩ => ⟨S8x5120, .f32⟩
  | .local _ .vmem, ⟨18, _⟩ => ⟨S128x5120, .i8⟩
  | .local _ .vmem, ⟨19, _⟩ => ⟨S128x5120, .i8⟩
  | .local _ .vmem, ⟨20, _⟩ => ⟨S8x5120, .f32⟩
  | .local _ .vmem, ⟨21, _⟩ => ⟨S8x5120, .f32⟩
  | .local _ .vmem, ⟨22, _⟩ => ⟨S40x8x128, .f32⟩
  | .local _ .vmem, ⟨23, _⟩ => ⟨S40x8x128, .f32⟩
  | .local _ .vmem, ⟨24, _⟩ => ⟨S40x8x128, .f32⟩
  | .local _ .vmem, ⟨25, _⟩ => ⟨S40x8x128, .f32⟩
  | .local _ .smem, ⟨0, _⟩ => ⟨S1, .i32⟩
  | _, _ => ⟨S8832x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22

abbrev nD : Nat := 1
abbrev τ : Topo := Topo.v7x

variable {F : FTy → Type} [FloatOps F]

abbrev grid0 : Pipeline.Grid := ⟨1, ![69], ![false]⟩

@[reducible] def k0_t1_loop : Scf.Loop 32 :=
  let c0_i32_10 : BitVec 32 := 0#32
  let c40_i32 : BitVec 32 := 40#32
  let v30 : BitVec 32 := Scalar.addi c0_i32_10 c40_i32
  let c1_i32_11 : BitVec 32 := 1#32
  ⟨c0_i32_10, v30, c1_i32_11⟩
def k0_mult1 (k0_t1 : Fin k0_t1_loop.trips) : BitVec 32 :=
  let c0_i32_10 : BitVec 32 := 0#32
  let c1_i32_11 : BitVec 32 := 1#32
  let arg17 : BitVec 32 := Scf.iv c0_i32_10 c1_i32_11 k0_t1
  let c128_i32 : BitVec 32 := 128#32
  let v36 : BitVec 32 := Scalar.muli arg17 c128_i32
  v36
def k0_off1 (k0_t1 : Fin k0_t1_loop.trips) : Fin 2 → Nat :=
  let c0_14 : Index := 0#32
  let c0_i32_10 : BitVec 32 := 0#32
  let c1_i32_11 : BitVec 32 := 1#32
  let arg17 : BitVec 32 := Scf.iv c0_i32_10 c1_i32_11 k0_t1
  let c128_i32 : BitVec 32 := 128#32
  let v36 : BitVec 32 := Scalar.muli arg17 c128_i32
  let v37 : BitVec 32 := v36
  let v38 : Index := Scalar.indexCast v37
  ![0, v38.toNat]
def k0_off2 (i : grid0.Coords) (k0_t1 : Fin k0_t1_loop.trips) : Fin 3 → Nat :=
  let c0_i32_10 : BitVec 32 := 0#32
  let c1_i32_11 : BitVec 32 := 1#32
  let arg17 : BitVec 32 := Scf.iv c0_i32_10 c1_i32_11 k0_t1
  let v44 : Index := Scalar.indexCast arg17
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v45 : Index := Scalar.indexCast v9
  let c0_16 : Index := 0#32
  ![v44.toNat, v45.toNat, 0]
def k0_cond2 (i : grid0.Coords) : BitVec 1 :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c7_i32 : BitVec 32 := 7#32
  let v31 : BitVec 1 := Scalar.cmpi .eq v9 c7_i32
  let c68_i32 : BitVec 32 := 68#32
  let v32 : BitVec 1 := Scalar.cmpi .eq arg0 c68_i32
  let v33 : BitVec 1 := Scalar.ori v31 v32
  let v34 : BitVec 32 := Scalar.extui v33
  let c0_i32_13 : BitVec 32 := 0#32
  let v35 : BitVec 1 := Scalar.cmpi .ne v34 c0_i32_13
  v35

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  ![v16.toNat, c0_i32_4.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x5120 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x5120 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x5120 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x5120 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x5120 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x5120 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x5120 .i8 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8x5120 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x5120 .i8 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S8x5120 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== KernelIdeal.lean ====
variable {F : FTy → Type} [FloatOps F] [Named F]
def κ : String → Option EReal := fun
  | "log_beta1" => some ((Real.log (7549747 / 8388608) : ℝ) : EReal)
  | "log_beta2" => some ((Real.log (16760439 / 16777216) : ℝ) : EReal)
  | _ => none
-- ==== ReferenceIdeal.lean ====
abbrev S8832x5120 : Shape := ⟨2, ![8832, 5120]⟩
abbrev S69x5120 : Shape := ⟨2, ![69, 5120]⟩
abbrev S_ : Shape := ⟨0, ![]⟩
abbrev S1 : Shape := ⟨1, ![1]⟩
abbrev S69x128x5120 : Shape := ⟨3, ![69, 128, 5120]⟩
abbrev S69x1x5120 : Shape := ⟨3, ![69, 1, 5120]⟩
abbrev S1x1 : Shape := ⟨2, ![1, 1]⟩

abbrev nBuf : Space → Nat
  | .hbm => 13
  | .vmem => 11
  | .smem => 1
  | _ => 0

abbrev bufTy : (tb : Table) → Fin (tcTables nBuf tb) → BufTy
  | .hbm, ⟨0, _⟩ => ⟨S8832x5120, .f32⟩
  | .hbm, ⟨1, _⟩ => ⟨S8832x5120, .bf16⟩
  | .hbm, ⟨2, _⟩ => ⟨S8832x5120, .i8⟩
  | .hbm, ⟨3, _⟩ => ⟨S69x5120, .f32⟩
  | .hbm, ⟨4, _⟩ => ⟨S8832x5120, .i8⟩
  | .hbm, ⟨5, _⟩ => ⟨S69x5120, .f32⟩
  | .hbm, ⟨6, _⟩ => ⟨S_, .i32⟩
  | .hbm, ⟨7, _⟩ => ⟨S1, .i32⟩
  | .hbm, ⟨8, _⟩ => ⟨S8832x5120, .f32⟩
  | .hbm, ⟨9, _⟩ => ⟨S8832x5120, .i8⟩
  | .hbm, ⟨10, _⟩ => ⟨S69x5120, .f32⟩
  | .hbm, ⟨11, _⟩ => ⟨S8832x5120, .i8⟩
  | .hbm, ⟨12, _⟩ => ⟨S69x5120, .f32⟩
  | .local _ .vmem, ⟨0, _⟩ => ⟨S8832x5120, .f32⟩
  | .local _ .vmem, ⟨1, _⟩ => ⟨S8832x5120, .bf16⟩
  | .local _ .vmem, ⟨2, _⟩ => ⟨S8832x5120, .i8⟩
  | .local _ .vmem, ⟨3, _⟩ => ⟨S69x5120, .f32⟩
  | .local _ .vmem, ⟨4, _⟩ => ⟨S8832x5120, .i8⟩
  | .local _ .vmem, ⟨5, _⟩ => ⟨S69x5120, .f32⟩
  | .local _ .vmem, ⟨6, _⟩ => ⟨S8832x5120, .f32⟩
  | .local _ .vmem, ⟨7, _⟩ => ⟨S8832x5120, .i8⟩
  | .local _ .vmem, ⟨8, _⟩ => ⟨S69x5120, .f32⟩
  | .local _ .vmem, ⟨9, _⟩ => ⟨S8832x5120, .i8⟩
  | .local _ .vmem, ⟨10, _⟩ => ⟨S69x5120, .f32⟩
  | .local _ .smem, ⟨0, _⟩ => ⟨S1, .i32⟩
  | _, _ => ⟨S8832x5120, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev main_v1_4 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8832x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8832x5120 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8832x5120 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S69x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8832x5120 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S69x5120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8832x5120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8832x5120 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S69x5120 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8832x5120 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S69x5120 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.Pieces.lean ====
/- Lists of stores made one per trip of a counted loop, and what a buffer reads after them. -/
module

public import Idealize.ShloMosaic.Lib.WritesUnit

@[expose] public section

namespace Cert.Pieces

open Idealize.ShloMosaic

variable {Val : EltTy → Type} {s : Shape} {e : EltTy} {n : ℕ}

/-- One more trip in front of the list `L`: trip `k`'s piece, if there is such a trip. -/
@[irreducible] def step (p : Fin n → View.Piece Val s e) (k : ℕ) (L : List (View.Piece Val s e)) :
    List (View.Piece Val s e) :=
  if h : k < n then p ⟨k, h⟩ :: L else L

/-- The pieces of the trips before `k`, the last first: trip `j` stores the piece `p j`. -/
def upTo (p : Fin n → View.Piece Val s e) : ℕ → List (View.Piece Val s e)
  | 0 => []
  | k + 1 => step p k (upTo p k)

theorem upTo_succ (p : Fin n → View.Piece Val s e) (k : Fin n) :
    upTo p (k.val + 1) = p k :: upTo p k.val := by
  rw [upTo]; unfold step; rw [dif_pos k.isLt]

/-- Every piece of the list is some trip's. -/
theorem exists_of_mem_upTo (p : Fin n → View.Piece Val s e) {q : View.Piece Val s e} :
    ∀ k : ℕ, q ∈ upTo p k → ∃ j : Fin n, q = p j
  | 0, h => absurd h List.not_mem_nil
  | k + 1, h => by
    unfold upTo step at h
    split at h
    · rcases List.mem_cons.mp h with rfl | h
      · exact ⟨_, rfl⟩
      · exact exists_of_mem_upTo p k h
    · exact exists_of_mem_upTo p k h

/-- Every trip before `k` has its piece in the list. -/
theorem mem_upTo (p : Fin n → View.Piece Val s e) (j : Fin n) : ∀ k : ℕ, j.val < k → p j ∈ upTo p k
  | 0, h => absurd h (Nat.not_lt_zero _)
  | k + 1, h => by
    unfold upTo step
    split
    · next hk =>
      rcases Nat.lt_succ_iff_lt_or_eq.mp h with h | h
      · exact List.mem_cons_of_mem _ (mem_upTo p j k h)
      · have : j = ⟨k, hk⟩ := Fin.ext h
        rw [this]; exact List.mem_cons_self
    · next hk => exact mem_upTo p j k (Nat.lt_of_lt_of_le j.isLt (Nat.not_lt.mp hk))

end Cert.Pieces
-- ==== Proof.Kernel.Loop.lean ====
/- The column loop of the kernel body at one grid point: what one trip stores, and the loop by its invariant. -/
module

public import proofs.«01_k».proof.Proof.Gen.Kernel.Skeleton
public import proofs.«01_k».proof.Proof.Pieces
public import Idealize.ShloMosaic.Lib.Exec
public import Idealize.ShloMosaic.Lib.Tactic
public import Idealize.ShloMosaic.Lib.Pipeline.Kit
public import Idealize.ShloMosaic.Lib.Pipeline.FrameBody

@[expose] public section

-- a region applies its sixteen memrefs and their facts in every statement
set_option maxRecDepth 8192
set_option maxHeartbeats 1000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Pieces

variable {F : FTy → Type} [FloatOps F]

local notation "𝕄G" => MT nD τ sig Unit (Elt F) ℕ (UR sig nD τ) ℕ

/-! ## What one trip computes

`x2 … x14` are what the trip's buffers read: the parameter, gradient and code blocks, and the old scales laid out as
40 groups of 128 columns. -/

/-- Columns `128 k … 128 k + 127` of a block. -/
abbrev colR (k : Fin k0_t1_loop.trips) : Rect S128x5120 :=
  Rect.unit (s := S128x5120) (k0_off1 k) S128x128.size (k0_off1_inb k)

/-- The scale row of grid point `i`, column group `k`. -/
abbrev rowR (i : grid0.Coords) (k : Fin k0_t1_loop.trips) : Rect S40x8x128 :=
  Rect.unit (s := S40x8x128) (k0_off2 i k) S1x1x128.size (k0_off2_inb i k)

/-- The new first moment of column group `k`. -/
def tripM (i : grid0.Coords) (x3 : Vec F S128x5120 .bf16) (x4 : Vec F S128x5120 .i8) (x13 : Vec F S40x8x128 .f32)
    (k : Fin k0_t1_loop.trips) : FVec F S128x128 .f32 :=
  k0_pay80 (View.ld x3 (colR k)) (View.ld x4 (colR k)) (View.ld x13 (rowR i k))

/-- The new second moment of column group `k`. -/
def tripV (i : grid0.Coords) (x3 : Vec F S128x5120 .bf16) (x6 : Vec F S128x5120 .i8) (x14 : Vec F S40x8x128 .f32)
    (k : Fin k0_t1_loop.trips) : FVec F S128x128 .f32 :=
  k0_pay81 (View.ld x3 (colR k)) (View.ld x6 (colR k)) (View.ld x14 (rowR i k))

/-- The update of column group `k`. -/
def tripD (i : grid0.Coords) (v10 : Elt F .i32) (x2 : Vec F S128x5120 .f32) (x3 : Vec F S128x5120 .bf16)
    (x4 x6 : Vec F S128x5120 .i8) (x13 x14 : Vec F S40x8x128 .f32)
    (k : Fin k0_t1_loop.trips) : FVec F S128x128 .f32 :=
  k0_pay84 (k0_pay82 (k0_pay171 v10) (k0_pay172 v10) (View.ld x3 (colR k)) (View.ld x4 (colR k)) (View.ld x13 (rowR i k))
    (View.ld x6 (colR k)) (View.ld x14 (rowR i k))) (k0_pay83 (View.ld x2 (colR k)))

/-- The trip's store into the update block. -/
abbrev pcD (i : grid0.Coords) (v10 : Elt F .i32) (x2 : Vec F S128x5120 .f32) (x3 : Vec F S128x5120 .bf16)
    (x4 x6 : Vec F S128x5120 .i8) (x13 x14 : Vec F S40x8x128 .f32) (k : Fin k0_t1_loop.trips) :
    View.Piece (Elt F) S128x5120 .f32 :=
  ⟨colR k, tripD i v10 x2 x3 x4 x6 x13 x14 k⟩

/-- The trip's store into the block of first-moment codes. -/
abbrev pcMc (i : grid0.Coords) (x3 : Vec F S128x5120 .bf16) (x4 : Vec F S128x5120 .i8) (x13 : Vec F S40x8x128 .f32)
    (k : Fin k0_t1_loop.trips) : View.Piece (Elt F) S128x5120 .i8 :=
  ⟨colR k, k0_pay86 (tripM i x3 x4 x13 k)⟩

/-- The trip's store into the block of second-moment codes. -/
abbrev pcVc (i : grid0.Coords) (x3 : Vec F S128x5120 .bf16) (x6 : Vec F S128x5120 .i8) (x14 : Vec F S40x8x128 .f32)
    (k : Fin k0_t1_loop.trips) : View.Piece (Elt F) S128x5120 .i8 :=
  ⟨colR k, k0_pay175 (tripV i x3 x6 x14 k) (k0_pay88 (tripV i x3 x6 x14 k)) (k0_pay89 (F := F))⟩

/-- The trip's store into the scratch of new first-moment scales. -/
abbrev pcMs (i : grid0.Coords) (x3 : Vec F S128x5120 .bf16) (x4 : Vec F S128x5120 .i8) (x13 : Vec F S40x8x128 .f32)
    (k : Fin k0_t1_loop.trips) : View.Piece (Elt F) S40x8x128 .f32 :=
  ⟨rowR i k, k0_pay87 (tripM i x3 x4 x13 k)⟩

/-- The trip's store into the scratch of new second-moment scales. -/
abbrev pcVs (i : grid0.Coords) (x3 : Vec F S128x5120 .bf16) (x6 : Vec F S128x5120 .i8) (x14 : Vec F S40x8x128 .f32)
    (k : Fin k0_t1_loop.trips) : View.Piece (Elt F) S40x8x128 .f32 :=
  ⟨rowR i k, k0_pay176 (k0_pay88 (tripV i x3 x6 x14 k))⟩

/-! ## The loop -/

section Loop

variable (𝒱 : Variants) (c : Dev nD) (bd : Option 𝒱.V) (i : grid0.Coords)
  (arg1 : Memref sig .tc .smem S1 .i32) (harg1 : arg1.IsWhole)
  (arg2 : Memref sig .tc .vmem S128x5120 .f32) (harg2 : arg2.IsWhole)
  (arg3 : Memref sig .tc .vmem S128x5120 .bf16) (harg3 : arg3.IsWhole)
  (arg4 : Memref sig .tc .vmem S128x5120 .i8) (harg4 : arg4.IsWhole)
  (arg5 : Memref sig .tc .vmem S8x5120 .f32) (harg5 : arg5.IsWhole)
  (arg6 : Memref sig .tc .vmem S128x5120 .i8) (harg6 : arg6.IsWhole)
  (arg7 : Memref sig .tc .vmem S8x5120 .f32) (harg7 : arg7.IsWhole)
  (arg8 : Memref sig .tc .vmem S128x5120 .f32) (harg8 : arg8.IsWhole)
  (arg9 : Memref sig .tc .vmem S128x5120 .i8) (harg9 : arg9.IsWhole)
  (arg10 : Memref sig .tc .vmem S8x5120 .f32) (harg10 : arg10.IsWhole)
  (arg11 : Memref sig .tc .vmem S128x5120 .i8) (harg11 : arg11.IsWhole)
  (arg12 : Memref sig .tc .vmem S8x5120 .f32) (harg12 : arg12.IsWhole)
  (arg13 : Memref sig .tc .vmem S40x8x128 .f32) (harg13 : arg13.IsWhole)
  (arg14 : Memref sig .tc .vmem S40x8x128 .f32) (harg14 : arg14.IsWhole)
  (arg15 : Memref sig .tc .vmem S40x8x128 .f32) (harg15 : arg15.IsWhole)
  (arg16 : Memref sig .tc .vmem S40x8x128 .f32) (harg16 : arg16.IsWhole)
  (v9 : BitVec 32) (v10 : Elt F .i32)
  (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg13 : BufTy.Contents (Elt F) arg13.view.ty) (X_arg14 : BufTy.Contents (Elt F) arg14.view.ty)
  (G_arg8 : BufTy.Contents (Elt F) arg8.view.ty) (G_arg9 : BufTy.Contents (Elt F) arg9.view.ty) (G_arg11 : BufTy.Contents (Elt F) arg11.view.ty) (G_arg15 : BufTy.Contents (Elt F) arg15.view.ty) (G_arg16 : BufTy.Contents (Elt F) arg16.view.ty)

/-- ONE TRIP: the buffers read are left as they are; each buffer written gets the trip's store. -/
theorem trip_run (k : Fin k0_t1_loop.trips) (E : Set ℕ) :
    iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg13.view.loc (c : Thread nD τ) ↦[arg13.view.set]{fullShare} X_arg13) ∗ (arg14.view.loc (c : Thread nD τ) ↦[arg14.view.set]{fullShare} X_arg14) ∗ (arg8.view.loc (c : Thread nD τ) ↦[arg8.view.set]{fullShare} G_arg8) ∗ (arg9.view.loc (c : Thread nD τ) ↦[arg9.view.set]{fullShare} G_arg9) ∗ (arg11.view.loc (c : Thread nD τ) ↦[arg11.view.set]{fullShare} G_arg11) ∗ (arg15.view.loc (c : Thread nD τ) ↦[arg15.view.set]{fullShare} G_arg15) ∗ (arg16.view.loc (c : Thread nD τ) ↦[arg16.view.set]{fullShare} G_arg16) : sProp 𝕄G)
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v10 k PUnit.unit)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg13.view.loc (c : Thread nD τ) ↦[arg13.view.set]{fullShare} X_arg13) ∗ (arg14.view.loc (c : Thread nD τ) ↦[arg14.view.set]{fullShare} X_arg14) ∗ (arg8.view.loc (c : Thread nD τ) ↦[arg8.view.set]{fullShare} arg8.view.writes (Elt F) G_arg8 [pcD i v10 (arg2.view.read (Elt F) X_arg2) (arg3.view.read (Elt F) X_arg3) (arg4.view.read (Elt F) X_arg4) (arg6.view.read (Elt F) X_arg6) (arg13.view.read (Elt F) X_arg13) (arg14.view.read (Elt F) X_arg14) k]) ∗ (arg9.view.loc (c : Thread nD τ) ↦[arg9.view.set]{fullShare} arg9.view.writes (Elt F) G_arg9 [pcMc i (arg3.view.read (Elt F) X_arg3) (arg4.view.read (Elt F) X_arg4) (arg13.view.read (Elt F) X_arg13) k]) ∗ (arg11.view.loc (c : Thread nD τ) ↦[arg11.view.set]{fullShare} arg11.view.writes (Elt F) G_arg11 [pcVc i (arg3.view.read (Elt F) X_arg3) (arg6.view.read (Elt F) X_arg6) (arg14.view.read (Elt F) X_arg14) k]) ∗ (arg15.view.loc (c : Thread nD τ) ↦[arg15.view.set]{fullShare} arg15.view.writes (Elt F) G_arg15 [pcMs i (arg3.view.read (Elt F) X_arg3) (arg4.view.read (Elt F) X_arg4) (arg13.view.read (Elt F) X_arg13) k]) ∗ (arg16.view.loc (c : Thread nD τ) ↦[arg16.view.set]{fullShare} arg16.view.writes (Elt F) G_arg16 [pcVs i (arg3.view.read (Elt F) X_arg3) (arg6.view.read (Elt F) X_arg6) (arg14.view.read (Elt F) X_arg14) k]))) := by
  have hk : k.val < 40 := Nat.lt_of_lt_of_le k.isLt k0_t1_abs.2.1
  unfold k0_t1_body
  iintro ⟨HR_arg2, HR_arg3, HR_arg4, HR_arg6, HR_arg13, HR_arg14, HW_arg8, HW_arg9, HW_arg11, HW_arg15, HW_arg16⟩
  sl_exec
  sl_step
  isplitl [HR_arg2]; · iexact HR_arg2
  isplitl [HR_arg3]; · iexact HR_arg3
  isplitl [HR_arg4]; · iexact HR_arg4
  isplitl [HR_arg6]; · iexact HR_arg6
  isplitl [HR_arg13]; · iexact HR_arg13
  isplitl [HR_arg14]; · iexact HR_arg14
  isplitl [HW_arg8]; · iexact HW_arg8
  isplitl [HW_arg9]; · iexact HW_arg9
  isplitl [HW_arg11]; · iexact HW_arg11
  isplitl [HW_arg15]; · iexact HW_arg15
  iexact HW_arg16

set_option warn.classDefReducibility false in
/-- THE LOOP BY ITS INVARIANT: before trip `k` each buffer written holds, over what it held at the loop's start, the
    stores of the trips before `k`. -/
@[sl_loop] def loopInv (E : Set ℕ) :
    Idealize.ShloMosaic.LoopInv (M := 𝕄G) Idealize.ShloMosaic.frame (wpE (defs₀ (F := F)) 𝒱 (c : Thread nD τ) bd) E
      k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v10) where
  inv k _ := iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg13.view.loc (c : Thread nD τ) ↦[arg13.view.set]{fullShare} X_arg13) ∗ (arg14.view.loc (c : Thread nD τ) ↦[arg14.view.set]{fullShare} X_arg14) ∗ (∃ f, (arg8.view.loc (c : Thread nD τ) ↦[arg8.view.set]{fullShare} f) ∗ ⌜f = arg8.view.writes (Elt F) G_arg8 (upTo (pcD i v10 (arg2.view.read (Elt F) X_arg2) (arg3.view.read (Elt F) X_arg3) (arg4.view.read (Elt F) X_arg4) (arg6.view.read (Elt F) X_arg6) (arg13.view.read (Elt F) X_arg13) (arg14.view.read (Elt F) X_arg14)) k)⌝) ∗ (∃ f, (arg9.view.loc (c : Thread nD τ) ↦[arg9.view.set]{fullShare} f) ∗ ⌜f = arg9.view.writes (Elt F) G_arg9 (upTo (pcMc i (arg3.view.read (Elt F) X_arg3) (arg4.view.read (Elt F) X_arg4) (arg13.view.read (Elt F) X_arg13)) k)⌝) ∗ (∃ f, (arg11.view.loc (c : Thread nD τ) ↦[arg11.view.set]{fullShare} f) ∗ ⌜f = arg11.view.writes (Elt F) G_arg11 (upTo (pcVc i (arg3.view.read (Elt F) X_arg3) (arg6.view.read (Elt F) X_arg6) (arg14.view.read (Elt F) X_arg14)) k)⌝) ∗ (∃ f, (arg15.view.loc (c : Thread nD τ) ↦[arg15.view.set]{fullShare} f) ∗ ⌜f = arg15.view.writes (Elt F) G_arg15 (upTo (pcMs i (arg3.view.read (Elt F) X_arg3) (arg4.view.read (Elt F) X_arg4) (arg13.view.read (Elt F) X_arg13)) k)⌝) ∗ (∃ f, (arg16.view.loc (c : Thread nD τ) ↦[arg16.view.set]{fullShare} f) ∗ ⌜f = arg16.view.writes (Elt F) G_arg16 (upTo (pcVs i (arg3.view.read (Elt F) X_arg3) (arg6.view.read (Elt F) X_arg6) (arg14.view.read (Elt F) X_arg14)) k)⌝))
  step k acc := by
    iintro ⟨HR_arg2, HR_arg3, HR_arg4, HR_arg6, HR_arg13, HR_arg14, ⟨%f_arg8, HW_arg8, %h_arg8⟩, ⟨%f_arg9, HW_arg9, %h_arg9⟩, ⟨%f_arg11, HW_arg11, %h_arg11⟩, ⟨%f_arg15, HW_arg15, %h_arg15⟩, ⟨%f_arg16, HW_arg16, %h_arg16⟩⟩
    iapply (wp_wand_r Idealize.ShloMosaic.frame (wpE (defs₀ (F := F)) 𝒱 (c : Thread nD τ) bd) E)
    isplitl [HR_arg2 HR_arg3 HR_arg4 HR_arg6 HR_arg13 HR_arg14 HW_arg8 HW_arg9 HW_arg11 HW_arg15 HW_arg16]
    · iapply (trip_run (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v10 X_arg2 X_arg3 X_arg4 X_arg6 X_arg13 X_arg14 f_arg8 f_arg9 f_arg11 f_arg15 f_arg16 k E)
      isplitl [HR_arg2]; · iexact HR_arg2
      isplitl [HR_arg3]; · iexact HR_arg3
      isplitl [HR_arg4]; · iexact HR_arg4
      isplitl [HR_arg6]; · iexact HR_arg6
      isplitl [HR_arg13]; · iexact HR_arg13
      isplitl [HR_arg14]; · iexact HR_arg14
      isplitl [HW_arg8]; · iexact HW_arg8
      isplitl [HW_arg9]; · iexact HW_arg9
      isplitl [HW_arg11]; · iexact HW_arg11
      isplitl [HW_arg15]; · iexact HW_arg15
      iexact HW_arg16
    · iintro %_ ⟨HR_arg2, HR_arg3, HR_arg4, HR_arg6, HR_arg13, HR_arg14, HW_arg8, HW_arg9, HW_arg11, HW_arg15, HW_arg16⟩
      rw [upTo_succ, upTo_succ, upTo_succ, upTo_succ, upTo_succ]
      isplitl [HR_arg2]; · iexact HR_arg2
      isplitl [HR_arg3]; · iexact HR_arg3
      isplitl [HR_arg4]; · iexact HR_arg4
      isplitl [HR_arg6]; · iexact HR_arg6
      isplitl [HR_arg13]; · iexact HR_arg13
      isplitl [HR_arg14]; · iexact HR_arg14
      isplitl [HW_arg8]
      · iexists _; isplitl [HW_arg8]; · iexact HW_arg8
        ipureintro; rw [h_arg8, ← View.writes_append]; rfl
      isplitl [HW_arg9]
      · iexists _; isplitl [HW_arg9]; · iexact HW_arg9
        ipureintro; rw [h_arg9, ← View.writes_append]; rfl
      isplitl [HW_arg11]
      · iexists _; isplitl [HW_arg11]; · iexact HW_arg11
        ipureintro; rw [h_arg11, ← View.writes_append]; rfl
      isplitl [HW_arg15]
      · iexists _; isplitl [HW_arg15]; · iexact HW_arg15
        ipureintro; rw [h_arg15, ← View.writes_append]; rfl
      iexists _; isplitl [HW_arg16]; · iexact HW_arg16
      ipureintro; rw [h_arg16, ← View.writes_append]; rfl

end Loop

end Cert.Kernel.Body

end
-- ==== Proof.Kernel.Geom.lean ====
/- Where the kernel body's stores lie, and what the buffers read after them: closed forms of the offsets and the
   conditions over the grid, the blocks assembled from the column loop's stores, and the scale rows moved between the
   [8, 5120] blocks and the [40, 8, 128] scratch. -/
module

public import proofs.«01_k».proof.Proof.Kernel.Loop
public import Idealize.ShloMosaic.Lib.Pipeline.Value

@[expose] public section

set_option maxRecDepth 8192

noncomputable section

namespace Cert.Kernel.Body

open Idealize.ShloMosaic
open Cert.Kernel.Gen Cert.Pieces

variable {F : FTy → Type} [FloatOps F]

/-! ## Closed forms -/

/-- The scale row of grid point `i` within its group of eight. -/
abbrev row (i : grid0.Coords) : ℕ := (i 0).val % 8

theorem trips_eq : k0_t1_loop.trips = 40 := by decide +kernel

theorem trips_lt (k : Fin k0_t1_loop.trips) : k.val < 40 := trips_eq ▸ k.isLt

theorem off1_eq : ∀ k : Fin k0_t1_loop.trips, k0_off1 k = ![0, 128 * k.val] := by decide +kernel

theorem coord_lt (i : grid0.Coords) : (i 0).val < 69 := (i 0).isLt

/-- The grid point `n`. -/
def pt (n : Fin 69) : grid0.Coords := fun | 0 => n

theorem eq_pt (i : grid0.Coords) : i = pt (i 0) := funext fun a => by fin_cases a; rfl

theorem off2_0 : ∀ k : Fin k0_t1_loop.trips, ∀ n : Fin 69,
    k0_off2 (pt n) k = ![k.val, n.val % 8, 0] := by decide +kernel

theorem off2_eq (i : grid0.Coords) (k : Fin k0_t1_loop.trips) : k0_off2 i k = ![k.val, row i, 0] := by
  have := off2_0 k (i 0)
  rw [← this]
  rw [← eq_pt]

/-- The body's row-zero condition: the point starts a group of eight grid points. -/
def cond1 (i : grid0.Coords) : BitVec 1 :=
  let arg0 : BitVec 32 := BitVec.ofNat 32 (i 0).val
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .ne (Scalar.extui (Scalar.cmpi .eq v9 0#32) : BitVec 32) 0#32

theorem cond1_iff (i : grid0.Coords) : cond1 i = 1#1 ↔ row i = 0 := by
  have h : ∀ n : Fin 69, (cond1 (pt n) = 1#1 ↔ n.val % 8 = 0) := by decide +kernel
  have := h (i 0)
  rwa [← eq_pt] at this

theorem cond2_iff (i : grid0.Coords) : k0_cond2 i = 1#1 ↔ row i = 7 ∨ (i 0).val = 68 := by
  have h : ∀ n : Fin 69, (k0_cond2 (pt n) = 1#1 ↔ n.val % 8 = 7 ∨ n.val = 68) := by decide +kernel
  have := h (i 0)
  rwa [← eq_pt] at this

/-! ## Indices -/

/-- The index `(a, b)` of a rank-2 shape. -/
abbrev ix2 {m n : ℕ} (a b : ℕ) (ha : a < m := by omega) (hb : b < n := by omega) : (⟨2, ![m, n]⟩ : Shape).Idx :=
  fun | 0 => ⟨a, ha⟩ | 1 => ⟨b, hb⟩

/-- The index `(a, b, c)` of a rank-3 shape. -/
abbrev ix3 {l m n : ℕ} (a b c : ℕ) (ha : a < l := by omega) (hb : b < m := by omega) (hc : c < n := by omega) :
    (⟨3, ![l, m, n]⟩ : Shape).Idx :=
  fun | 0 => ⟨a, ha⟩ | 1 => ⟨b, hb⟩ | 2 => ⟨c, hc⟩

theorem lt0 {m n : ℕ} (j : (⟨2, ![m, n]⟩ : Shape).Idx) : (j 0).val < m := (j 0).isLt
theorem lt1 {m n : ℕ} (j : (⟨2, ![m, n]⟩ : Shape).Idx) : (j 1).val < n := (j 1).isLt
theorem lt30 {l m n : ℕ} (j : (⟨3, ![l, m, n]⟩ : Shape).Idx) : (j 0).val < l := (j 0).isLt
theorem lt31 {l m n : ℕ} (j : (⟨3, ![l, m, n]⟩ : Shape).Idx) : (j 1).val < m := (j 1).isLt
theorem lt32 {l m n : ℕ} (j : (⟨3, ![l, m, n]⟩ : Shape).Idx) : (j 2).val < n := (j 2).isLt

theorem ext2 {m n : ℕ} {j j' : (⟨2, ![m, n]⟩ : Shape).Idx} (h0 : (j 0).val = (j' 0).val) (h1 : (j 1).val = (j' 1).val) :
    j = j' := funext fun a => by fin_cases a; exacts [Fin.ext h0, Fin.ext h1]

theorem ext3 {l m n : ℕ} {j j' : (⟨3, ![l, m, n]⟩ : Shape).Idx} (h0 : (j 0).val = (j' 0).val)
    (h1 : (j 1).val = (j' 1).val) (h2 : (j 2).val = (j' 2).val) :
    j = j' := funext fun a => by fin_cases a; exacts [Fin.ext h0, Fin.ext h1, Fin.ext h2]

/-- The column group of a column. -/
abbrev grp (n : ℕ) (h : n < 5120) : Fin k0_t1_loop.trips := ⟨n / 128, by rw [trips_eq]; omega⟩

/-! ## A block assembled from the trips' stores -/

/-- The block whose column group `k` is `W k`. -/
def asm {α : Type} (W : Fin k0_t1_loop.trips → S128x128.Idx → α) : S128x5120.Idx → α :=
  fun j => W (grp (j 1).val (lt1 j)) (ix2 (j 0).val ((j 1).val % 128) (lt0 j) (Nat.mod_lt _ (by decide)))

/-- The scratch whose scale row `r` of column group `k` is `W k`, every other row as in `x`. -/
def setRow {α : Type} (r : ℕ) (W : Fin k0_t1_loop.trips → S1x1x128.Idx → α) (x : S40x8x128.Idx → α) : S40x8x128.Idx → α :=
  fun j => if (j 1).val = r then W ⟨(j 0).val, lt_of_lt_of_eq (lt30 j) trips_eq.symm⟩ (ix3 0 0 (j 2).val (by decide) (by decide) (lt32 j)) else x j

section Reads

variable {sig : RefSig} {κ : Kind} {sp : Space} {e : EltTy} {Val : EltTy → Type}

/-- A block after the loop reads the block assembled from the trips' payloads, whatever it held before. -/
theorem read_cols (v : View sig κ sp S128x5120 e) (G : v.ty.Contents Val)
    (W : Fin k0_t1_loop.trips → S128x128.Idx → Val e) :
    v.read Val (v.writes Val G (upTo (fun k => (⟨colR k, W k⟩ : View.Piece Val S128x5120 e)) k0_t1_loop.trips)) = asm W := by
  funext j
  have e0 : ∀ (k : Fin k0_t1_loop.trips) (x : (colR k).shape.Idx), ((colR k).emb x 0).val = (x 0).val := fun k x => by
    show k0_off1 k 0 + 1 * (x 0).val = _; rw [off1_eq]; simp
  have e1 : ∀ (k : Fin k0_t1_loop.trips) (x : (colR k).shape.Idx), ((colR k).emb x 1).val = 128 * k.val + (x 1).val := fun k x => by
    show k0_off1 k 1 + 1 * (x 1).val = _; rw [off1_eq]; simp
  refine View.read_writes_apply_of_pieces v G (asm W) _ ?_ j ?_
  · intro p hp x
    obtain ⟨k, rfl⟩ := exists_of_mem_upTo _ _ hp
    have hx0 : (x 0).val < 128 := (x 0).isLt
    have hx1 : (x 1).val < 128 := (x 1).isLt
    have hk := trips_lt k
    have hg : grp ((colR k).emb x 1).val (lt1 _) = k := Fin.ext (by show ((colR k).emb x 1).val / 128 = _; rw [e1]; omega)
    show W k x = W (grp ((colR k).emb x 1).val (lt1 _)) _
    rw [hg]
    congr 1
    refine ext2 (m := 128) (n := 128) ?_ ?_
    · exact (e0 k x).symm
    · show (x 1).val = ((colR k).emb x 1).val % 128
      rw [e1]; omega
  · refine ⟨_, mem_upTo _ (grp (j 1).val (lt1 j)) _ (grp (j 1).val (lt1 j)).isLt, ?_⟩
    have h0 := lt0 j
    have h1 := lt1 j
    rw [Rect.mem_set_unit]
    intro a
    rw [off1_eq]
    fin_cases a
    · exact ⟨Nat.zero_le _, by show (j 0).val < 0 + 128; omega⟩
    · exact ⟨by show 128 * ((j 1).val / 128) ≤ (j 1).val; omega, by show (j 1).val < 128 * ((j 1).val / 128) + 128; omega⟩

/-- The scratch of new scales after the loop reads the trips' rows at the point's row, and elsewhere what it held. -/
theorem read_rows (i : grid0.Coords) (v : View sig κ sp S40x8x128 e) (G : v.ty.Contents Val)
    (W : Fin k0_t1_loop.trips → S1x1x128.Idx → Val e) :
    v.read Val (v.writes Val G (upTo (fun k => (⟨rowR i k, W k⟩ : View.Piece Val S40x8x128 e)) k0_t1_loop.trips))
      = setRow (row i) W (v.read Val G) := by
  funext j
  have e0 : ∀ (k : Fin k0_t1_loop.trips) (x : (rowR i k).shape.Idx), ((rowR i k).emb x 0).val = k.val := fun k x => by
    have : (x 0).val < 1 := (x 0).isLt
    show k0_off2 i k 0 + 1 * (x 0).val = _; rw [off2_eq]; simp; omega
  have e1 : ∀ (k : Fin k0_t1_loop.trips) (x : (rowR i k).shape.Idx), ((rowR i k).emb x 1).val = row i := fun k x => by
    have : (x 1).val < 1 := (x 1).isLt
    show k0_off2 i k 1 + 1 * (x 1).val = _; rw [off2_eq]; simp; omega
  have e2 : ∀ (k : Fin k0_t1_loop.trips) (x : (rowR i k).shape.Idx), ((rowR i k).emb x 2).val = (x 2).val := fun k x => by
    show k0_off2 i k 2 + 1 * (x 2).val = _; rw [off2_eq]; simp
  by_cases hj : (j 1).val = row i
  · refine View.read_writes_apply_of_pieces v G (setRow (row i) W (v.read Val G)) _ ?_ j ?_
    · intro p hp x
      obtain ⟨k, rfl⟩ := exists_of_mem_upTo _ _ hp
      have hx0 : (x 0).val < 1 := (x 0).isLt
      have hx1 : (x 1).val < 1 := (x 1).isLt
      show W k x = setRow (row i) W _ ((rowR i k).emb x)
      unfold setRow
      rw [if_pos (e1 k x)]
      have hg : (⟨((rowR i k).emb x 0).val, lt_of_lt_of_eq (lt30 _) trips_eq.symm⟩ : Fin k0_t1_loop.trips) = k := Fin.ext (e0 k x)
      rw [hg]
      congr 1
      refine ext3 (l := 1) (m := 1) (n := 128) ?_ ?_ (e2 k x).symm
      · show (x 0).val = 0; omega
      · show (x 1).val = 0; omega
    · refine ⟨_, mem_upTo _ ⟨(j 0).val, lt_of_lt_of_eq (lt30 j) trips_eq.symm⟩ _ (lt_of_lt_of_eq (lt30 j) trips_eq.symm), ?_⟩
      have h2 := lt32 j
      rw [Rect.mem_set_unit]
      intro a
      rw [off2_eq]
      fin_cases a
      · exact ⟨le_refl _, by show (j 0).val < (j 0).val + 1; omega⟩
      · exact ⟨by show row i ≤ (j 1).val; omega, by show (j 1).val < row i + 1; omega⟩
      · exact ⟨Nat.zero_le _, by show (j 2).val < 0 + 128; omega⟩
  · unfold setRow
    rw [if_neg hj]
    refine View.read_writes_apply_of_forall_not_mem v G j _ ?_
    intro p hp hmem
    obtain ⟨k, rfl⟩ := exists_of_mem_upTo _ _ hp
    obtain ⟨x, hx⟩ := (rowR i k).exists_idx_of_mem hmem
    exact hj (by rw [← hx]; exact e1 k x)

end Reads

/-! ## Scale rows in and out of the scratch -/

/-- An [8, 5120] block of scales laid out as 40 groups of 128 columns. -/
def stageIn {α : Type} (x : S8x5120.Idx → α) : S40x8x128.Idx → α :=
  fun j => x (ix2 (j 1).val (128 * (j 0).val + (j 2).val) (lt31 j)
    (by have := lt30 j; have := lt32 j; omega))

/-- 40 groups of 128 columns of scales laid out as an [8, 5120] block. -/
def stageOut {α : Type} (y : S40x8x128.Idx → α) : S8x5120.Idx → α :=
  fun j => y (ix3 ((j 1).val / 128) (j 0).val ((j 1).val % 128) (by have := lt1 j; omega) (lt0 j)
    (Nat.mod_lt _ (by decide)))

/-- The copy of column group `k` into the scratch, at an index. -/
theorem stage_in_piece {α : Type} (x : S8x5120.Idx → α) (k : ℕ) (hk : k < 40)
    (inb : ∀ a, (![0, 128 * k] : Fin 2 → ℕ) a + S8x128.size a ≤ S8x5120.size a)
    (inb' : ∀ a, (![k, 0, 0] : Fin 3 → ℕ) a + S1x8x128.size a ≤ S40x8x128.size a)
    (h : S8x128.ShapeCasts S1x8x128) (y : S1x8x128.Idx) :
    shapeCast S1x8x128 (fun z : S8x128.Idx => x ((Rect.unit (s := S8x5120) ![0, 128 * k] S8x128.size inb).idx z)) h y
      = stageIn x ((Rect.unit (s := S40x8x128) ![k, 0, 0] S1x8x128.size inb').emb y) := by
  have hy : (y 0).val < 1 := (y 0).isLt
  refine (shapeCast_addUnit_apply (n := 2) ![8, 128] _ h y).trans ?_
  unfold stageIn
  refine congrArg x (ext2 (m := 8) (n := 5120) ?_ ?_)
  · show 0 + 1 * (y 1).val = 0 + 1 * (y 1).val; rfl
  · show 128 * k + 1 * (y 2).val = 128 * (k + 1 * (y 0).val) + (0 + 1 * (y 2).val); omega

/-- The copy of column group `k` out of the scratch, at an index. -/
theorem stage_out_piece {α : Type} (x : S40x8x128.Idx → α) (k : ℕ) (hk : k < 40)
    (inb : ∀ a, (![0, 128 * k] : Fin 2 → ℕ) a + S8x128.size a ≤ S8x5120.size a)
    (inb' : ∀ a, (![k, 0, 0] : Fin 3 → ℕ) a + S1x8x128.size a ≤ S40x8x128.size a)
    (h : S1x8x128.ShapeCasts S8x128) (y : S8x128.Idx) :
    shapeCast S8x128 (fun z : S1x8x128.Idx => x ((Rect.unit (s := S40x8x128) ![k, 0, 0] S1x8x128.size inb').idx z)) h y
      = stageOut x ((Rect.unit (s := S8x5120) ![0, 128 * k] S8x128.size inb).emb y) := by
  have hy : (y 1).val < 128 := (y 1).isLt
  refine (shapeCast_dropUnit_apply (n := 2) ![8, 128] _ h y).trans ?_
  unfold stageOut
  refine congrArg x (ext3 (l := 40) (m := 8) (n := 128) ?_ ?_ ?_)
  · show k + 1 * 0 = (128 * k + 1 * (y 1).val) / 128; omega
  · show 0 + 1 * (y 0).val = 0 + 1 * (y 0).val; rfl
  · show 0 + 1 * (y 1).val = (128 * k + 1 * (y 1).val) % 128; omega

end Cert.Kernel.Body

end
-- ==== Proof.Kernel.Blocks.lean ====
/- What the kernel body computes at one grid point, as functions of the blocks it is handed and the scratch it holds. -/
module

public import proofs.«01_k».proof.Proof.Kernel.Geom

@[expose] public section

set_option maxRecDepth 8192

noncomputable section

namespace Cert.Kernel.Body

open Idealize.ShloMosaic
open Cert.Kernel.Gen Cert.Pieces

variable {F : FTy → Type} [FloatOps F]

/-- The step counter a one-word block holds. -/
def word (x1 : Vec F S1 .i32) : Elt F .i32 := x1 fun a => ⟨0, by fin_cases a; decide⟩

theorem word_eq (x1 : Vec F S1 .i32) (j : S1.Idx) : x1 j = word x1 :=
  congrArg x1 (funext fun a => by
    fin_cases a
    have : (j 0).val < 1 := (j 0).isLt
    exact Fin.ext (by show (j 0).val = 0; omega))

/-- The update block. -/
def dOf (i : grid0.Coords) (x1 : Vec F S1 .i32) (x2 : Vec F S128x5120 .f32) (x3 : Vec F S128x5120 .bf16)
    (x4 x6 : Vec F S128x5120 .i8) (x13 x14 : Vec F S40x8x128 .f32) : Vec F S128x5120 .f32 :=
  asm (tripD i (word x1) x2 x3 x4 x6 x13 x14)

/-- The block of first-moment codes. -/
def mcOf (i : grid0.Coords) (x3 : Vec F S128x5120 .bf16) (x4 : Vec F S128x5120 .i8) (x13 : Vec F S40x8x128 .f32) :
    Vec F S128x5120 .i8 :=
  asm fun k => k0_pay86 (tripM i x3 x4 x13 k)

/-- The block of second-moment codes. -/
def vcOf (i : grid0.Coords) (x3 : Vec F S128x5120 .bf16) (x6 : Vec F S128x5120 .i8) (x14 : Vec F S40x8x128 .f32) :
    Vec F S128x5120 .i8 :=
  asm fun k => k0_pay175 (tripV i x3 x6 x14 k) (k0_pay88 (tripV i x3 x6 x14 k)) (k0_pay89 (F := F))

/-- The scratch of first-moment scales after the point. -/
def msOf (i : grid0.Coords) (x3 : Vec F S128x5120 .bf16) (x4 : Vec F S128x5120 .i8) (x13 x15 : Vec F S40x8x128 .f32) :
    Vec F S40x8x128 .f32 :=
  setRow (row i) (fun k => k0_pay87 (tripM i x3 x4 x13 k)) x15

/-- The scratch of second-moment scales after the point. -/
def vsOf (i : grid0.Coords) (x3 : Vec F S128x5120 .bf16) (x6 : Vec F S128x5120 .i8) (x14 x16 : Vec F S40x8x128 .f32) :
    Vec F S40x8x128 .f32 :=
  setRow (row i) (fun k => k0_pay176 (k0_pay88 (tripV i x3 x6 x14 k))) x16

end Cert.Kernel.Body

end
-- ==== Proof.Kernel.BodyA.lean ====
/- The kernel body at the first point of a group: its run as a triple over the blocks and the scratch. -/
module

public import proofs.«01_k».proof.Proof.Gen.Kernel.Skeleton
public import proofs.«01_k».proof.Proof.Pieces
public import proofs.«01_k».proof.Proof.Kernel.Blocks
public import Idealize.ShloMosaic.Lib.Ring
public import Idealize.ShloMosaic.Lib.Exec
public import Idealize.ShloMosaic.Lib.Tactic
public import Idealize.ShloMosaic.Lib.Pipeline.Kit
public import Idealize.ShloMosaic.Lib.Pipeline.FrameBody

@[expose] public section

-- a region applies its sixteen memrefs and their facts in every statement
set_option maxRecDepth 8192
set_option maxHeartbeats 1000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Pieces

variable {F : FTy → Type} [FloatOps F]

local notation "𝕄G" => MT nD τ sig Unit (Elt F) ℕ (UR sig nD τ) ℕ

variable (𝒱 : Variants) (c : Dev nD) (bd : Option 𝒱.V) (i : grid0.Coords)
  (arg1 : Memref sig .tc .smem S1 .i32) (harg1 : arg1.IsWhole)
  (arg2 : Memref sig .tc .vmem S128x5120 .f32) (harg2 : arg2.IsWhole)
  (arg3 : Memref sig .tc .vmem S128x5120 .bf16) (harg3 : arg3.IsWhole)
  (arg4 : Memref sig .tc .vmem S128x5120 .i8) (harg4 : arg4.IsWhole)
  (arg5 : Memref sig .tc .vmem S8x5120 .f32) (harg5 : arg5.IsWhole)
  (arg6 : Memref sig .tc .vmem S128x5120 .i8) (harg6 : arg6.IsWhole)
  (arg7 : Memref sig .tc .vmem S8x5120 .f32) (harg7 : arg7.IsWhole)
  (arg8 : Memref sig .tc .vmem S128x5120 .f32) (harg8 : arg8.IsWhole)
  (arg9 : Memref sig .tc .vmem S128x5120 .i8) (harg9 : arg9.IsWhole)
  (arg10 : Memref sig .tc .vmem S8x5120 .f32) (harg10 : arg10.IsWhole)
  (arg11 : Memref sig .tc .vmem S128x5120 .i8) (harg11 : arg11.IsWhole)
  (arg12 : Memref sig .tc .vmem S8x5120 .f32) (harg12 : arg12.IsWhole)
  (arg13 : Memref sig .tc .vmem S40x8x128 .f32) (harg13 : arg13.IsWhole)
  (arg14 : Memref sig .tc .vmem S40x8x128 .f32) (harg14 : arg14.IsWhole)
  (arg15 : Memref sig .tc .vmem S40x8x128 .f32) (harg15 : arg15.IsWhole)
  (arg16 : Memref sig .tc .vmem S40x8x128 .f32) (harg16 : arg16.IsWhole)

/-- The run over the buffers' contents. -/
theorem runA_raw (h1 : cond1 i = 1#1) (h2 : ¬ k0_cond2 i = 1#1) (E : Set ℕ)
  (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare (View.read (Elt F) arg1.view f1) ∗ owns (c : Thread nD τ) arg2 fullShare (View.read (Elt F) arg2.view f2) ∗ owns (c : Thread nD τ) arg3 fullShare (View.read (Elt F) arg3.view f3) ∗ owns (c : Thread nD τ) arg4 fullShare (View.read (Elt F) arg4.view f4) ∗ owns (c : Thread nD τ) arg5 fullShare (View.read (Elt F) arg5.view f5) ∗ owns (c : Thread nD τ) arg6 fullShare (View.read (Elt F) arg6.view f6) ∗ owns (c : Thread nD τ) arg7 fullShare (View.read (Elt F) arg7.view f7) ∗ owns (c : Thread nD τ) arg8 fullShare (dOf i (View.read (Elt F) arg1.view f1) (View.read (Elt F) arg2.view f2) (View.read (Elt F) arg3.view f3) (View.read (Elt F) arg4.view f4) (View.read (Elt F) arg6.view f6) (stageIn (View.read (Elt F) arg5.view f5)) (stageIn (View.read (Elt F) arg7.view f7))) ∗ owns (c : Thread nD τ) arg9 fullShare (mcOf i (View.read (Elt F) arg3.view f3) (View.read (Elt F) arg4.view f4) (stageIn (View.read (Elt F) arg5.view f5))) ∗ owns (c : Thread nD τ) arg11 fullShare (vcOf i (View.read (Elt F) arg3.view f3) (View.read (Elt F) arg6.view f6) (stageIn (View.read (Elt F) arg7.view f7))) ∗ owns (c : Thread nD τ) arg13 fullShare (stageIn (View.read (Elt F) arg5.view f5)) ∗ owns (c : Thread nD τ) arg14 fullShare (stageIn (View.read (Elt F) arg7.view f7)) ∗ owns (c : Thread nD τ) arg15 fullShare (msOf i (View.read (Elt F) arg3.view f3) (View.read (Elt F) arg4.view f4) (stageIn (View.read (Elt F) arg5.view f5)) (View.read (Elt F) arg15.view f15)) ∗ owns (c : Thread nD τ) arg16 fullShare (vsOf i (View.read (Elt F) arg3.view f3) (View.read (Elt F) arg6.view f6) (stageIn (View.read (Elt F) arg7.view f7)) (View.read (Elt F) arg16.view f16)))) := by
  unfold owns
  iintro ⟨H1, H2, H3, H4, H5, H6, H7, H8, H9, H11, H13, H14, H15, H16⟩
  simp only [cc0_adamw8_eq_skeleton]; unfold cc0_adamw8_skel
  simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  sl_exec
  sl_step
  have hw : runA_raw.sl.r arg1 f1 = word (View.read (Elt F) arg1.view f1) := word_eq (F := F) (View.read (Elt F) arg1.view f1) _
  rw [hw]
  have s13 : View.read (Elt F) arg13.view (arg13.view.writes (Elt F) arg13.view.junk (runA_raw.sl.H13_40 arg5 f5)) = stageIn (View.read (Elt F) arg5.view f5) := by
    refine funext fun j => View.read_writes_apply_of_pieces arg13.view _ (stageIn (View.read (Elt F) arg5.view f5)) _ ?_ j (View.cover_of_tiledL (s := S40x8x128) _ S1x8x128.size (by sl_kernel_rfl) j)
    unfold runA_raw.sl.H13_40
    simp only [List.forall_mem_cons]
    exact ⟨fun y => stage_in_piece (View.read (Elt F) arg5.view f5) 39 (by decide) (by decide) (by decide) _ y, fun y => stage_in_piece (View.read (Elt F) arg5.view f5) 38 (by decide) (by decide) (by decide) _ y, fun y => stage_in_piece (View.read (Elt F) arg5.view f5) 37 (by decide) (by decide) (by decide) _ y, fun y => stage_in_piece (View.read (Elt F) arg5.view f5) 36 (by decide) (by decide) (by decide) _ y, fun y => stage_in_piece (View.read (Elt F) arg5.view f5) 35 (by decide) (by decide) (by decide) _ y, fun y => stage_in_piece (View.read (Elt F) arg5.view f5) 34 (by decide) (by decide) (by decide) _ y, fun y => stage_in_piece (View.read (Elt F) arg5.view f5) 33 (by decide) (by decide) (by decide) _ y, fun y => stage_in_piece (View.read (Elt F) arg5.view f5) 32 (by decide) (by decide) (by decide) _ y, fun y => stage_in_piece (View.read (Elt F) arg5.view f5) 31 (by decide) (by decide) (by decide) _ y, fun y => stage_in_piece (View.read (Elt F) arg5.view f5) 30 (by decide) (by decide) (by decide) _ y, fun y => stage_in_piece (View.read (Elt F) arg5.view f5) 29 (by decide) (by decide) (by decide) _ y, fun y => stage_in_piece (View.read (Elt F) arg5.view f5) 28 (by decide) (by decide) (by decide) _ y, fun y => stage_in_piece (View.read (Elt F) arg5.view f5) 27 (by decide) (by decide) (by decide) _ y, fun y => stage_in_piece (View.read (Elt F) arg5.view f5) 26 (by decide) (by decide) (by decide) _ y, fun y => stage_in_piece (View.read (Elt F) arg5.view f5) 25 (by decide) (by decide) (by decide) _ y, fun y => stage_in_piece (View.read (Elt F) arg5.view f5) 24 (by decide) (by decide) (by decide) _ y, fun y => stage_in_piece (View.read (Elt F) arg5.view f5) 23 (by decide) (by decide) (by decide) _ y, fun y => stage_in_piece (View.read (Elt F) arg5.view f5) 22 (by decide) (by decide) (by decide) _ y, fun y => stage_in_piece (View.read (Elt F) arg5.view f5) 21 (by decide) (by decide) (by decide) _ y, fun y => stage_in_piece (View.read (Elt F) arg5.view f5) 20 (by decide) (by decide) (by decide) _ y, fun y => stage_in_piece (View.read (Elt F) arg5.view f5) 19 (by decide) (by decide) (by decide) _ y, fun y => stage_in_piece (View.read (Elt F) arg5.view f5) 18 (by decide) (by decide) (by decide) _ y, fun y => stage_in_piece (View.read (Elt F) arg5.view f5) 17 (by decide) (by decide) (by decide) _ y, fun y => stage_in_piece (View.read (Elt F) arg5.view f5) 16 (by decide) (by decide) (by decide) _ y, fun y => stage_in_piece (View.read (Elt F) arg5.view f5) 15 (by decide) (by decide) (by decide) _ y, fun y => stage_in_piece (View.read (Elt F) arg5.view f5) 14 (by decide) (by decide) (by decide) _ y, fun y => stage_in_piece (View.read (Elt F) arg5.view f5) 13 (by decide) (by decide) (by decide) _ y, fun y => stage_in_piece (View.read (Elt F) arg5.view f5) 12 (by decide) (by decide) (by decide) _ y, fun y => stage_in_piece (View.read (Elt F) arg5.view f5) 11 (by decide) (by decide) (by decide) _ y, fun y => stage_in_piece (View.read (Elt F) arg5.view f5) 10 (by decide) (by decide) (by decide) _ y, fun y => stage_in_piece (View.read (Elt F) arg5.view f5) 9 (by decide) (by decide) (by decide) _ y, fun y => stage_in_piece (View.read (Elt F) arg5.view f5) 8 (by decide) (by decide) (by decide) _ y, fun y => stage_in_piece (View.read (Elt F) arg5.view f5) 7 (by decide) (by decide) (by decide) _ y, fun y => stage_in_piece (View.read (Elt F) arg5.view f5) 6 (by decide) (by decide) (by decide) _ y, fun y => stage_in_piece (View.read (Elt F) arg5.view f5) 5 (by decide) (by decide) (by decide) _ y, fun y => stage_in_piece (View.read (Elt F) arg5.view f5) 4 (by decide) (by decide) (by decide) _ y, fun y => stage_in_piece (View.read (Elt F) arg5.view f5) 3 (by decide) (by decide) (by decide) _ y, fun y => stage_in_piece (View.read (Elt F) arg5.view f5) 2 (by decide) (by decide) (by decide) _ y, fun y => stage_in_piece (View.read (Elt F) arg5.view f5) 1 (by decide) (by decide) (by decide) _ y, fun y => stage_in_piece (View.read (Elt F) arg5.view f5) 0 (by decide) (by decide) (by decide) _ y, List.forall_mem_nil _⟩
  have s14 : View.read (Elt F) arg14.view (arg14.view.writes (Elt F) arg14.view.junk (runA_raw.sl.H14_40 arg7 f7)) = stageIn (View.read (Elt F) arg7.view f7) := by
    refine funext fun j => View.read_writes_apply_of_pieces arg14.view _ (stageIn (View.read (Elt F) arg7.view f7)) _ ?_ j (View.cover_of_tiledL (s := S40x8x128) _ S1x8x128.size (by sl_kernel_rfl) j)
    unfold runA_raw.sl.H14_40
    simp only [List.forall_mem_cons]
    exact ⟨fun y => stage_in_piece (View.read (Elt F) arg7.view f7) 39 (by decide) (by decide) (by decide) _ y, fun y => stage_in_piece (View.read (Elt F) arg7.view f7) 38 (by decide) (by decide) (by decide) _ y, fun y => stage_in_piece (View.read (Elt F) arg7.view f7) 37 (by decide) (by decide) (by decide) _ y, fun y => stage_in_piece (View.read (Elt F) arg7.view f7) 36 (by decide) (by decide) (by decide) _ y, fun y => stage_in_piece (View.read (Elt F) arg7.view f7) 35 (by decide) (by decide) (by decide) _ y, fun y => stage_in_piece (View.read (Elt F) arg7.view f7) 34 (by decide) (by decide) (by decide) _ y, fun y => stage_in_piece (View.read (Elt F) arg7.view f7) 33 (by decide) (by decide) (by decide) _ y, fun y => stage_in_piece (View.read (Elt F) arg7.view f7) 32 (by decide) (by decide) (by decide) _ y, fun y => stage_in_piece (View.read (Elt F) arg7.view f7) 31 (by decide) (by decide) (by decide) _ y, fun y => stage_in_piece (View.read (Elt F) arg7.view f7) 30 (by decide) (by decide) (by decide) _ y, fun y => stage_in_piece (View.read (Elt F) arg7.view f7) 29 (by decide) (by decide) (by decide) _ y, fun y => stage_in_piece (View.read (Elt F) arg7.view f7) 28 (by decide) (by decide) (by decide) _ y, fun y => stage_in_piece (View.read (Elt F) arg7.view f7) 27 (by decide) (by decide) (by decide) _ y, fun y => stage_in_piece (View.read (Elt F) arg7.view f7) 26 (by decide) (by decide) (by decide) _ y, fun y => stage_in_piece (View.read (Elt F) arg7.view f7) 25 (by decide) (by decide) (by decide) _ y, fun y => stage_in_piece (View.read (Elt F) arg7.view f7) 24 (by decide) (by decide) (by decide) _ y, fun y => stage_in_piece (View.read (Elt F) arg7.view f7) 23 (by decide) (by decide) (by decide) _ y, fun y => stage_in_piece (View.read (Elt F) arg7.view f7) 22 (by decide) (by decide) (by decide) _ y, fun y => stage_in_piece (View.read (Elt F) arg7.view f7) 21 (by decide) (by decide) (by decide) _ y, fun y => stage_in_piece (View.read (Elt F) arg7.view f7) 20 (by decide) (by decide) (by decide) _ y, fun y => stage_in_piece (View.read (Elt F) arg7.view f7) 19 (by decide) (by decide) (by decide) _ y, fun y => stage_in_piece (View.read (Elt F) arg7.view f7) 18 (by decide) (by decide) (by decide) _ y, fun y => stage_in_piece (View.read (Elt F) arg7.view f7) 17 (by decide) (by decide) (by decide) _ y, fun y => stage_in_piece (View.read (Elt F) arg7.view f7) 16 (by decide) (by decide) (by decide) _ y, fun y => stage_in_piece (View.read (Elt F) arg7.view f7) 15 (by decide) (by decide) (by decide) _ y, fun y => stage_in_piece (View.read (Elt F) arg7.view f7) 14 (by decide) (by decide) (by decide) _ y, fun y => stage_in_piece (View.read (Elt F) arg7.view f7) 13 (by decide) (by decide) (by decide) _ y, fun y => stage_in_piece (View.read (Elt F) arg7.view f7) 12 (by decide) (by decide) (by decide) _ y, fun y => stage_in_piece (View.read (Elt F) arg7.view f7) 11 (by decide) (by decide) (by decide) _ y, fun y => stage_in_piece (View.read (Elt F) arg7.view f7) 10 (by decide) (by decide) (by decide) _ y, fun y => stage_in_piece (View.read (Elt F) arg7.view f7) 9 (by decide) (by decide) (by decide) _ y, fun y => stage_in_piece (View.read (Elt F) arg7.view f7) 8 (by decide) (by decide) (by decide) _ y, fun y => stage_in_piece (View.read (Elt F) arg7.view f7) 7 (by decide) (by decide) (by decide) _ y, fun y => stage_in_piece (View.read (Elt F) arg7.view f7) 6 (by decide) (by decide) (by decide) _ y, fun y => stage_in_piece (View.read (Elt F) arg7.view f7) 5 (by decide) (by decide) (by decide) _ y, fun y => stage_in_piece (View.read (Elt F) arg7.view f7) 4 (by decide) (by decide) (by decide) _ y, fun y => stage_in_piece (View.read (Elt F) arg7.view f7) 3 (by decide) (by decide) (by decide) _ y, fun y => stage_in_piece (View.read (Elt F) arg7.view f7) 2 (by decide) (by decide) (by decide) _ y, fun y => stage_in_piece (View.read (Elt F) arg7.view f7) 1 (by decide) (by decide) (by decide) _ y, fun y => stage_in_piece (View.read (Elt F) arg7.view f7) 0 (by decide) (by decide) (by decide) _ y, List.forall_mem_nil _⟩
  rw [s13, s14]
  isplitl [H1]
  · iexists _; isplitr
    rotate_left
    · iexact H1
    · ipureintro; rfl
  isplitl [H2]
  · iexists _; isplitr
    rotate_left
    · iexact H2
    · ipureintro; rfl
  isplitl [H3]
  · iexists _; isplitr
    rotate_left
    · iexact H3
    · ipureintro; rfl
  isplitl [H4]
  · iexists _; isplitr
    rotate_left
    · iexact H4
    · ipureintro; rfl
  isplitl [H5]
  · iexists _; isplitr
    rotate_left
    · iexact H5
    · ipureintro; rfl
  isplitl [H6]
  · iexists _; isplitr
    rotate_left
    · iexact H6
    · ipureintro; rfl
  isplitl [H7]
  · iexists _; isplitr
    rotate_left
    · iexact H7
    · ipureintro; rfl
  isplitl [H8]
  · iexists _; isplitr
    rotate_left
    · iexact H8
    · ipureintro; exact read_cols arg8.view f8 _
  isplitl [H9]
  · iexists _; isplitr
    rotate_left
    · iexact H9
    · ipureintro; exact read_cols arg9.view f9 _
  isplitl [H11]
  · iexists _; isplitr
    rotate_left
    · iexact H11
    · ipureintro; exact read_cols arg11.view f11 _
  isplitl [H13]
  · iexists _; isplitr
    rotate_left
    · iexact H13
    · ipureintro; exact s13
  isplitl [H14]
  · iexists _; isplitr
    rotate_left
    · iexact H14
    · ipureintro; exact s14
  isplitl [H15]
  · iexists _; isplitr
    rotate_left
    · iexact H15
    · ipureintro; exact read_rows i arg15.view f15 _
  iexists _; isplitr
  rotate_left
  · iexact H16
  · ipureintro; exact read_rows i arg16.view f16 _

/-- THE FIRST POINT OF A GROUP: the old scales of the group are laid out in the scratch, then the column loop runs on them. -/
theorem runA (h1 : cond1 i = 1#1) (h2 : ¬ k0_cond2 i = 1#1) (E : Set ℕ)
  (x1 : Vec F S1 .i32) (x2 : Vec F S128x5120 .f32) (x3 : Vec F S128x5120 .bf16) (x4 : Vec F S128x5120 .i8) (x5 : Vec F S8x5120 .f32) (x6 : Vec F S128x5120 .i8) (x7 : Vec F S8x5120 .f32) (x8 : Vec F S128x5120 .f32) (x9 : Vec F S128x5120 .i8) (x11 : Vec F S128x5120 .i8) (x13 : Vec F S40x8x128 .f32) (x14 : Vec F S40x8x128 .f32) (x15 : Vec F S40x8x128 .f32) (x16 : Vec F S40x8x128 .f32) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg13 fullShare x13 ∗ owns (c : Thread nD τ) arg14 fullShare x14 ∗ owns (c : Thread nD τ) arg15 fullShare x15 ∗ owns (c : Thread nD τ) arg16 fullShare x16 : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (dOf i x1 x2 x3 x4 x6 (stageIn x5) (stageIn x7)) ∗ owns (c : Thread nD τ) arg9 fullShare (mcOf i x3 x4 (stageIn x5)) ∗ owns (c : Thread nD τ) arg11 fullShare (vcOf i x3 x6 (stageIn x7)) ∗ owns (c : Thread nD τ) arg13 fullShare (stageIn x5) ∗ owns (c : Thread nD τ) arg14 fullShare (stageIn x7) ∗ owns (c : Thread nD τ) arg15 fullShare (msOf i x3 x4 (stageIn x5) x15) ∗ owns (c : Thread nD τ) arg16 fullShare (vsOf i x3 x6 (stageIn x7) x16))) := by
  have key := runA_raw (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 E
  unfold owns at key ⊢
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f13, %hf13, H13⟩, ⟨%f14, %hf14, H14⟩, ⟨%f15, %hf15, H15⟩, ⟨%f16, %hf16, H16⟩⟩
  subst hf1
  subst hf2
  subst hf3
  subst hf4
  subst hf5
  subst hf6
  subst hf7
  subst hf8
  subst hf9
  subst hf11
  subst hf13
  subst hf14
  subst hf15
  subst hf16
  iapply (key f1 f2 f3 f4 f5 f6 f7 f8 f9 f11 f13 f14 f15 f16)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H13]; · iexact H13
  isplitl [H14]; · iexact H14
  isplitl [H15]; · iexact H15
  iexact H16

end Cert.Kernel.Body

end
-- ==== Proof.Kernel.BodyB.lean ====
/- The kernel body at a point inside a group: its run as a triple over the blocks and the scratch. -/
module

public import proofs.«01_k».proof.Proof.Gen.Kernel.Skeleton
public import proofs.«01_k».proof.Proof.Pieces
public import proofs.«01_k».proof.Proof.Kernel.Blocks
public import Idealize.ShloMosaic.Lib.Ring
public import Idealize.ShloMosaic.Lib.Exec
public import Idealize.ShloMosaic.Lib.Tactic
public import Idealize.ShloMosaic.Lib.Pipeline.Kit
public import Idealize.ShloMosaic.Lib.Pipeline.FrameBody

@[expose] public section

-- a region applies its sixteen memrefs and their facts in every statement
set_option maxRecDepth 8192
set_option maxHeartbeats 1000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Pieces

variable {F : FTy → Type} [FloatOps F]

local notation "𝕄G" => MT nD τ sig Unit (Elt F) ℕ (UR sig nD τ) ℕ

variable (𝒱 : Variants) (c : Dev nD) (bd : Option 𝒱.V) (i : grid0.Coords)
  (arg1 : Memref sig .tc .smem S1 .i32) (harg1 : arg1.IsWhole)
  (arg2 : Memref sig .tc .vmem S128x5120 .f32) (harg2 : arg2.IsWhole)
  (arg3 : Memref sig .tc .vmem S128x5120 .bf16) (harg3 : arg3.IsWhole)
  (arg4 : Memref sig .tc .vmem S128x5120 .i8) (harg4 : arg4.IsWhole)
  (arg5 : Memref sig .tc .vmem S8x5120 .f32) (harg5 : arg5.IsWhole)
  (arg6 : Memref sig .tc .vmem S128x5120 .i8) (harg6 : arg6.IsWhole)
  (arg7 : Memref sig .tc .vmem S8x5120 .f32) (harg7 : arg7.IsWhole)
  (arg8 : Memref sig .tc .vmem S128x5120 .f32) (harg8 : arg8.IsWhole)
  (arg9 : Memref sig .tc .vmem S128x5120 .i8) (harg9 : arg9.IsWhole)
  (arg10 : Memref sig .tc .vmem S8x5120 .f32) (harg10 : arg10.IsWhole)
  (arg11 : Memref sig .tc .vmem S128x5120 .i8) (harg11 : arg11.IsWhole)
  (arg12 : Memref sig .tc .vmem S8x5120 .f32) (harg12 : arg12.IsWhole)
  (arg13 : Memref sig .tc .vmem S40x8x128 .f32) (harg13 : arg13.IsWhole)
  (arg14 : Memref sig .tc .vmem S40x8x128 .f32) (harg14 : arg14.IsWhole)
  (arg15 : Memref sig .tc .vmem S40x8x128 .f32) (harg15 : arg15.IsWhole)
  (arg16 : Memref sig .tc .vmem S40x8x128 .f32) (harg16 : arg16.IsWhole)

/-- The run over the buffers' contents. -/
theorem runB_raw (h1 : ¬ cond1 i = 1#1) (h2 : ¬ k0_cond2 i = 1#1) (E : Set ℕ)
  (f1 : BufTy.Contents (Elt F) arg1.view.ty) (f2 : BufTy.Contents (Elt F) arg2.view.ty) (f3 : BufTy.Contents (Elt F) arg3.view.ty) (f4 : BufTy.Contents (Elt F) arg4.view.ty) (f6 : BufTy.Contents (Elt F) arg6.view.ty) (f8 : BufTy.Contents (Elt F) arg8.view.ty) (f9 : BufTy.Contents (Elt F) arg9.view.ty) (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare (View.read (Elt F) arg1.view f1) ∗ owns (c : Thread nD τ) arg2 fullShare (View.read (Elt F) arg2.view f2) ∗ owns (c : Thread nD τ) arg3 fullShare (View.read (Elt F) arg3.view f3) ∗ owns (c : Thread nD τ) arg4 fullShare (View.read (Elt F) arg4.view f4) ∗ owns (c : Thread nD τ) arg6 fullShare (View.read (Elt F) arg6.view f6) ∗ owns (c : Thread nD τ) arg8 fullShare (dOf i (View.read (Elt F) arg1.view f1) (View.read (Elt F) arg2.view f2) (View.read (Elt F) arg3.view f3) (View.read (Elt F) arg4.view f4) (View.read (Elt F) arg6.view f6) (View.read (Elt F) arg13.view f13) (View.read (Elt F) arg14.view f14)) ∗ owns (c : Thread nD τ) arg9 fullShare (mcOf i (View.read (Elt F) arg3.view f3) (View.read (Elt F) arg4.view f4) (View.read (Elt F) arg13.view f13)) ∗ owns (c : Thread nD τ) arg11 fullShare (vcOf i (View.read (Elt F) arg3.view f3) (View.read (Elt F) arg6.view f6) (View.read (Elt F) arg14.view f14)) ∗ owns (c : Thread nD τ) arg13 fullShare (View.read (Elt F) arg13.view f13) ∗ owns (c : Thread nD τ) arg14 fullShare (View.read (Elt F) arg14.view f14) ∗ owns (c : Thread nD τ) arg15 fullShare (msOf i (View.read (Elt F) arg3.view f3) (View.read (Elt F) arg4.view f4) (View.read (Elt F) arg13.view f13) (View.read (Elt F) arg15.view f15)) ∗ owns (c : Thread nD τ) arg16 fullShare (vsOf i (View.read (Elt F) arg3.view f3) (View.read (Elt F) arg6.view f6) (View.read (Elt F) arg14.view f14) (View.read (Elt F) arg16.view f16)))) := by
  unfold owns
  iintro ⟨H1, H2, H3, H4, H6, H8, H9, H11, H13, H14, H15, H16⟩
  simp only [cc0_adamw8_eq_skeleton]; unfold cc0_adamw8_skel
  simp only [k0_part28_eq_skeleton]
  sl_exec
  sl_step
  have hw : runB_raw.sl.r arg1 f1 = word (View.read (Elt F) arg1.view f1) := word_eq (F := F) (View.read (Elt F) arg1.view f1) _
  rw [hw]
  isplitl [H1]
  · iexists _; isplitr
    rotate_left
    · iexact H1
    · ipureintro; rfl
  isplitl [H2]
  · iexists _; isplitr
    rotate_left
    · iexact H2
    · ipureintro; rfl
  isplitl [H3]
  · iexists _; isplitr
    rotate_left
    · iexact H3
    · ipureintro; rfl
  isplitl [H4]
  · iexists _; isplitr
    rotate_left
    · iexact H4
    · ipureintro; rfl
  isplitl [H6]
  · iexists _; isplitr
    rotate_left
    · iexact H6
    · ipureintro; rfl
  isplitl [H8]
  · iexists _; isplitr
    rotate_left
    · iexact H8
    · ipureintro; exact read_cols arg8.view f8 _
  isplitl [H9]
  · iexists _; isplitr
    rotate_left
    · iexact H9
    · ipureintro; exact read_cols arg9.view f9 _
  isplitl [H11]
  · iexists _; isplitr
    rotate_left
    · iexact H11
    · ipureintro; exact read_cols arg11.view f11 _
  isplitl [H13]
  · iexists _; isplitr
    rotate_left
    · iexact H13
    · ipureintro; rfl
  isplitl [H14]
  · iexists _; isplitr
    rotate_left
    · iexact H14
    · ipureintro; rfl
  isplitl [H15]
  · iexists _; isplitr
    rotate_left
    · iexact H15
    · ipureintro; exact read_rows i arg15.view f15 _
  iexists _; isplitr
  rotate_left
  · iexact H16
  · ipureintro; exact read_rows i arg16.view f16 _

/-- A POINT INSIDE A GROUP: the column loop runs on the scratch as it stands. -/
theorem runB (h1 : ¬ cond1 i = 1#1) (h2 : ¬ k0_cond2 i = 1#1) (E : Set ℕ)
  (x1 : Vec F S1 .i32) (x2 : Vec F S128x5120 .f32) (x3 : Vec F S128x5120 .bf16) (x4 : Vec F S128x5120 .i8) (x6 : Vec F S128x5120 .i8) (x8 : Vec F S128x5120 .f32) (x9 : Vec F S128x5120 .i8) (x11 : Vec F S128x5120 .i8) (x13 : Vec F S40x8x128 .f32) (x14 : Vec F S40x8x128 .f32) (x15 : Vec F S40x8x128 .f32) (x16 : Vec F S40x8x128 .f32) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg8 fullShare x8 ∗ owns (c : Thread nD τ) arg9 fullShare x9 ∗ owns (c : Thread nD τ) arg11 fullShare x11 ∗ owns (c : Thread nD τ) arg13 fullShare x13 ∗ owns (c : Thread nD τ) arg14 fullShare x14 ∗ owns (c : Thread nD τ) arg15 fullShare x15 ∗ owns (c : Thread nD τ) arg16 fullShare x16 : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg8 fullShare (dOf i x1 x2 x3 x4 x6 x13 x14) ∗ owns (c : Thread nD τ) arg9 fullShare (mcOf i x3 x4 x13) ∗ owns (c : Thread nD τ) arg11 fullShare (vcOf i x3 x6 x14) ∗ owns (c : Thread nD τ) arg13 fullShare x13 ∗ owns (c : Thread nD τ) arg14 fullShare x14 ∗ owns (c : Thread nD τ) arg15 fullShare (msOf i x3 x4 x13 x15) ∗ owns (c : Thread nD τ) arg16 fullShare (vsOf i x3 x6 x14 x16))) := by
  have key := runB_raw (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 E
  unfold owns at key ⊢
  iintro ⟨⟨%f1, %hf1, H1⟩, ⟨%f2, %hf2, H2⟩, ⟨%f3, %hf3, H3⟩, ⟨%f4, %hf4, H4⟩, ⟨%f6, %hf6, H6⟩, ⟨%f8, %hf8, H8⟩, ⟨%f9, %hf9, H9⟩, ⟨%f11, %hf11, H11⟩, ⟨%f13, %hf13, H13⟩, ⟨%f14, %hf14, H14⟩, ⟨%f15, %hf15, H15⟩, ⟨%f16, %hf16, H16⟩⟩
  subst hf1
  subst hf2
  subst hf3
  subst hf4
  subst hf6
  subst hf8
  subst hf9
  subst hf11
  subst hf13
  subst hf14
  subst hf15
  subst hf16
  iapply (key f1 f2 f3 f4 f6 f8 f9 f11 f13 f14 f15 f16)
  isplitl [H1]; · iexact H1
  isplitl [H2]; · iexact H2
  isplitl [H3]; · iexact H3
  isplitl [H4]; · iexact H4
  isplitl [H6]; · iexact H6
  isplitl [H8]; · iexact H8
  isplitl [H9]; · iexact H9
  isplitl [H11]; · iexact H11
  isplitl [H13]; · iexact H13
  isplitl [H14]; · iexact H14
  isplitl [H15]; · iexact H15
  iexact H16

end Cert.Kernel.Body

end
-- ==== Proof.Kernel.BodyC.lean ====
/- The kernel body at the last point of a group: its run as a triple over the blocks and the scratch. -/
module

public import proofs.«01_k».proof.Proof.Gen.Kernel.Skeleton
public import proofs.«01_k».proof.Proof.Pieces
public import proofs.«01_k».proof.Proof.Kernel.Blocks
public import Idealize.ShloMosaic.Lib.Ring
public import Idealize.ShloMosaic.Lib.Exec
public import Idealize.ShloMosaic.Lib.Tactic
public import Idealize.ShloMosaic.Lib.Pipeline.Kit
public import Idealize.ShloMosaic.Lib.Pipeline.FrameBody

@[expose] public section

-- a region applies its sixteen memrefs and their facts in every statement
set_option maxRecDepth 8192
set_option maxHeartbeats 1000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Pieces

variable {F : FTy → Type} [FloatOps F]

local notation "𝕄G" => MT nD τ sig Unit (Elt F) ℕ (UR sig nD τ) ℕ

variable (𝒱 : Variants) (c : Dev nD) (bd : Option 𝒱.V) (i : grid0.Coords)
  (arg1 : Memref sig .tc .smem S1 .i32) (harg1 : arg1.IsWhole)
  (arg2 : Memref sig .tc .vmem S128x5120 .f32) (harg2 : arg2.IsWhole)
  (arg3 : Memref sig .tc .vmem S128x5120 .bf16) (harg3 : arg3.IsWhole)
  (arg4 : Memref sig .tc .vmem S128x5120 .i8) (harg4 : arg4.IsWhole)
  (arg5 : Memref sig .tc .vmem S8x5120 .f32) (harg5 : arg5.IsWhole)
  (arg6 : Memref sig .tc .vmem S128x5120 .i8) (harg6 : arg6.IsWhole)
  (arg7 : Memref sig .tc .vmem S8x5120 .f32) (harg7 : arg7.IsWhole)
  (arg8 : Memref sig .tc .vmem S128x5120 .f32) (harg8 : arg8.IsWhole)
  (arg9 : Memref sig .tc .vmem S128x5120 .i8) (harg9 : arg9.IsWhole)
  (arg10 : Memref sig .tc .vmem S8x5120 .f32) (harg10 : arg10.IsWhole)
  (arg11 : Memref sig .tc .vmem S128x5120 .i8) (harg11 : arg11.IsWhole)
  (arg12 : Memref sig .tc .vmem S8x5120 .f32) (harg12 : arg12.IsWhole)
  (arg13 : Memref sig .tc .vmem S40x8x128 .f32) (harg13 : arg13.IsWhole)
  (arg14 : Memref sig .tc .vmem S40x8x128 .f32) (harg14 : arg14.IsWhole)
  (arg15 : Memref sig .tc .vmem S40x8x128 .f32) (harg15 : arg15.IsWhole)
  (arg16 : Memref sig .tc .vmem S40x8x128 .f32) (harg16 : arg16.IsWhole)

/-- The run over the buffers' contents. -/
theorem runC_raw (h1 : ¬ cond1 i = 1#1) (h2 : k0_cond2 i = 1#1) (E : Set ℕ)
  (f1 : BufTy.Contents (Elt F) arg1.view.ty) (f2 : BufTy.Contents (Elt F) arg2.view.ty) (f3 : BufTy.Contents (Elt F) arg3.view.ty) (f4 : BufTy.Contents (Elt F) arg4.view.ty) (f6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare (View.read (Elt F) arg1.view f1) ∗ owns (c : Thread nD τ) arg2 fullShare (View.read (Elt F) arg2.view f2) ∗ owns (c : Thread nD τ) arg3 fullShare (View.read (Elt F) arg3.view f3) ∗ owns (c : Thread nD τ) arg4 fullShare (View.read (Elt F) arg4.view f4) ∗ owns (c : Thread nD τ) arg6 fullShare (View.read (Elt F) arg6.view f6) ∗ owns (c : Thread nD τ) arg8 fullShare (dOf i (View.read (Elt F) arg1.view f1) (View.read (Elt F) arg2.view f2) (View.read (Elt F) arg3.view f3) (View.read (Elt F) arg4.view f4) (View.read (Elt F) arg6.view f6) (View.read (Elt F) arg13.view f13) (View.read (Elt F) arg14.view f14)) ∗ owns (c : Thread nD τ) arg9 fullShare (mcOf i (View.read (Elt F) arg3.view f3) (View.read (Elt F) arg4.view f4) (View.read (Elt F) arg13.view f13)) ∗ owns (c : Thread nD τ) arg10 fullShare (stageOut (msOf i (View.read (Elt F) arg3.view f3) (View.read (Elt F) arg4.view f4) (View.read (Elt F) arg13.view f13) (View.read (Elt F) arg15.view f15))) ∗ owns (c : Thread nD τ) arg11 fullShare (vcOf i (View.read (Elt F) arg3.view f3) (View.read (Elt F) arg6.view f6) (View.read (Elt F) arg14.view f14)) ∗ owns (c : Thread nD τ) arg12 fullShare (stageOut (vsOf i (View.read (Elt F) arg3.view f3) (View.read (Elt F) arg6.view f6) (View.read (Elt F) arg14.view f14) (View.read (Elt F) arg16.view f16))) ∗ owns (c : Thread nD τ) arg13 fullShare (View.read (Elt F) arg13.view f13) ∗ owns (c : Thread nD τ) arg14 fullShare (View.read (Elt F) arg14.view f14) ∗ owns (c : Thread nD τ) arg15 fullShare (msOf i (View.read (Elt F) arg3.view f3) (View.read (Elt F) arg4.view f4) (View.read (Elt F) arg13.view f13) (View.read (Elt F) arg15.view f15)) ∗ owns (c : Thread nD τ) arg16 fullShare (vsOf i (View.read (Elt F) arg3.view f3) (View.read (Elt F) arg6.view f6) (View.read (Elt F) arg14.view f14) (View.read (Elt F) arg16.view f16)))) := by
  unfold owns
  iintro ⟨H1, H2, H3, H4, H6, H8, H9, H10, H11, H12, H13, H14, H15, H16⟩
  simp only [cc0_adamw8_eq_skeleton]; unfold cc0_adamw8_skel
  simp only [k0_part28_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  sl_exec
  sl_step
  have hw : runC_raw.sl.r arg1 f1 = word (View.read (Elt F) arg1.view f1) := word_eq (F := F) (View.read (Elt F) arg1.view f1) _
  rw [hw]
  isplitl [H1]
  · iexists _; isplitr
    rotate_left
    · iexact H1
    · ipureintro; rfl
  isplitl [H2]
  · iexists _; isplitr
    rotate_left
    · iexact H2
    · ipureintro; rfl
  isplitl [H3]
  · iexists _; isplitr
    rotate_left
    · iexact H3
    · ipureintro; rfl
  isplitl [H4]
  · iexists _; isplitr
    rotate_left
    · iexact H4
    · ipureintro; rfl
  isplitl [H6]
  · iexists _; isplitr
    rotate_left
    · iexact H6
    · ipureintro; rfl
  isplitl [H8]
  · iexists _; isplitr
    rotate_left
    · iexact H8
    · ipureintro; exact read_cols arg8.view f8 _
  isplitl [H9]
  · iexists _; isplitr
    rotate_left
    · iexact H9
    · ipureintro; exact read_cols arg9.view f9 _
  isplitl [H10]
  · iexists _; isplitr
    rotate_left
    · iexact H10
    · ipureintro; refine funext fun j => (View.read_writes_apply_of_pieces arg10.view _ (stageOut (msOf i (View.read (Elt F) arg3.view f3) (View.read (Elt F) arg4.view f4) (View.read (Elt F) arg13.view f13) (View.read (Elt F) arg15.view f15))) _ ?_ j (View.cover_of_tiledL (s := S8x5120) _ S8x128.size (by sl_kernel_rfl) j))
      rw [show msOf i (View.read (Elt F) arg3.view f3) (View.read (Elt F) arg4.view f4) (View.read (Elt F) arg13.view f13) (View.read (Elt F) arg15.view f15) = _ from (read_rows i arg15.view f15 _).symm]
      simp only [List.forall_mem_cons]
      exact ⟨fun y => stage_out_piece (View.read (Elt F) arg15.view (arg15.view.writes (Elt F) f15 (upTo (pcMs i (View.read (Elt F) arg3.view f3) (View.read (Elt F) arg4.view f4) (View.read (Elt F) arg13.view f13)) k0_t1_loop.trips))) 39 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 38 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 37 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 36 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 35 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 34 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 33 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 32 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 31 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 30 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 29 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 28 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 27 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 26 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 25 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 24 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 23 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 22 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 21 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 20 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 19 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 18 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 17 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 16 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 15 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 14 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 13 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 12 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 11 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 10 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 9 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 8 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 7 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 6 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 5 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 4 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 3 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 2 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 1 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 0 (by decide) (by decide) (by decide) _ y, List.forall_mem_nil _⟩
  isplitl [H11]
  · iexists _; isplitr
    rotate_left
    · iexact H11
    · ipureintro; exact read_cols arg11.view f11 _
  isplitl [H12]
  · iexists _; isplitr
    rotate_left
    · iexact H12
    · ipureintro; refine funext fun j => (View.read_writes_apply_of_pieces arg12.view _ (stageOut (vsOf i (View.read (Elt F) arg3.view f3) (View.read (Elt F) arg6.view f6) (View.read (Elt F) arg14.view f14) (View.read (Elt F) arg16.view f16))) _ ?_ j (View.cover_of_tiledL (s := S8x5120) _ S8x128.size (by sl_kernel_rfl) j))
      rw [show vsOf i (View.read (Elt F) arg3.view f3) (View.read (Elt F) arg6.view f6) (View.read (Elt F) arg14.view f14) (View.read (Elt F) arg16.view f16) = _ from (read_rows i arg16.view f16 _).symm]
      simp only [List.forall_mem_cons]
      exact ⟨fun y => stage_out_piece (View.read (Elt F) arg16.view (arg16.view.writes (Elt F) f16 (upTo (pcVs i (View.read (Elt F) arg3.view f3) (View.read (Elt F) arg6.view f6) (View.read (Elt F) arg14.view f14)) k0_t1_loop.trips))) 39 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 38 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 37 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 36 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 35 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 34 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 33 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 32 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 31 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 30 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 29 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 28 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 27 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 26 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 25 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 24 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 23 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 22 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 21 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 20 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 19 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 18 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 17 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 16 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 15 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 14 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 13 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 12 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 11 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 10 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 9 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 8 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 7 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 6 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 5 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 4 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 3 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 2 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 1 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 0 (by decide) (by decide) (by decide) _ y, List.forall_mem_nil _⟩
  isplitl [H13]
  · iexists _; isplitr
    rotate_left
    · iexact H13
    · ipureintro; rfl
  isplitl [H14]
  · iexists _; isplitr
    rotate_left
    · iexact H14
    · ipureintro; rfl
  isplitl [H15]
  · iexists _; isplitr
    rotate_left
    · iexact H15
    · ipureintro; exact read_rows i arg15.view f15 _
  iexists _; isplitr
  rotate_left
  · iexact H16
  · ipureintro; exact read_rows i arg16.view f16 _

/-- THE LAST POINT OF A GROUP: the column loop runs, then the new scales of the group go out to the blocks. -/
theorem runC (h1 : ¬ cond1 i = 1#1) (h2 : k0_cond2 i = 1#1) (E : Set ℕ)
  (x1 : Vec F S1 .i32) (x2 : Vec F S128x5120 .f32) (x3 : Vec F S128x5120 .bf16) (x4 : Vec F S128x5120 .i8) (x6 : Vec F S128x5120 .i8) (x8 : Vec F S128x5120 .f32) (x9 : Vec F S128x5120 .i8) (x10 : Vec F S8x5120 .f32) (x11 : Vec F S128x5120 .i8) (x12 : Vec F S8x5120 .f32) (x13 : Vec F S40x8x128 .f32) (x14 : Vec F S40x8x128 .f32) (x15 : Vec F S40x8x128 .f32) (x16 : Vec F S40x8x128 .f32) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg8 fullShare (dOf i x1 x2 x3 x4 x6 x13 x14) ∗ owns (c : Thread nD τ) arg9 fullShare (mcOf i x3 x4 x13) ∗ owns (c : Thread nD τ) arg10 fullShare (stageOut (msOf i x3 x4 x13 x15)) ∗ owns (c : Thread nD τ) arg11 fullShare (vcOf i x3 x6 x14) ∗ owns (c : Thread nD τ) arg12 fullShare (stageOut (vsOf i x3 x6 x14 x16)) ∗ owns (c : Thread nD τ) arg13 fullShare x13 ∗ owns (c : Thread nD τ) arg14 fullShare x14 ∗ owns (c : Thread nD τ) arg15 fullShare (msOf i x3 x4 x13 x15) ∗ owns (c : Thread nD τ) arg16 fullShare (vsOf i x3 x6 x14 x16))) := by
  have key := runC_raw (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 E
  unfold owns at key ⊢
  iintro ⟨⟨%f1, %hf1, H1⟩, ⟨%f2, %hf2, H2⟩, ⟨%f3, %hf3, H3⟩, ⟨%f4, %hf4, H4⟩, ⟨%f6, %hf6, H6⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩
  subst hf1
  subst hf2
  subst hf3
  subst hf4
  subst hf6
  subst hf8
  subst hf9
  subst hf10
  subst hf11
  subst hf12
  subst hf13
  subst hf14
  subst hf15
  subst hf16
  iapply (key f1 f2 f3 f4 f6 f8 f9 f10 f11 f12 f13 f14 f15 f16)
  isplitl [H1]; · iexact H1
  isplitl [H2]; · iexact H2
  isplitl [H3]; · iexact H3
  isplitl [H4]; · iexact H4
  isplitl [H6]; · iexact H6
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.Kernel.Body

end
-- ==== Proof.Kernel.Run.lean ====
/- The kernel body at any grid point: the three cases in one triple. -/
module

public import proofs.«01_k».proof.Proof.Gen.Kernel.Skeleton
public import proofs.«01_k».proof.Proof.Pieces
public import proofs.«01_k».proof.Proof.Kernel.BodyA
public import proofs.«01_k».proof.Proof.Kernel.BodyB
public import proofs.«01_k».proof.Proof.Kernel.BodyC
public import Idealize.ShloMosaic.Lib.Exec
public import Idealize.ShloMosaic.Lib.Tactic
public import Idealize.ShloMosaic.Lib.Pipeline.Kit
public import Idealize.ShloMosaic.Lib.Pipeline.FrameBody

@[expose] public section

-- a region applies its sixteen memrefs and their facts in every statement
set_option maxRecDepth 8192
set_option maxHeartbeats 1000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen Cert.Pieces

variable {F : FTy → Type} [FloatOps F]

local notation "𝕄G" => MT nD τ sig Unit (Elt F) ℕ (UR sig nD τ) ℕ

/-- The scratch of old scales a point works on: at a group's first point the block of scales laid out in column groups,
    else the scratch as it stands. -/
def in13 (i : grid0.Coords) (x : Vec F S8x5120 .f32) (y : Vec F S40x8x128 .f32) : Vec F S40x8x128 .f32 :=
  if row i = 0 then stageIn x else y

/-- The block of new scales a point leaves: at a group's last point the scratch of new scales, else the block as it stood. -/
def out10 (i : grid0.Coords) (y : Vec F S40x8x128 .f32) (x : Vec F S8x5120 .f32) : Vec F S8x5120 .f32 :=
  if k0_cond2 i = 1#1 then stageOut y else x

variable (𝒱 : Variants) (c : Dev nD) (bd : Option 𝒱.V) (i : grid0.Coords)
  (arg1 : Memref sig .tc .smem S1 .i32) (harg1 : arg1.IsWhole)
  (arg2 : Memref sig .tc .vmem S128x5120 .f32) (harg2 : arg2.IsWhole)
  (arg3 : Memref sig .tc .vmem S128x5120 .bf16) (harg3 : arg3.IsWhole)
  (arg4 : Memref sig .tc .vmem S128x5120 .i8) (harg4 : arg4.IsWhole)
  (arg5 : Memref sig .tc .vmem S8x5120 .f32) (harg5 : arg5.IsWhole)
  (arg6 : Memref sig .tc .vmem S128x5120 .i8) (harg6 : arg6.IsWhole)
  (arg7 : Memref sig .tc .vmem S8x5120 .f32) (harg7 : arg7.IsWhole)
  (arg8 : Memref sig .tc .vmem S128x5120 .f32) (harg8 : arg8.IsWhole)
  (arg9 : Memref sig .tc .vmem S128x5120 .i8) (harg9 : arg9.IsWhole)
  (arg10 : Memref sig .tc .vmem S8x5120 .f32) (harg10 : arg10.IsWhole)
  (arg11 : Memref sig .tc .vmem S128x5120 .i8) (harg11 : arg11.IsWhole)
  (arg12 : Memref sig .tc .vmem S8x5120 .f32) (harg12 : arg12.IsWhole)
  (arg13 : Memref sig .tc .vmem S40x8x128 .f32) (harg13 : arg13.IsWhole)
  (arg14 : Memref sig .tc .vmem S40x8x128 .f32) (harg14 : arg14.IsWhole)
  (arg15 : Memref sig .tc .vmem S40x8x128 .f32) (harg15 : arg15.IsWhole)
  (arg16 : Memref sig .tc .vmem S40x8x128 .f32) (harg16 : arg16.IsWhole)

/-- ONE GRID POINT of the kernel body over all its blocks and scratch buffers. -/
theorem run (E : Set ℕ)
  (x1 : Vec F S1 .i32) (x2 : Vec F S128x5120 .f32) (x3 : Vec F S128x5120 .bf16) (x4 : Vec F S128x5120 .i8) (x5 : Vec F S8x5120 .f32) (x6 : Vec F S128x5120 .i8) (x7 : Vec F S8x5120 .f32) (x8 : Vec F S128x5120 .f32) (x9 : Vec F S128x5120 .i8) (x10 : Vec F S8x5120 .f32) (x11 : Vec F S128x5120 .i8) (x12 : Vec F S8x5120 .f32) (x13 : Vec F S40x8x128 .f32) (x14 : Vec F S40x8x128 .f32) (x15 : Vec F S40x8x128 .f32) (x16 : Vec F S40x8x128 .f32) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (dOf i x1 x2 x3 x4 x6 (in13 i x5 x13) (in13 i x7 x14)) ∗ owns (c : Thread nD τ) arg9 fullShare (mcOf i x3 x4 (in13 i x5 x13)) ∗ owns (c : Thread nD τ) arg10 fullShare (out10 i (msOf i x3 x4 (in13 i x5 x13) x15) x10) ∗ owns (c : Thread nD τ) arg11 fullShare (vcOf i x3 x6 (in13 i x7 x14)) ∗ owns (c : Thread nD τ) arg12 fullShare (out10 i (vsOf i x3 x6 (in13 i x7 x14) x16) x12) ∗ owns (c : Thread nD τ) arg13 fullShare (in13 i x5 x13) ∗ owns (c : Thread nD τ) arg14 fullShare (in13 i x7 x14) ∗ owns (c : Thread nD τ) arg15 fullShare (msOf i x3 x4 (in13 i x5 x13) x15) ∗ owns (c : Thread nD τ) arg16 fullShare (vsOf i x3 x6 (in13 i x7 x14) x16))) := by
  have hdisj : row i = 0 → ¬ k0_cond2 i = 1#1 := fun h0 h => by
    rcases (cond2_iff i).mp h with h | h
    · omega
    · rw [show row i = (i 0).val % 8 from rfl, h] at h0; exact absurd h0 (by decide)
  unfold in13 out10
  iintro ⟨H1, H2, H3, H4, H5, H6, H7, H8, H9, H10, H11, H12, H13, H14, H15, H16⟩
  by_cases h1 : row i = 0
  · have h2 := hdisj h1
    simp only [if_pos h1, if_neg h2]
    iapply (wp_wand_r Idealize.ShloMosaic.frame (wpE (defs₀ (F := F)) 𝒱 (c : Thread nD τ) bd) E)
    isplitl [H1 H2 H3 H4 H5 H6 H7 H8 H9 H11 H13 H14 H15 H16]
    · iapply (runA (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 ((cond1_iff i).mpr h1) h2 E x1 x2 x3 x4 x5 x6 x7 x8 x9 x11 x13 x14 x15 x16)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexact H11
      isplitl [H13]; · iexact H13
      isplitl [H14]; · iexact H14
      isplitl [H15]; · iexact H15
      iexact H16
    · iintro %_ ⟨H1, H2, H3, H4, H5, H6, H7, H8, H9, H11, H13, H14, H15, H16⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
  by_cases h2 : k0_cond2 i = 1#1
  · simp only [if_neg h1, if_pos h2]
    iapply (wp_wand_r Idealize.ShloMosaic.frame (wpE (defs₀ (F := F)) 𝒱 (c : Thread nD τ) bd) E)
    isplitl [H1 H2 H3 H4 H6 H8 H9 H10 H11 H12 H13 H14 H15 H16]
    · iapply (runC (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (fun h => h1 ((cond1_iff i).mp h)) h2 E x1 x2 x3 x4 x6 x8 x9 x10 x11 x12 x13 x14 x15 x16)
      isplitl [H1]; · iexact H1
      isplitl [H2]; · iexact H2
      isplitl [H3]; · iexact H3
      isplitl [H4]; · iexact H4
      isplitl [H6]; · iexact H6
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · iintro %_ ⟨H1, H2, H3, H4, H6, H8, H9, H10, H11, H12, H13, H14, H15, H16⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
  · simp only [if_neg h1, if_neg h2]
    iapply (wp_wand_r Idealize.ShloMosaic.frame (wpE (defs₀ (F := F)) 𝒱 (c : Thread nD τ) bd) E)
    isplitl [H1 H2 H3 H4 H6 H8 H9 H11 H13 H14 H15 H16]
    · iapply (runB (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (fun h => h1 ((cond1_iff i).mp h)) h2 E x1 x2 x3 x4 x6 x8 x9 x11 x13 x14 x15 x16)
      isplitl [H1]; · iexact H1
      isplitl [H2]; · iexact H2
      isplitl [H3]; · iexact H3
      isplitl [H4]; · iexact H4
      isplitl [H6]; · iexact H6
      isplitl [H8]; · iexact H8
      isplitl [H9]; · iexact H9
      isplitl [H11]; · iexact H11
      isplitl [H13]; · iexact H13
      isplitl [H14]; · iexact H14
      isplitl [H15]; · iexact H15
      iexact H16
    · iintro %_ ⟨H1, H2, H3, H4, H6, H8, H9, H11, H13, H14, H15, H16⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16

end Cert.Kernel.Body

end
-- ==== Proof.Kernel.Values.lean ====
/- What the whole arrays hold, block by block, and what the four scratch buffers hold from one grid point to the next. -/
module

public import proofs.«01_k».proof.Proof.Kernel.Run

@[expose] public section

set_option maxRecDepth 8192

noncomputable section

namespace Cert.Kernel.Body

open Idealize.ShloMosaic
open Cert.Kernel.Gen Cert.Pieces

variable {F : FTy → Type} [FloatOps F]

/-! ## Blocks of whole arrays -/

/-- Rows `128 n … 128 n + 127` of an array. -/
def rowsAt {α : Type} (X : S8832x5120.Idx → α) (n : ℕ) (hn : n < 69) : S128x5120.Idx → α :=
  fun j => X (ix2 (128 * n + (j 0).val) (j 1).val (by have := lt0 j; omega) (lt1 j))

/-- Row `n` of an array of scales, laid out as 40 groups of 128 columns, the same in each of the eight rows. -/
def scaleRow {α : Type} (S : S69x5120.Idx → α) (n : ℕ) (hn : n < 69) : S40x8x128.Idx → α :=
  fun j => S (ix2 n (128 * (j 0).val + (j 2).val) hn (by have := lt30 j; have := lt32 j; omega))

/-- A trip reads the scratch of old scales at the grid point's row only. -/
theorem ld_congr (i : grid0.Coords) {y y' : Vec F S40x8x128 .f32} (h : ∀ j, (j 1).val = row i → y j = y' j)
    (k : Fin k0_t1_loop.trips) : View.ld y (rowR i k) = View.ld y' (rowR i k) := by
  funext z
  refine h _ ?_
  have : (z 1).val < 1 := (z 1).isLt
  show k0_off2 i k 1 + 1 * (z 1).val = _; rw [off2_eq]; simp; omega

/-- The new first moment of block `n`, column group `k`, of whole arrays. -/
def wholeM (G : Vec F S8832x5120 .bf16) (MC : Vec F S8832x5120 .i8) (MS : Vec F S69x5120 .f32) (n : Fin 69)
    (k : Fin k0_t1_loop.trips) : FVec F S128x128 .f32 :=
  tripM (pt n) (rowsAt G n.val n.isLt) (rowsAt MC n.val n.isLt) (scaleRow MS n.val n.isLt) k

/-- The new second moment of block `n`, column group `k`, of whole arrays. -/
def wholeV (G : Vec F S8832x5120 .bf16) (VC : Vec F S8832x5120 .i8) (VS : Vec F S69x5120 .f32) (n : Fin 69)
    (k : Fin k0_t1_loop.trips) : FVec F S128x128 .f32 :=
  tripV (pt n) (rowsAt G n.val n.isLt) (rowsAt VC n.val n.isLt) (scaleRow VS n.val n.isLt) k

/-- The update of block `n`, column group `k`, of whole arrays. -/
def wholeD (T : Elt F .i32) (P : Vec F S8832x5120 .f32) (G : Vec F S8832x5120 .bf16) (MC VC : Vec F S8832x5120 .i8)
    (MS VS : Vec F S69x5120 .f32) (n : Fin 69) (k : Fin k0_t1_loop.trips) : FVec F S128x128 .f32 :=
  tripD (pt n) T (rowsAt P n.val n.isLt) (rowsAt G n.val n.isLt) (rowsAt MC n.val n.isLt) (rowsAt VC n.val n.isLt)
    (scaleRow MS n.val n.isLt) (scaleRow VS n.val n.isLt) k

/-- An array put together from blocks of 128 rows and groups of 128 columns. -/
def asmAll {α : Type} (W : Fin 69 → Fin k0_t1_loop.trips → S128x128.Idx → α) : S8832x5120.Idx → α :=
  fun j => W ⟨(j 0).val / 128, by have := lt0 j; omega⟩ (grp (j 1).val (lt1 j))
    (ix2 ((j 0).val % 128) ((j 1).val % 128) (Nat.mod_lt _ (by decide)) (Nat.mod_lt _ (by decide)))

/-- An array of scales put together from rows and groups of 128 columns. -/
def asmScales {α : Type} (W : Fin 69 → Fin k0_t1_loop.trips → S1x1x128.Idx → α) : S69x5120.Idx → α :=
  fun j => W ⟨(j 0).val, lt0 j⟩ (grp (j 1).val (lt1 j))
    (ix3 0 0 ((j 1).val % 128) (by decide) (by decide) (Nat.mod_lt _ (by decide)))

/-- Block `n` of an array put together from blocks is block `n`. -/
theorem rowsAt_asmAll {α : Type} (W : Fin 69 → Fin k0_t1_loop.trips → S128x128.Idx → α) (n : Fin 69) :
    rowsAt (asmAll W) n.val n.isLt = asm (W n) := by
  funext j
  have h0 := lt0 j
  have hn := n.isLt
  have e : (⟨(128 * n.val + (j 0).val) / 128, by omega⟩ : Fin 69) = n := Fin.ext (by show _ / 128 = _; omega)
  show W ⟨(128 * n.val + (j 0).val) / 128, _⟩ _ _ = W n _ _
  rw [e]
  refine congrArg (W n _) (ext2 (m := 128) (n := 128) ?_ rfl)
  show (128 * n.val + (j 0).val) % 128 = (j 0).val
  omega

/-- The new update array. -/
def newD (T : Elt F .i32) (P : Vec F S8832x5120 .f32) (G : Vec F S8832x5120 .bf16) (MC VC : Vec F S8832x5120 .i8)
    (MS VS : Vec F S69x5120 .f32) : Vec F S8832x5120 .f32 := asmAll (wholeD T P G MC VC MS VS)

/-- The new codes of the first moment. -/
def newMc (G : Vec F S8832x5120 .bf16) (MC : Vec F S8832x5120 .i8) (MS : Vec F S69x5120 .f32) : Vec F S8832x5120 .i8 :=
  asmAll fun n k => k0_pay86 (wholeM G MC MS n k)

/-- The new codes of the second moment. -/
def newVc (G : Vec F S8832x5120 .bf16) (VC : Vec F S8832x5120 .i8) (VS : Vec F S69x5120 .f32) : Vec F S8832x5120 .i8 :=
  asmAll fun n k => k0_pay175 (wholeV G VC VS n k) (k0_pay88 (wholeV G VC VS n k)) (k0_pay89 (F := F))

/-- The new scales of the first moment. -/
def newMs (G : Vec F S8832x5120 .bf16) (MC : Vec F S8832x5120 .i8) (MS : Vec F S69x5120 .f32) : Vec F S69x5120 .f32 :=
  asmScales fun n k => k0_pay87 (wholeM G MC MS n k)

/-- The new scales of the second moment. -/
def newVs (G : Vec F S8832x5120 .bf16) (VC : Vec F S8832x5120 .i8) (VS : Vec F S69x5120 .f32) : Vec F S69x5120 .f32 :=
  asmScales fun n k => k0_pay176 (k0_pay88 (wholeV G VC VS n k))

/-! ## One grid point on blocks of whole arrays -/

section Point

variable (n : Fin 69) (T : Elt F .i32) (x1 : Vec F S1 .i32) (P : Vec F S8832x5120 .f32) (G : Vec F S8832x5120 .bf16)
  (MC VC : Vec F S8832x5120 .i8) (MS VS : Vec F S69x5120 .f32) (y y' : Vec F S40x8x128 .f32)

theorem tripM_eq (h : ∀ j, (j 1).val = row (pt n) → y j = scaleRow MS n.val n.isLt j) :
    tripM (pt n) (rowsAt G n.val n.isLt) (rowsAt MC n.val n.isLt) y = wholeM G MC MS n :=
  funext fun k => by unfold tripM wholeM tripM; rw [ld_congr _ h]

theorem tripV_eq (h : ∀ j, (j 1).val = row (pt n) → y' j = scaleRow VS n.val n.isLt j) :
    tripV (pt n) (rowsAt G n.val n.isLt) (rowsAt VC n.val n.isLt) y' = wholeV G VC VS n :=
  funext fun k => by unfold tripV wholeV tripV; rw [ld_congr _ h]

theorem tripD_eq (h : ∀ j, (j 1).val = row (pt n) → y j = scaleRow MS n.val n.isLt j)
    (h' : ∀ j, (j 1).val = row (pt n) → y' j = scaleRow VS n.val n.isLt j) :
    tripD (pt n) T (rowsAt P n.val n.isLt) (rowsAt G n.val n.isLt) (rowsAt MC n.val n.isLt) (rowsAt VC n.val n.isLt) y y'
      = wholeD T P G MC VC MS VS n :=
  funext fun k => by unfold tripD wholeD tripD; rw [ld_congr _ h, ld_congr _ h']

end Point

/-! ## The scratch from point to point -/

/-- BEFORE POINT `n`, for one moment, `S` its array of old scales and `N` of new: inside a group of eight points the
    scratch `y` holds the group's old scales, and the scratch `y'` holds the new scales of the group's earlier points. -/
structure Inv (S N : Vec F S69x5120 .f32) (n : ℕ) (y y' : Vec F S40x8x128 .f32) : Prop where
  old : n % 8 ≠ 0 → ∀ (j : S40x8x128.Idx) (h : 8 * (n / 8) + (j 1).val < 69),
    y j = S (ix2 (8 * (n / 8) + (j 1).val) (128 * (j 0).val + (j 2).val) h (by have := lt30 j; have := lt32 j; omega))
  new : ∀ (j : S40x8x128.Idx) (h : 8 * (n / 8) + (j 1).val < 69), (j 1).val < n % 8 →
    y' j = N (ix2 (8 * (n / 8) + (j 1).val) (128 * (j 0).val + (j 2).val) h (by have := lt30 j; have := lt32 j; omega))

section Step

variable {S N : Vec F S69x5120 .f32} {n : Fin 69} {x : Vec F S8x5120 .f32} {y y' : Vec F S40x8x128 .f32}

/-- A group's block of old scales, on the rows inside the array. -/
def Held (S : Vec F S69x5120 .f32) (n : ℕ) (x : Vec F S8x5120 .f32) : Prop :=
  ∀ (j : S8x5120.Idx) (h : 8 * (n / 8) + (j 0).val < 69), x j = S (ix2 (8 * (n / 8) + (j 0).val) (j 1).val h (lt1 j))

/-- The scratch a point works on holds the group's old scales. -/
theorem Inv.in_eq (hI : Inv S N n.val y y') (hx : Held S n.val x) (j : S40x8x128.Idx)
    (h : 8 * (n.val / 8) + (j 1).val < 69) : in13 (pt n) x y j
      = S (ix2 (8 * (n.val / 8) + (j 1).val) (128 * (j 0).val + (j 2).val) h (by have := lt30 j; have := lt32 j; omega)) := by
  unfold in13
  split
  · unfold stageIn
    exact hx (ix2 (j 1).val (128 * (j 0).val + (j 2).val) (lt31 j) (by have := lt30 j; have := lt32 j; omega)) h
  · next hr => exact hI.old hr j h

/-- At the point's own row it holds the point's old scales. -/
theorem Inv.agree (hI : Inv S N n.val y y') (hx : Held S n.val x) (j : S40x8x128.Idx) (hj : (j 1).val = row (pt n)) :
    in13 (pt n) x y j = scaleRow S n.val n.isLt j := by
  have hj' : (j 1).val = n.val % 8 := hj
  have hn := n.isLt
  rw [hI.in_eq hx j (by omega)]
  unfold scaleRow
  refine congrArg S (ext2 (m := 69) (n := 5120) ?_ rfl)
  show 8 * (n.val / 8) + (j 1).val = n.val
  omega

/-- The rows of new scales up to the point's own, after the point. -/
theorem Inv.out (hI : Inv S N n.val y y') (W : Fin 69 → Fin k0_t1_loop.trips → S1x1x128.Idx → Elt F .f32)
    (hW : asmScales W = N) (j : S40x8x128.Idx) (h : 8 * (n.val / 8) + (j 1).val < 69) (hj : (j 1).val ≤ n.val % 8) :
    setRow (row (pt n)) (W n) y' j
      = N (ix2 (8 * (n.val / 8) + (j 1).val) (128 * (j 0).val + (j 2).val) h (by have := lt30 j; have := lt32 j; omega)) := by
  have h0 : (j 0).val < 40 := lt30 j
  have h2 : (j 2).val < 128 := lt32 j
  unfold setRow
  split
  · next hr =>
    have hr' : (j 1).val = n.val % 8 := hr
    rw [← hW]
    unfold asmScales
    have e : (⟨8 * (n.val / 8) + (j 1).val, h⟩ : Fin 69) = n := Fin.ext (by show _ + _ = _; omega)
    have e' : (⟨(j 0).val, lt_of_lt_of_eq (lt30 j) trips_eq.symm⟩ : Fin k0_t1_loop.trips)
        = grp (128 * (j 0).val + (j 2).val) (by omega) :=
      Fin.ext (by show (j 0).val = (128 * (j 0).val + (j 2).val) / 128; omega)
    show W n _ _ = W ⟨8 * (n.val / 8) + (j 1).val, h⟩ (grp (128 * (j 0).val + (j 2).val) (by omega)) _
    rw [e, e']
    refine congrArg (W n _) (ext3 (l := 1) (m := 1) (n := 128) rfl rfl ?_)
    show (j 2).val = (128 * (j 0).val + (j 2).val) % 128
    omega
  · next hr =>
    have hr' : ¬ (j 1).val = n.val % 8 := hr
    exact hI.new j h (by omega)

/-- ONE POINT keeps the invariant. -/
theorem Inv.step (hI : Inv S N n.val y y') (hx : Held S n.val x)
    (W : Fin 69 → Fin k0_t1_loop.trips → S1x1x128.Idx → Elt F .f32) (hW : asmScales W = N) :
    Inv S N (n.val + 1) (in13 (pt n) x y) (setRow (row (pt n)) (W n) y') where
  old hr j h := by
    have e : (n.val + 1) / 8 = n.val / 8 := by omega
    refine (hI.in_eq hx j (by omega)).trans (congrArg S (ext2 (m := 69) (n := 5120) ?_ rfl))
    show 8 * (n.val / 8) + (j 1).val = 8 * ((n.val + 1) / 8) + (j 1).val
    rw [e]
  new j h hj := by
    have e : (n.val + 1) / 8 = n.val / 8 := by omega
    refine (hI.out W hW j (by omega) (by omega)).trans (congrArg N (ext2 (m := 69) (n := 5120) ?_ rfl))
    show 8 * (n.val / 8) + (j 1).val = 8 * ((n.val + 1) / 8) + (j 1).val
    rw [e]

/-- At a group's last point the block written out holds the group's new scales, on the rows inside the array. -/
theorem Inv.held (hI : Inv S N n.val y y') (W : Fin 69 → Fin k0_t1_loop.trips → S1x1x128.Idx → Elt F .f32)
    (hW : asmScales W = N) (hc : k0_cond2 (pt n) = 1#1) : Held N n.val (stageOut (setRow (row (pt n)) (W n) y')) := by
  intro j h
  have h0 := lt0 j
  have h1 := lt1 j
  have hn := n.isLt
  have hr : n.val % 8 = 7 ∨ n.val = 68 := (cond2_iff (pt n)).mp hc
  unfold stageOut
  rw [hI.out W hW _ (by show 8 * (n.val / 8) + (j 0).val < 69; exact h) (by show (j 0).val ≤ _; omega)]
  refine congrArg N (ext2 (m := 69) (n := 5120) rfl ?_)
  show 128 * ((j 1).val / 128) + (j 1).val % 128 = (j 1).val
  omega

/-- Before the first point nothing is asked of the scratch. -/
theorem Inv.zero (S N : Vec F S69x5120 .f32) (y y' : Vec F S40x8x128 .f32) : Inv S N 0 y y' where
  old h := absurd rfl h
  new j h hj := absurd hj (Nat.not_lt_zero _)

end Step

end Cert.Kernel.Body

end
-- ==== Proof.Kernel.Blks.lean ====
/- The windows' blocks as the pipeline stages them, read off the whole arrays. -/
module

public import proofs.«01_k».proof.Proof.Kernel.Values
public import proofs.«01_k».proof.Proof.Gen.Kernel.Frame

@[expose] public section

set_option maxRecDepth 8192

noncomputable section

namespace Cert.Kernel.Body

open Idealize.ShloMosaic Idealize.ShloMosaic.TcCoe
open Cert.Kernel.Gen Cert.Pieces

variable {F : FTy → Type} [FloatOps F]

/-- A grid point as a number below 69. -/
@[irreducible] def num (t : Fin cfg0.N) : Fin 69 := ⟨t.val, t.isLt⟩

theorem num_val (t : Fin cfg0.N) : (num t).val = t.val := by unfold num; rfl

theorem coords_val : ∀ t : Fin cfg0.N, (grid0.coords t 0).val = t.val := by decide +kernel

theorem coords_eq (t : Fin cfg0.N) : grid0.coords t = pt (num t) := by
  rw [eq_pt (grid0.coords t)]
  exact congrArg pt (Fin.ext ((coords_val t).trans (num_val t).symm))

theorem idx_1 : ∀ n : Fin 69, cc0_transform_1 (pt n) = ![n.val, 0] := by decide +kernel
theorem idx_2 : ∀ n : Fin 69, cc0_transform_2 (pt n) = ![n.val, 0] := by decide +kernel
theorem idx_3 : ∀ n : Fin 69, cc0_transform_3 (pt n) = ![n.val, 0] := by decide +kernel
theorem idx_4 : ∀ n : Fin 69, cc0_transform_4 (pt n) = ![n.val / 8, 0] := by decide +kernel
theorem idx_5 : ∀ n : Fin 69, cc0_transform_5 (pt n) = ![n.val, 0] := by decide +kernel
theorem idx_6 : ∀ n : Fin 69, cc0_transform_6 (pt n) = ![n.val / 8, 0] := by decide +kernel
theorem idx_7 : ∀ n : Fin 69, cc0_transform_7 (pt n) = ![n.val, 0] := by decide +kernel
theorem idx_8 : ∀ n : Fin 69, cc0_transform_8 (pt n) = ![n.val, 0] := by decide +kernel
theorem idx_9 : ∀ n : Fin 69, cc0_transform_9 (pt n) = ![n.val / 8, 0] := by decide +kernel
theorem idx_10 : ∀ n : Fin 69, cc0_transform_10 (pt n) = ![n.val, 0] := by decide +kernel
theorem idx_11 : ∀ n : Fin 69, cc0_transform_11 (pt n) = ![n.val / 8, 0] := by decide +kernel

/-- A block of 128 rows at a grid point, at an index. -/
theorem emb_1 (t : Fin cfg0.N) (y : S128x5120.Idx) : (win0_1.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_1 (grid0.coords t) 0 * 128 + 1 * (y 0).val = 128 * (num t).val + (y 0).val
    rw [coords_eq, idx_1]; show (num t).val * 128 + _ = _; omega
  · show cc0_transform_1 (grid0.coords t) 1 * 5120 + 1 * (y 1).val = (y 1).val
    rw [coords_eq, idx_1]; show 0 * 5120 + _ = _; omega

/-- A block of 128 rows at a grid point, at an index. -/
theorem emb_2 (t : Fin cfg0.N) (y : S128x5120.Idx) : (win0_2.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_2 (grid0.coords t) 0 * 128 + 1 * (y 0).val = 128 * (num t).val + (y 0).val
    rw [coords_eq, idx_2]; show (num t).val * 128 + _ = _; omega
  · show cc0_transform_2 (grid0.coords t) 1 * 5120 + 1 * (y 1).val = (y 1).val
    rw [coords_eq, idx_2]; show 0 * 5120 + _ = _; omega

/-- A block of 128 rows at a grid point, at an index. -/
theorem emb_3 (t : Fin cfg0.N) (y : S128x5120.Idx) : (win0_3.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_3 (grid0.coords t) 0 * 128 + 1 * (y 0).val = 128 * (num t).val + (y 0).val
    rw [coords_eq, idx_3]; show (num t).val * 128 + _ = _; omega
  · show cc0_transform_3 (grid0.coords t) 1 * 5120 + 1 * (y 1).val = (y 1).val
    rw [coords_eq, idx_3]; show 0 * 5120 + _ = _; omega

/-- A block of 128 rows at a grid point, at an index. -/
theorem emb_5 (t : Fin cfg0.N) (y : S128x5120.Idx) : (win0_5.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_5 (grid0.coords t) 0 * 128 + 1 * (y 0).val = 128 * (num t).val + (y 0).val
    rw [coords_eq, idx_5]; show (num t).val * 128 + _ = _; omega
  · show cc0_transform_5 (grid0.coords t) 1 * 5120 + 1 * (y 1).val = (y 1).val
    rw [coords_eq, idx_5]; show 0 * 5120 + _ = _; omega

/-- A block of 128 rows at a grid point, at an index. -/
theorem emb_7 (t : Fin cfg0.N) (y : S128x5120.Idx) : (win0_7.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_7 (grid0.coords t) 0 * 128 + 1 * (y 0).val = 128 * (num t).val + (y 0).val
    rw [coords_eq, idx_7]; show (num t).val * 128 + _ = _; omega
  · show cc0_transform_7 (grid0.coords t) 1 * 5120 + 1 * (y 1).val = (y 1).val
    rw [coords_eq, idx_7]; show 0 * 5120 + _ = _; omega

/-- A block of 128 rows at a grid point, at an index. -/
theorem emb_8 (t : Fin cfg0.N) (y : S128x5120.Idx) : (win0_8.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_8 (grid0.coords t) 0 * 128 + 1 * (y 0).val = 128 * (num t).val + (y 0).val
    rw [coords_eq, idx_8]; show (num t).val * 128 + _ = _; omega
  · show cc0_transform_8 (grid0.coords t) 1 * 5120 + 1 * (y 1).val = (y 1).val
    rw [coords_eq, idx_8]; show 0 * 5120 + _ = _; omega

/-- A block of 128 rows at a grid point, at an index. -/
theorem emb_10 (t : Fin cfg0.N) (y : S128x5120.Idx) : (win0_10.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_10 (grid0.coords t) 0 * 128 + 1 * (y 0).val = 128 * (num t).val + (y 0).val
    rw [coords_eq, idx_10]; show (num t).val * 128 + _ = _; omega
  · show cc0_transform_10 (grid0.coords t) 1 * 5120 + 1 * (y 1).val = (y 1).val
    rw [coords_eq, idx_10]; show 0 * 5120 + _ = _; omega

theorem xsize_4 : ∀ n : Fin 69, win0_4.xsize (pt n) = ![min 8 (69 - 8 * (n.val / 8)), 5120] := by decide +kernel

theorem xsize_4_0 (t : Fin cfg0.N) :
    win0_4.xsize (grid0.coords t) (0 : Fin 2) = min 8 (69 - 8 * ((num t).val / 8)) := by
  rw [coords_eq]; exact congrFun (xsize_4 (num t)) (0 : Fin 2)

theorem xsize_4_1 (t : Fin cfg0.N) : win0_4.xsize (grid0.coords t) (1 : Fin 2) = 5120 := by
  rw [coords_eq]; exact congrFun (xsize_4 (num t)) (1 : Fin 2)

theorem lt_4_0 (t : Fin cfg0.N) (y : (win0_4.xblock (grid0.coords t)).Idx) :
    8 * ((num t).val / 8) + (y (0 : Fin 2)).val < 69 := by
  have h0 : (y (0 : Fin 2)).val < _ := lt_of_lt_of_eq (y (0 : Fin 2)).isLt (xsize_4_0 t)
  exact Nat.add_lt_of_lt_sub' (lt_of_lt_of_le h0 (Nat.min_le_right _ _))

theorem lt_4_1 (t : Fin cfg0.N) (y : (win0_4.xblock (grid0.coords t)).Idx) : (y (1 : Fin 2)).val < 5120 :=
  lt_of_lt_of_eq (y (1 : Fin 2)).isLt (xsize_4_1 t)

/-- A block of eight rows of scales at a grid point, at an index inside the array. -/
theorem emb_4 (t : Fin cfg0.N) (y : (win0_4.xblock (grid0.coords t)).Idx) : (win0_4.blk t).view.emb y
    = ix2 (m := 69) (n := 5120) (8 * ((num t).val / 8) + (y (0 : Fin 2)).val) (y (1 : Fin 2)).val (lt_4_0 t y) (lt_4_1 t y) := by
  have e0 : cc0_transform_4 (grid0.coords t) 0 = (num t).val / 8 := by rw [coords_eq]; exact congrFun (idx_4 (num t)) 0
  have e1 : cc0_transform_4 (grid0.coords t) 1 = 0 := by rw [coords_eq]; exact congrFun (idx_4 (num t)) 1
  refine ext2 (m := 69) (n := 5120) ?_ ?_
  · show cc0_transform_4 (grid0.coords t) 0 * 8 + 1 * (y (0 : Fin 2)).val = 8 * ((num t).val / 8) + (y (0 : Fin 2)).val
    rw [e0]; generalize (y (0 : Fin 2)).val = a; omega
  · show cc0_transform_4 (grid0.coords t) 1 * 5120 + 1 * (y (1 : Fin 2)).val = (y (1 : Fin 2)).val
    rw [e1]; generalize (y (1 : Fin 2)).val = a; omega

/-- An index of the block of scales on the rows inside the array is one the transfer moves. -/
theorem moved_4 (t : Fin cfg0.N) (j : S8x5120.Idx) (h : 8 * ((num t).val / 8) + (j 0).val < 69) :
    win0_4.moved (grid0.coords t) j = true := by
  have h0 : (j 0).val < 8 := lt0 j
  have h1 : (j 1).val < 5120 := lt1 j
  refine (win0_4.moved_iff _ _).mpr fun a => ?_
  have key : ∀ a : Fin 2, (j a).val < win0_4.xsize (grid0.coords t) a := by
    rw [Fin.forall_fin_two]
    refine ⟨lt_of_lt_of_eq ?_ (xsize_4_0 t).symm, lt_of_lt_of_eq h1 (xsize_4_1 t).symm⟩
    generalize (j 0).val = a at *
    omega
  exact key a

/-- Whatever fills it past the array's end, the staged block of scales holds the group's rows. -/
theorem held_4 (S : Vec F S69x5120 .f32) (t : Fin cfg0.N) (d : S8x5120.Idx → Elt F .f32)
    (g : (win0_4.xblock (grid0.coords t)).Idx → Elt F .f32) (hg : ∀ y, g y = S ((win0_4.blk t).view.emb y)) :
    Held S (num t).val (win0_4.fill (grid0.coords t) d g) := by
  intro j h
  unfold Pipeline.Window.fill
  rw [dif_pos (moved_4 t j h), hg, emb_4]

theorem xsize_6 : ∀ n : Fin 69, win0_6.xsize (pt n) = ![min 8 (69 - 8 * (n.val / 8)), 5120] := by decide +kernel

theorem xsize_6_0 (t : Fin cfg0.N) :
    win0_6.xsize (grid0.coords t) (0 : Fin 2) = min 8 (69 - 8 * ((num t).val / 8)) := by
  rw [coords_eq]; exact congrFun (xsize_6 (num t)) (0 : Fin 2)

theorem xsize_6_1 (t : Fin cfg0.N) : win0_6.xsize (grid0.coords t) (1 : Fin 2) = 5120 := by
  rw [coords_eq]; exact congrFun (xsize_6 (num t)) (1 : Fin 2)

theorem lt_6_0 (t : Fin cfg0.N) (y : (win0_6.xblock (grid0.coords t)).Idx) :
    8 * ((num t).val / 8) + (y (0 : Fin 2)).val < 69 := by
  have h0 : (y (0 : Fin 2)).val < _ := lt_of_lt_of_eq (y (0 : Fin 2)).isLt (xsize_6_0 t)
  exact Nat.add_lt_of_lt_sub' (lt_of_lt_of_le h0 (Nat.min_le_right _ _))

theorem lt_6_1 (t : Fin cfg0.N) (y : (win0_6.xblock (grid0.coords t)).Idx) : (y (1 : Fin 2)).val < 5120 :=
  lt_of_lt_of_eq (y (1 : Fin 2)).isLt (xsize_6_1 t)

/-- A block of eight rows of scales at a grid point, at an index inside the array. -/
theorem emb_6 (t : Fin cfg0.N) (y : (win0_6.xblock (grid0.coords t)).Idx) : (win0_6.blk t).view.emb y
    = ix2 (m := 69) (n := 5120) (8 * ((num t).val / 8) + (y (0 : Fin 2)).val) (y (1 : Fin 2)).val (lt_6_0 t y) (lt_6_1 t y) := by
  have e0 : cc0_transform_6 (grid0.coords t) 0 = (num t).val / 8 := by rw [coords_eq]; exact congrFun (idx_6 (num t)) 0
  have e1 : cc0_transform_6 (grid0.coords t) 1 = 0 := by rw [coords_eq]; exact congrFun (idx_6 (num t)) 1
  refine ext2 (m := 69) (n := 5120) ?_ ?_
  · show cc0_transform_6 (grid0.coords t) 0 * 8 + 1 * (y (0 : Fin 2)).val = 8 * ((num t).val / 8) + (y (0 : Fin 2)).val
    rw [e0]; generalize (y (0 : Fin 2)).val = a; omega
  · show cc0_transform_6 (grid0.coords t) 1 * 5120 + 1 * (y (1 : Fin 2)).val = (y (1 : Fin 2)).val
    rw [e1]; generalize (y (1 : Fin 2)).val = a; omega

/-- An index of the block of scales on the rows inside the array is one the transfer moves. -/
theorem moved_6 (t : Fin cfg0.N) (j : S8x5120.Idx) (h : 8 * ((num t).val / 8) + (j 0).val < 69) :
    win0_6.moved (grid0.coords t) j = true := by
  have h0 : (j 0).val < 8 := lt0 j
  have h1 : (j 1).val < 5120 := lt1 j
  refine (win0_6.moved_iff _ _).mpr fun a => ?_
  have key : ∀ a : Fin 2, (j a).val < win0_6.xsize (grid0.coords t) a := by
    rw [Fin.forall_fin_two]
    refine ⟨lt_of_lt_of_eq ?_ (xsize_6_0 t).symm, lt_of_lt_of_eq h1 (xsize_6_1 t).symm⟩
    generalize (j 0).val = a at *
    omega
  exact key a

/-- Whatever fills it past the array's end, the staged block of scales holds the group's rows. -/
theorem held_6 (S : Vec F S69x5120 .f32) (t : Fin cfg0.N) (d : S8x5120.Idx → Elt F .f32)
    (g : (win0_6.xblock (grid0.coords t)).Idx → Elt F .f32) (hg : ∀ y, g y = S ((win0_6.blk t).view.emb y)) :
    Held S (num t).val (win0_6.fill (grid0.coords t) d g) := by
  intro j h
  unfold Pipeline.Window.fill
  rw [dif_pos (moved_6 t j h), hg, emb_6]

theorem xsize_9 : ∀ n : Fin 69, win0_9.xsize (pt n) = ![min 8 (69 - 8 * (n.val / 8)), 5120] := by decide +kernel

theorem xsize_9_0 (t : Fin cfg0.N) :
    win0_9.xsize (grid0.coords t) (0 : Fin 2) = min 8 (69 - 8 * ((num t).val / 8)) := by
  rw [coords_eq]; exact congrFun (xsize_9 (num t)) (0 : Fin 2)

theorem xsize_9_1 (t : Fin cfg0.N) : win0_9.xsize (grid0.coords t) (1 : Fin 2) = 5120 := by
  rw [coords_eq]; exact congrFun (xsize_9 (num t)) (1 : Fin 2)

theorem lt_9_0 (t : Fin cfg0.N) (y : (win0_9.xblock (grid0.coords t)).Idx) :
    8 * ((num t).val / 8) + (y (0 : Fin 2)).val < 69 := by
  have h0 : (y (0 : Fin 2)).val < _ := lt_of_lt_of_eq (y (0 : Fin 2)).isLt (xsize_9_0 t)
  exact Nat.add_lt_of_lt_sub' (lt_of_lt_of_le h0 (Nat.min_le_right _ _))

theorem lt_9_1 (t : Fin cfg0.N) (y : (win0_9.xblock (grid0.coords t)).Idx) : (y (1 : Fin 2)).val < 5120 :=
  lt_of_lt_of_eq (y (1 : Fin 2)).isLt (xsize_9_1 t)

/-- A block of eight rows of scales at a grid point, at an index inside the array. -/
theorem emb_9 (t : Fin cfg0.N) (y : (win0_9.xblock (grid0.coords t)).Idx) : (win0_9.blk t).view.emb y
    = ix2 (m := 69) (n := 5120) (8 * ((num t).val / 8) + (y (0 : Fin 2)).val) (y (1 : Fin 2)).val (lt_9_0 t y) (lt_9_1 t y) := by
  have e0 : cc0_transform_9 (grid0.coords t) 0 = (num t).val / 8 := by rw [coords_eq]; exact congrFun (idx_9 (num t)) 0
  have e1 : cc0_transform_9 (grid0.coords t) 1 = 0 := by rw [coords_eq]; exact congrFun (idx_9 (num t)) 1
  refine ext2 (m := 69) (n := 5120) ?_ ?_
  · show cc0_transform_9 (grid0.coords t) 0 * 8 + 1 * (y (0 : Fin 2)).val = 8 * ((num t).val / 8) + (y (0 : Fin 2)).val
    rw [e0]; generalize (y (0 : Fin 2)).val = a; omega
  · show cc0_transform_9 (grid0.coords t) 1 * 5120 + 1 * (y (1 : Fin 2)).val = (y (1 : Fin 2)).val
    rw [e1]; generalize (y (1 : Fin 2)).val = a; omega

/-- An index of the block of scales on the rows inside the array is one the transfer moves. -/
theorem moved_9 (t : Fin cfg0.N) (j : S8x5120.Idx) (h : 8 * ((num t).val / 8) + (j 0).val < 69) :
    win0_9.moved (grid0.coords t) j = true := by
  have h0 : (j 0).val < 8 := lt0 j
  have h1 : (j 1).val < 5120 := lt1 j
  refine (win0_9.moved_iff _ _).mpr fun a => ?_
  have key : ∀ a : Fin 2, (j a).val < win0_9.xsize (grid0.coords t) a := by
    rw [Fin.forall_fin_two]
    refine ⟨lt_of_lt_of_eq ?_ (xsize_9_0 t).symm, lt_of_lt_of_eq h1 (xsize_9_1 t).symm⟩
    generalize (j 0).val = a at *
    omega
  exact key a

/-- Contents that hold the group's new scales are, on the part written back, the array's block. -/
theorem cut_9 (S : Vec F S69x5120 .f32) (t : Fin cfg0.N) (x : S8x5120.Idx → Elt F .f32) (hx : Held S (num t).val x) :
    win0_9.cut (grid0.coords t) x = fun y => S ((win0_9.blk t).view.emb y) := by
  funext y
  rw [emb_9]
  exact hx (win0_9.xinj (grid0.coords t) y) (lt_9_0 t y)

theorem xsize_11 : ∀ n : Fin 69, win0_11.xsize (pt n) = ![min 8 (69 - 8 * (n.val / 8)), 5120] := by decide +kernel

theorem xsize_11_0 (t : Fin cfg0.N) :
    win0_11.xsize (grid0.coords t) (0 : Fin 2) = min 8 (69 - 8 * ((num t).val / 8)) := by
  rw [coords_eq]; exact congrFun (xsize_11 (num t)) (0 : Fin 2)

theorem xsize_11_1 (t : Fin cfg0.N) : win0_11.xsize (grid0.coords t) (1 : Fin 2) = 5120 := by
  rw [coords_eq]; exact congrFun (xsize_11 (num t)) (1 : Fin 2)

theorem lt_11_0 (t : Fin cfg0.N) (y : (win0_11.xblock (grid0.coords t)).Idx) :
    8 * ((num t).val / 8) + (y (0 : Fin 2)).val < 69 := by
  have h0 : (y (0 : Fin 2)).val < _ := lt_of_lt_of_eq (y (0 : Fin 2)).isLt (xsize_11_0 t)
  exact Nat.add_lt_of_lt_sub' (lt_of_lt_of_le h0 (Nat.min_le_right _ _))

theorem lt_11_1 (t : Fin cfg0.N) (y : (win0_11.xblock (grid0.coords t)).Idx) : (y (1 : Fin 2)).val < 5120 :=
  lt_of_lt_of_eq (y (1 : Fin 2)).isLt (xsize_11_1 t)

/-- A block of eight rows of scales at a grid point, at an index inside the array. -/
theorem emb_11 (t : Fin cfg0.N) (y : (win0_11.xblock (grid0.coords t)).Idx) : (win0_11.blk t).view.emb y
    = ix2 (m := 69) (n := 5120) (8 * ((num t).val / 8) + (y (0 : Fin 2)).val) (y (1 : Fin 2)).val (lt_11_0 t y) (lt_11_1 t y) := by
  have e0 : cc0_transform_11 (grid0.coords t) 0 = (num t).val / 8 := by rw [coords_eq]; exact congrFun (idx_11 (num t)) 0
  have e1 : cc0_transform_11 (grid0.coords t) 1 = 0 := by rw [coords_eq]; exact congrFun (idx_11 (num t)) 1
  refine ext2 (m := 69) (n := 5120) ?_ ?_
  · show cc0_transform_11 (grid0.coords t) 0 * 8 + 1 * (y (0 : Fin 2)).val = 8 * ((num t).val / 8) + (y (0 : Fin 2)).val
    rw [e0]; generalize (y (0 : Fin 2)).val = a; omega
  · show cc0_transform_11 (grid0.coords t) 1 * 5120 + 1 * (y (1 : Fin 2)).val = (y (1 : Fin 2)).val
    rw [e1]; generalize (y (1 : Fin 2)).val = a; omega

/-- An index of the block of scales on the rows inside the array is one the transfer moves. -/
theorem moved_11 (t : Fin cfg0.N) (j : S8x5120.Idx) (h : 8 * ((num t).val / 8) + (j 0).val < 69) :
    win0_11.moved (grid0.coords t) j = true := by
  have h0 : (j 0).val < 8 := lt0 j
  have h1 : (j 1).val < 5120 := lt1 j
  refine (win0_11.moved_iff _ _).mpr fun a => ?_
  have key : ∀ a : Fin 2, (j a).val < win0_11.xsize (grid0.coords t) a := by
    rw [Fin.forall_fin_two]
    refine ⟨lt_of_lt_of_eq ?_ (xsize_11_0 t).symm, lt_of_lt_of_eq h1 (xsize_11_1 t).symm⟩
    generalize (j 0).val = a at *
    omega
  exact key a

/-- Contents that hold the group's new scales are, on the part written back, the array's block. -/
theorem cut_11 (S : Vec F S69x5120 .f32) (t : Fin cfg0.N) (x : S8x5120.Idx → Elt F .f32) (hx : Held S (num t).val x) :
    win0_11.cut (grid0.coords t) x = fun y => S ((win0_11.blk t).view.emb y) := by
  funext y
  rw [emb_11]
  exact hx (win0_11.xinj (grid0.coords t) y) (lt_11_0 t y)

/-- The windows of new scales are written back at the group's last point only. -/
theorem flush_9 : ∀ t : Fin cfg0.N, (cfg0.win 9).flush t = (k0_cond2 (grid0.coords t) == 1#1) := by decide +kernel
theorem flush_11 : ∀ t : Fin cfg0.N, (cfg0.win 11).flush t = (k0_cond2 (grid0.coords t) == 1#1) := by decide +kernel

end Cert.Kernel.Body

end
-- ==== Proof.Kernel.Dats.lean ====
/- The kernel's proof data: what every staging buffer holds after the body at each grid point, what the scratch carries,
   and that the body keeps both; then the whole run. -/
module

public import proofs.«01_k».proof.Proof.Kernel.Blks
public import Idealize.ShloMosaic.Lib.Pipeline.KitQuiescent
public import Idealize.ShloMosaic.Lib.Tactic

@[expose] public section

set_option maxRecDepth 8192
set_option maxHeartbeats 1000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.Kernel.Gen Cert.Pieces

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays the region finds -/

/-- The step counter. -/
def aT (c : Dev nD) : Elt F .i32 := word (F := F) (V m c main_v0)
/-- The parameters. -/
def aP (c : Dev nD) : Vec F S8832x5120 .f32 := V m c main_arg0
/-- The gradients. -/
def aG (c : Dev nD) : Vec F S8832x5120 .bf16 := V m c main_arg1
/-- The codes of the first moment. -/
def aMC (c : Dev nD) : Vec F S8832x5120 .i8 := V m c main_arg2
/-- The scales of the first moment. -/
def aMS (c : Dev nD) : Vec F S69x5120 .f32 := V m c main_arg3
/-- The codes of the second moment. -/
def aVC (c : Dev nD) : Vec F S8832x5120 .i8 := V m c main_arg4
/-- The scales of the second moment. -/
def aVS (c : Dev nD) : Vec F S69x5120 .f32 := V m c main_arg5

/-- The update array the kernel ends with. -/
def rD (c : Dev nD) : Vec F S8832x5120 .f32 := newD (aT m c) (aP m c) (aG m c) (aMC m c) (aVC m c) (aMS m c) (aVS m c)
/-- The codes of the first moment it ends with. -/
def rMc (c : Dev nD) : Vec F S8832x5120 .i8 := newMc (aG m c) (aMC m c) (aMS m c)
/-- The scales of the first moment it ends with. -/
def rMs (c : Dev nD) : Vec F S69x5120 .f32 := newMs (aG m c) (aMC m c) (aMS m c)
/-- The codes of the second moment it ends with. -/
def rVc (c : Dev nD) : Vec F S8832x5120 .i8 := newVc (aG m c) (aVC m c) (aVS m c)
/-- The scales of the second moment it ends with. -/
def rVs (c : Dev nD) : Vec F S69x5120 .f32 := newVs (aG m c) (aVC m c) (aVS m c)

/-! ## Every block read off its array -/

theorem iblk_0 (c : Dev nD) (t : Fin cfg0.N) : word (F := F) (iblk m c 0 t) = aT m c := by
  unfold word aT word iblk
  refine congrArg (V m c main_v0) (funext fun a => ?_)
  fin_cases a
  exact Fin.ext (Nat.lt_one_iff.mp (Fin.isLt _))
theorem iblk_1 (c : Dev nD) (t : Fin cfg0.N) : iblk m c 1 t = rowsAt (aP m c) (num t).val (num t).isLt :=
  funext fun y => congrArg (aP m c) (emb_1 t y)
theorem iblk_2 (c : Dev nD) (t : Fin cfg0.N) : iblk m c 2 t = rowsAt (aG m c) (num t).val (num t).isLt :=
  funext fun y => congrArg (aG m c) (emb_2 t y)
theorem iblk_3 (c : Dev nD) (t : Fin cfg0.N) : iblk m c 3 t = rowsAt (aMC m c) (num t).val (num t).isLt :=
  funext fun y => congrArg (aMC m c) (emb_3 t y)
theorem iblk_5 (c : Dev nD) (t : Fin cfg0.N) : iblk m c 5 t = rowsAt (aVC m c) (num t).val (num t).isLt :=
  funext fun y => congrArg (aVC m c) (emb_5 t y)
theorem iblk_4 (c : Dev nD) (t : Fin cfg0.N) (y) : iblk m c 4 t y = aMS m c ((win0_4.blk t).view.emb y) := rfl
theorem iblk_6 (c : Dev nD) (t : Fin cfg0.N) (y) : iblk m c 6 t y = aVS m c ((win0_6.blk t).view.emb y) := rfl

/-! ## The proof data -/

/-- A word for the rows past an array's end. -/
abbrev pad : S8x5120.Idx → Elt F .f32 := fun _ => Scalar.ofBits .f32 0#32

/-- What the scratch holds before point `n`. -/
def Φ₀ (c : Dev nD) (n : ℕ) : sProp 𝕄 :=
  iprop((∃ y13 y14 y15 y16, ⌜Inv (aMS m c) (rMs m c) n y13 y15 ∧ Inv (aVS m c) (rVs m c) n y14 y16⌝
      ∗ owns (c : Thread nD τ) (Memref.whole cc0_scratch0) fullShare y13
      ∗ owns (c : Thread nD τ) (Memref.whole cc0_scratch1) fullShare y14
      ∗ owns (c : Thread nD τ) (Memref.whole cc0_scratch2) fullShare y15
      ∗ owns (c : Thread nD τ) (Memref.whole cc0_scratch3) fullShare y16)
    ∗ ∃ r, prngReg c r)

/-- After the body at a point: the inputs' buffers hold their blocks, the outputs' the blocks of the arrays the kernel
    ends with; past an array's end, where nothing is stated, zeros. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => win0_4.fill (grid0.coords t) pad (iblk m c 4 t)
    | ⟨5, _⟩ => iblk m c 5 t
    | ⟨6, _⟩ => win0_6.fill (grid0.coords t) pad (iblk m c 6 t)
    | ⟨7, _⟩ => rowsAt (rD m c) (num t).val (num t).isLt
    | ⟨8, _⟩ => rowsAt (rMc m c) (num t).val (num t).isLt
    | ⟨9, _⟩ => win0_9.fill (grid0.coords t) pad fun y => rMs m c ((win0_9.blk t).view.emb y)
    | ⟨10, _⟩ => rowsAt (rVc m c) (num t).val (num t).isLt
    | ⟨11, _⟩ => win0_11.fill (grid0.coords t) pad fun y => rVs m c ((win0_11.blk t).view.emb y)
  Φ t := Φ₀ m c t.val
  q _ := fullShare
  owed _ := 0

theorem A_eq (c : Dev nD) (w : Fin cfg0.W) : (dats m 0 c).A w = V m c (Pipeline.arrRef spec0 w) := rfl

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem clip_4 (t t' : Fin cfg0.N) (h : win0_4.index t = win0_4.index t') :
    win0_4.clip (grid0.coords t) = win0_4.clip (grid0.coords t') := by
  funext a
  show Pipeline.Clip.of (win0_4.index t a) _ _ = Pipeline.Clip.of (win0_4.index t' a) _ _
  rw [h]
theorem before_4 (c : Dev nD) (t : Fin cfg0.N) (d) :
    (dats m 0 c).before 4 t d = win0_4.fill (grid0.coords t) d (iblk m c 4 t) :=
  ((dats m 0 c).before_in_eq_fetched 4 rfl (fun _ => rfl) (clip_4) (fun t => win0_4.cut_fill _ _ _) t d).trans rfl
theorem clip_6 (t t' : Fin cfg0.N) (h : win0_6.index t = win0_6.index t') :
    win0_6.clip (grid0.coords t) = win0_6.clip (grid0.coords t') := by
  funext a
  show Pipeline.Clip.of (win0_6.index t a) _ _ = Pipeline.Clip.of (win0_6.index t' a) _ _
  rw [h]
theorem before_6 (c : Dev nD) (t : Fin cfg0.N) (d) :
    (dats m 0 c).before 6 t d = win0_6.fill (grid0.coords t) d (iblk m c 6 t) :=
  ((dats m 0 c).before_in_eq_fetched 6 rfl (fun _ => rfl) (clip_6) (fun t => win0_6.cut_fill _ _ _) t d).trans rfl

theorem defs₀_row (t : Fin cfg0.N) :
    defs₀ (F := F) .tc cfg0.body (cfg0.bodyArgs t (cfg0.slots t)) = bodyAt0 t := by
  unfold defs₀; rw [Defs.onTc_tc]

/-- What the body leaves in window 9's buffer is what its obligation asks: at a group's last point the group's new scales,
    elsewhere what it found. -/
theorem leave_9 (c : Dev nD) (t : Fin cfg0.N) (d) (y : Vec F S40x8x128 .f32)
    (h : k0_cond2 (grid0.coords t) = 1#1 → Held (rMs m c) (num t).val (stageOut y)) :
    (owns (c : Thread nD τ) (st0_9 t) fullShare (out10 (grid0.coords t) y ((dats m 0 c).before 9 t d)) : sProp 𝕄)
      ⊢ (dats m 0 c).leaves 9 t := by
  unfold Dat.leaves out10
  by_cases h2 : k0_cond2 (grid0.coords t) = 1#1
  · have hi : cfg0.idle 9 (grid0.coords t) = false := by
      show (!(k0_cond2 (grid0.coords t) == 1#1)) = false
      rw [h2]; rfl
    rw [hi, if_pos h2]
    have hx : win0_9.cut (grid0.coords t) (stageOut y) = win0_9.cut (grid0.coords t) ((dats m 0 c).after 9 t) :=
      (cut_9 _ t _ (h h2)).trans (win0_9.cut_fill _ _ _).symm
    iintro H
    iexists (stageOut y)
    change _ ⊢ owns (c : Thread nD τ) (st0_9 t) fullShare (win0_9.fill (grid0.coords t) (stageOut y) (win0_9.cut (grid0.coords t) ((dats m 0 c).after 9 t)))
    rw [win0_9.fill_congr_cut _ hx]
  · have hi : cfg0.idle 9 (grid0.coords t) = true := by
      show (!(k0_cond2 (grid0.coords t) == 1#1)) = true
      rw [beq_false_of_ne h2]; rfl
    have hf : (cfg0.win 9).flush t = false := by rw [flush_9, beq_false_of_ne h2]
    rw [hi, hf, if_neg h2]
    iintro H
    iexists d
    iexact H

/-- What the body leaves in window 11's buffer is what its obligation asks: at a group's last point the group's new scales,
    elsewhere what it found. -/
theorem leave_11 (c : Dev nD) (t : Fin cfg0.N) (d) (y : Vec F S40x8x128 .f32)
    (h : k0_cond2 (grid0.coords t) = 1#1 → Held (rVs m c) (num t).val (stageOut y)) :
    (owns (c : Thread nD τ) (st0_11 t) fullShare (out10 (grid0.coords t) y ((dats m 0 c).before 11 t d)) : sProp 𝕄)
      ⊢ (dats m 0 c).leaves 11 t := by
  unfold Dat.leaves out10
  by_cases h2 : k0_cond2 (grid0.coords t) = 1#1
  · have hi : cfg0.idle 11 (grid0.coords t) = false := by
      show (!(k0_cond2 (grid0.coords t) == 1#1)) = false
      rw [h2]; rfl
    rw [hi, if_pos h2]
    have hx : win0_11.cut (grid0.coords t) (stageOut y) = win0_11.cut (grid0.coords t) ((dats m 0 c).after 11 t) :=
      (cut_11 _ t _ (h h2)).trans (win0_11.cut_fill _ _ _).symm
    iintro H
    iexists (stageOut y)
    change _ ⊢ owns (c : Thread nD τ) (st0_11 t) fullShare (win0_11.fill (grid0.coords t) (stageOut y) (win0_11.cut (grid0.coords t) ((dats m 0 c).after 11 t)))
    rw [win0_11.fill_congr_cut _ hx]
  · have hi : cfg0.idle 11 (grid0.coords t) = true := by
      show (!(k0_cond2 (grid0.coords t) == 1#1)) = true
      rw [beq_false_of_ne h2]; rfl
    have hf : (cfg0.win 11).flush t = false := by rw [flush_11, beq_false_of_ne h2]
    rw [hi, hf, if_neg h2]
    iintro H
    iexists d
    iexact H

theorem leave_4 (c : Dev nD) (t : Fin cfg0.N) (d) :
    (owns (c : Thread nD τ) (st0_4 t) fullShare (win0_4.fill (grid0.coords t) d (iblk m c 4 t)) : sProp 𝕄)
      ⊢ (dats m 0 c).leaves 4 t := by
  iintro H
  iexists d
  change _ ⊢ owns (c : Thread nD τ) (st0_4 t) fullShare (win0_4.fill (grid0.coords t) d (win0_4.cut (grid0.coords t) (win0_4.fill (grid0.coords t) pad (iblk m c 4 t))))
  rw [win0_4.cut_fill]

theorem leave_6 (c : Dev nD) (t : Fin cfg0.N) (d) :
    (owns (c : Thread nD τ) (st0_6 t) fullShare (win0_6.fill (grid0.coords t) d (iblk m c 6 t)) : sProp 𝕄)
      ⊢ (dats m 0 c).leaves 6 t := by
  iintro H
  iexists d
  change _ ⊢ owns (c : Thread nD τ) (st0_6 t) fullShare (win0_6.fill (grid0.coords t) d (win0_6.cut (grid0.coords t) (win0_6.fill (grid0.coords t) pad (iblk m c 6 t))))
  rw [win0_6.cut_fill]

/-! ## One grid point over its staged blocks -/

section Pt

variable (c : Dev nD) (t : Fin cfg0.N) (y y' : Vec F S40x8x128 .f32)

theorem d_eq (h : ∀ j, (j 1).val = row (grid0.coords t) → y j = scaleRow (aMS m c) (num t).val (num t).isLt j)
    (h' : ∀ j, (j 1).val = row (grid0.coords t) → y' j = scaleRow (aVS m c) (num t).val (num t).isLt j) :
    dOf (grid0.coords t) (iblk m c 0 t) (iblk m c 1 t) (iblk m c 2 t) (iblk m c 3 t) (iblk m c 5 t) y y'
      = rowsAt (rD m c) (num t).val (num t).isLt := by
  rw [coords_eq] at h h'
  unfold dOf
  rw [iblk_0, iblk_1, iblk_2, iblk_3, iblk_5, coords_eq, tripD_eq (num t) (aT m c) (aP m c) (aG m c) (aMC m c) (aVC m c) (aMS m c) (aVS m c) y y' h h']
  exact (rowsAt_asmAll _ _).symm

theorem mc_eq (h : ∀ j, (j 1).val = row (grid0.coords t) → y j = scaleRow (aMS m c) (num t).val (num t).isLt j) :
    mcOf (grid0.coords t) (iblk m c 2 t) (iblk m c 3 t) y = rowsAt (rMc m c) (num t).val (num t).isLt := by
  rw [coords_eq] at h
  unfold mcOf
  rw [iblk_2, iblk_3, coords_eq, tripM_eq (num t) (aG m c) (aMC m c) (aMS m c) y h]
  exact (rowsAt_asmAll (fun n k => k0_pay86 (wholeM (aG m c) (aMC m c) (aMS m c) n k)) (num t)).symm

theorem vc_eq (h : ∀ j, (j 1).val = row (grid0.coords t) → y j = scaleRow (aVS m c) (num t).val (num t).isLt j) :
    vcOf (grid0.coords t) (iblk m c 2 t) (iblk m c 5 t) y = rowsAt (rVc m c) (num t).val (num t).isLt := by
  rw [coords_eq] at h
  unfold vcOf
  rw [iblk_2, iblk_5, coords_eq, tripV_eq (num t) (aG m c) (aVC m c) (aVS m c) y h]
  exact (rowsAt_asmAll (fun n k => k0_pay175 (wholeV (aG m c) (aVC m c) (aVS m c) n k)
    (k0_pay88 (wholeV (aG m c) (aVC m c) (aVS m c) n k)) (k0_pay89 (F := F))) (num t)).symm

theorem ms_eq (h : ∀ j, (j 1).val = row (grid0.coords t) → y j = scaleRow (aMS m c) (num t).val (num t).isLt j) :
    msOf (grid0.coords t) (iblk m c 2 t) (iblk m c 3 t) y y'
      = setRow (row (grid0.coords t)) (fun k => k0_pay87 (wholeM (aG m c) (aMC m c) (aMS m c) (num t) k)) y' := by
  rw [coords_eq] at h
  unfold msOf
  rw [iblk_2, iblk_3, coords_eq, tripM_eq (num t) (aG m c) (aMC m c) (aMS m c) y h]

theorem vs_eq (h : ∀ j, (j 1).val = row (grid0.coords t) → y j = scaleRow (aVS m c) (num t).val (num t).isLt j) :
    vsOf (grid0.coords t) (iblk m c 2 t) (iblk m c 5 t) y y'
      = setRow (row (grid0.coords t)) (fun k => k0_pay176 (k0_pay88 (wholeV (aG m c) (aVC m c) (aVS m c) (num t) k))) y' := by
  rw [coords_eq] at h
  unfold vsOf
  rw [iblk_2, iblk_5, coords_eq, tripV_eq (num t) (aG m c) (aVC m c) (aVS m c) y h]

end Pt

/-! ## The body obligation -/

/-- THE BODY KEEPS THE PROOF DATA, at every grid point. -/
theorem body_obligation (c : Dev nD) : BodyObligationLoose (dats m 0 c) (defs₀ (F := F)) Variants.none () Set.univ := fun t => by
  rw [bigSep_W0, bigSep_W0, defs₀_row]
  change iprop(Φ₀ m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))
    ⊢ wp Idealize.ShloMosaic.frame (wpE (defs₀ (F := F)) Variants.none (c : Thread nD τ) none) Set.univ (bodyAt0 t) fun _ =>
      iprop(Φ₀ m c (t.val + 1) ∗ (dats m 0 c).owesAt () t.succ
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ (dats m 0 c).leaves 4 t
      ∗ owns (c : Thread nD τ) (st0_5 t) fullShare (iblk m c 5 t)
      ∗ (dats m 0 c).leaves 6 t
      ∗ owns (c : Thread nD τ) (st0_7 t) fullShare (rowsAt (rD m c) (num t).val (num t).isLt)
      ∗ owns (c : Thread nD τ) (st0_8 t) fullShare (rowsAt (rMc m c) (num t).val (num t).isLt)
      ∗ (dats m 0 c).leaves 9 t
      ∗ owns (c : Thread nD τ) (st0_10 t) fullShare (rowsAt (rVc m c) (num t).val (num t).isLt)
      ∗ (dats m 0 c).leaves 11 t)
  rw [show (dats m 0 c).owesAt () t.succ = (dats m 0 c).owesAt () t.castSucc from rfl]
  unfold Φ₀
  iintro ⟨⟨⟨%y13, %y14, %y15, %y16, %hI, S13, S14, S15, S16⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before_0 m c t d0, before_1 m c t d1, before_2 m c t d2, before_3 m c t d3, before_4 m c t d4, before_5 m c t d5, before_6 m c t d6]
  obtain ⟨hM, hV⟩ := hI
  rw [← num_val t] at hM hV ⊢
  have xM : Held (aMS m c) (num t).val (win0_4.fill (grid0.coords t) d4 (iblk m c 4 t)) := held_4 _ t d4 _ (iblk_4 m c t)
  have xV : Held (aVS m c) (num t).val (win0_6.fill (grid0.coords t) d6 (iblk m c 6 t)) := held_6 _ t d6 _ (iblk_6 m c t)
  have eM := hM.agree xM
  have eV := hV.agree xV
  have sM := hM.step xM (fun n k => k0_pay87 (wholeM (aG m c) (aMC m c) (aMS m c) n k)) rfl
  have sV := hV.step xV (fun n k => k0_pay176 (k0_pay88 (wholeV (aG m c) (aVC m c) (aVS m c) n k))) rfl
  have oM := hM.held (fun n k => k0_pay87 (wholeM (aG m c) (aMC m c) (aMS m c) n k)) rfl
  have oV := hV.held (fun n k => k0_pay176 (k0_pay88 (wholeV (aG m c) (aVC m c) (aVS m c) n k))) rfl
  rw [← coords_eq t] at eM eV sM sV oM oV
  iapply (wp_wand_r Idealize.ShloMosaic.frame (wpE (defs₀ (F := F)) Variants.none (c : Thread nD τ) none) Set.univ)
  isplitl [H0 H1 H2 H3 H4 H5 H6 H7 H8 H9 H10 H11 S13 S14 S15 S16]
  · iapply (run (F := F) Variants.none c none (grid0.coords t) _ _ _ _ _ _ _ _ _ _ _ _ _ _ _ _ _ _ _ _ _ _ _ _ _ _ _ _ _ _ _ _ Set.univ
      (iblk m c 0 t) (iblk m c 1 t) (iblk m c 2 t) (iblk m c 3 t) (win0_4.fill (grid0.coords t) d4 (iblk m c 4 t)) (iblk m c 5 t)
      (win0_6.fill (grid0.coords t) d6 (iblk m c 6 t)) ((dats m 0 c).before 7 t d7) ((dats m 0 c).before 8 t d8) ((dats m 0 c).before 9 t d9)
      ((dats m 0 c).before 10 t d10) ((dats m 0 c).before 11 t d11) y13 y14 y15 y16)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S13]; · iexact S13
    isplitl [S14]; · iexact S14
    isplitl [S15]; · iexact S15
    iexact S16
  iintro %_ ⟨H0, H1, H2, H3, H4, H5, H6, H7, H8, H9, H10, H11, S13, S14, S15, S16⟩
  rw [d_eq m c t _ _ eM eV, mc_eq m c t _ eM, vc_eq m c t _ eV, ms_eq m c t _ _ eM, vs_eq m c t _ _ eV]
  isplitl [S13 S14 S15 S16 Hr]
  · isplitl [S13 S14 S15 S16]
    · iexists _; iexists _; iexists _; iexists _
      isplitr; rotate_left
      · isplitl [S13]; · iexact S13
        isplitl [S14]; · iexact S14
        isplitl [S15]; · iexact S15
        iexact S16
      ipureintro
      exact ⟨sM, sV⟩
    iexact Hr
  isplitl [Ho]; · iexact Ho
  isplitl [H0]; · iexact H0
  isplitl [H1]; · iexact H1
  isplitl [H2]; · iexact H2
  isplitl [H3]; · iexact H3
  isplitl [H4]; · iapply (leave_4 m c t d4); iexact H4
  isplitl [H5]; · iexact H5
  isplitl [H6]; · iapply (leave_6 m c t d6); iexact H6
  isplitl [H7]; · iexact H7
  isplitl [H8]; · iexact H8
  isplitl [H9]; · iapply (leave_9 m c t d9 _ oM); iexact H9
  isplitl [H10]; · iexact H10
  iapply (leave_11 m c t d11 _ oV); iexact H11

end Cert.Kernel.Body

end
-- ==== Proof.Kernel.Final.lean ====
/- The whole run of the kernel: it ends, and leaves its arguments as they were. -/
module

public import proofs.«01_k».proof.Proof.Kernel.Dats
public import Idealize.ShloMosaic.Lib.Pipeline.KitQuiescent
public import Idealize.ShloMosaic.Lib.Tactic

@[expose] public section

set_option maxRecDepth 8192
set_option maxHeartbeats 1000000

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.Kernel.Gen Cert.Pieces

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The launch -/

/-- Before the first point the scratch holds anything. -/
theorem hin (c : Dev nD) : Pipeline.ΦA spec0 c ⊢ (dats m 0 c).Φ 0 := by
  show _ ⊢ Φ₀ m c 0
  unfold Pipeline.ΦA Φ₀
  rw [scopedRest0_eq]
  simp only [owns_whole_eq]
  iintro ⟨⟨⟨%f13, H13⟩, ⟨%f14, H14⟩, ⟨%f15, H15⟩, ⟨%f16, H16⟩⟩, Hr⟩
  isplitl [H13 H14 H15 H16]
  · iexists f13; iexists f14; iexists f15; iexists f16
    isplitr
    · ipureintro; exact ⟨Inv.zero _ _ _ _, Inv.zero _ _ _ _⟩
    isplitl [H13]
    · iexists f13; isplitr; · ipureintro; rfl
      iexact H13
    isplitl [H14]
    · iexists f14; isplitr; · ipureintro; rfl
      iexact H14
    isplitl [H15]
    · iexists f15; isplitr; · ipureintro; rfl
      iexact H15
    iexists f16; isplitr; · ipureintro; rfl
    iexact H16
  iexact Hr

/-- After the last point the scratch is forgotten. -/
theorem hout (c : Dev nD) : (dats m 0 c).Φ (Fin.last cfg0.N) ⊢ Pipeline.ΦA spec0 c := by
  show Φ₀ m c _ ⊢ _
  unfold Pipeline.ΦA Φ₀
  rw [scopedRest0_eq]
  simp only [owns_whole_eq]
  iintro ⟨⟨%y13, %y14, %y15, %y16, -, ⟨%f13, -, H13⟩, ⟨%f14, -, H14⟩, ⟨%f15, -, H15⟩, ⟨%f16, -, H16⟩⟩, Hr⟩
  isplitl [H13 H14 H15 H16]
  · isplitl [H13]; · iexists f13; iexact H13
    isplitl [H14]; · iexists f14; iexact H14
    isplitl [H15]; · iexists f15; iexact H15
    iexists f16; iexact H16
  iexact Hr

-- the run theorem's implicit arguments are found by unifying its conclusion with this one, which takes unfolding plain
-- definitions in a metavariable's type
set_option backward.isDefEq.respectTransparency.types false in
/-- THE LAUNCH: every execution of @main ends, with every array at what the proof data say and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m)
    (hin := hin m) (hout := hout m)

/-- The argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).1 4).trans (((dats m 0 c).arrAt_in 4 rfl _).trans ((A_eq m c 4).trans (V_main_arg3 m c))),
      ((h.1 c).1 5).trans (((dats m 0 c).arrAt_in 5 rfl _).trans ((A_eq m c 5).trans (V_main_arg4 m c))),
      ((h.1 c).1 6).trans (((dats m 0 c).arrAt_in 6 rfl _).trans ((A_eq m c 6).trans (V_main_arg5 m c))),
      ((h.1 c).2 main_arg6 (Pipeline.mem_restRefs_of main_arg6 (by decide) (by decide))).trans (V_main_arg6 m c)⟩, h.2⟩) (run_main m ρ)

end Cert.Kernel.Body

end
-- ==== Proof.KernelIdeal.Loop.lean ====
/- The column loop of the kernel body at one grid point: what one trip stores, and the loop by its invariant. -/
module

public import proofs.«01_k».proof.Proof.Gen.KernelIdeal.Skeleton
public import proofs.«01_k».proof.Proof.Pieces
public import Idealize.ShloMosaic.Lib.Exec
public import Idealize.ShloMosaic.Lib.Tactic
public import Idealize.ShloMosaic.Lib.Pipeline.Kit
public import Idealize.ShloMosaic.Lib.Pipeline.FrameBody

@[expose] public section

-- a region applies its sixteen memrefs and their facts in every statement
set_option maxRecDepth 8192
set_option maxHeartbeats 1000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Pieces

variable {F : FTy → Type} [FloatOps F] [Named F]

local notation "𝕄G" => MT nD τ sig Unit (Elt F) ℕ (UR sig nD τ) ℕ

/-! ## What one trip computes

`x2 … x14` are what the trip's buffers read: the parameter, gradient and code blocks, and the old scales laid out as
40 groups of 128 columns. -/

/-- Columns `128 k … 128 k + 127` of a block. -/
abbrev colR (k : Fin k0_t1_loop.trips) : Rect S128x5120 :=
  Rect.unit (s := S128x5120) (k0_off1 k) S128x128.size (k0_off1_inb k)

/-- The scale row of grid point `i`, column group `k`. -/
abbrev rowR (i : grid0.Coords) (k : Fin k0_t1_loop.trips) : Rect S40x8x128 :=
  Rect.unit (s := S40x8x128) (k0_off2 i k) S1x1x128.size (k0_off2_inb i k)

/-- The new first moment of column group `k`. -/
def tripM (i : grid0.Coords) (x3 : Vec F S128x5120 .bf16) (x4 : Vec F S128x5120 .i8) (x13 : Vec F S40x8x128 .f32)
    (k : Fin k0_t1_loop.trips) : FVec F S128x128 .f32 :=
  k0_pay80 (View.ld x3 (colR k)) (View.ld x4 (colR k)) (View.ld x13 (rowR i k))

/-- The new second moment of column group `k`. -/
def tripV (i : grid0.Coords) (x3 : Vec F S128x5120 .bf16) (x6 : Vec F S128x5120 .i8) (x14 : Vec F S40x8x128 .f32)
    (k : Fin k0_t1_loop.trips) : FVec F S128x128 .f32 :=
  k0_pay81 (View.ld x3 (colR k)) (View.ld x6 (colR k)) (View.ld x14 (rowR i k))

/-- The update of column group `k`. -/
def tripD (i : grid0.Coords) (v10 : Elt F .i32) (x2 : Vec F S128x5120 .f32) (x3 : Vec F S128x5120 .bf16)
    (x4 x6 : Vec F S128x5120 .i8) (x13 x14 : Vec F S40x8x128 .f32)
    (k : Fin k0_t1_loop.trips) : FVec F S128x128 .f32 :=
  k0_pay84 (k0_pay82 (k0_pay171 v10) (k0_pay172 v10) (View.ld x3 (colR k)) (View.ld x4 (colR k)) (View.ld x13 (rowR i k))
    (View.ld x6 (colR k)) (View.ld x14 (rowR i k))) (k0_pay83 (View.ld x2 (colR k)))

/-- The trip's store into the update block. -/
abbrev pcD (i : grid0.Coords) (v10 : Elt F .i32) (x2 : Vec F S128x5120 .f32) (x3 : Vec F S128x5120 .bf16)
    (x4 x6 : Vec F S128x5120 .i8) (x13 x14 : Vec F S40x8x128 .f32) (k : Fin k0_t1_loop.trips) :
    View.Piece (Elt F) S128x5120 .f32 :=
  ⟨colR k, tripD i v10 x2 x3 x4 x6 x13 x14 k⟩

/-- The trip's store into the block of first-moment codes. -/
abbrev pcMc (i : grid0.Coords) (x3 : Vec F S128x5120 .bf16) (x4 : Vec F S128x5120 .i8) (x13 : Vec F S40x8x128 .f32)
    (k : Fin k0_t1_loop.trips) : View.Piece (Elt F) S128x5120 .i8 :=
  ⟨colR k, k0_pay86 (tripM i x3 x4 x13 k)⟩

/-- The trip's store into the block of second-moment codes. -/
abbrev pcVc (i : grid0.Coords) (x3 : Vec F S128x5120 .bf16) (x6 : Vec F S128x5120 .i8) (x14 : Vec F S40x8x128 .f32)
    (k : Fin k0_t1_loop.trips) : View.Piece (Elt F) S128x5120 .i8 :=
  ⟨colR k, k0_pay175 (tripV i x3 x6 x14 k) (k0_pay88 (tripV i x3 x6 x14 k)) (k0_pay89 (F := F))⟩

/-- The trip's store into the scratch of new first-moment scales. -/
abbrev pcMs (i : grid0.Coords) (x3 : Vec F S128x5120 .bf16) (x4 : Vec F S128x5120 .i8) (x13 : Vec F S40x8x128 .f32)
    (k : Fin k0_t1_loop.trips) : View.Piece (Elt F) S40x8x128 .f32 :=
  ⟨rowR i k, k0_pay87 (tripM i x3 x4 x13 k)⟩

/-- The trip's store into the scratch of new second-moment scales. -/
abbrev pcVs (i : grid0.Coords) (x3 : Vec F S128x5120 .bf16) (x6 : Vec F S128x5120 .i8) (x14 : Vec F S40x8x128 .f32)
    (k : Fin k0_t1_loop.trips) : View.Piece (Elt F) S40x8x128 .f32 :=
  ⟨rowR i k, k0_pay176 (k0_pay88 (tripV i x3 x6 x14 k))⟩

/-! ## The loop -/

section Loop

variable (𝒱 : Variants) (c : Dev nD) (bd : Option 𝒱.V) (i : grid0.Coords)
  (arg1 : Memref sig .tc .smem S1 .i32) (harg1 : arg1.IsWhole)
  (arg2 : Memref sig .tc .vmem S128x5120 .f32) (harg2 : arg2.IsWhole)
  (arg3 : Memref sig .tc .vmem S128x5120 .bf16) (harg3 : arg3.IsWhole)
  (arg4 : Memref sig .tc .vmem S128x5120 .i8) (harg4 : arg4.IsWhole)
  (arg5 : Memref sig .tc .vmem S8x5120 .f32) (harg5 : arg5.IsWhole)
  (arg6 : Memref sig .tc .vmem S128x5120 .i8) (harg6 : arg6.IsWhole)
  (arg7 : Memref sig .tc .vmem S8x5120 .f32) (harg7 : arg7.IsWhole)
  (arg8 : Memref sig .tc .vmem S128x5120 .f32) (harg8 : arg8.IsWhole)
  (arg9 : Memref sig .tc .vmem S128x5120 .i8) (harg9 : arg9.IsWhole)
  (arg10 : Memref sig .tc .vmem S8x5120 .f32) (harg10 : arg10.IsWhole)
  (arg11 : Memref sig .tc .vmem S128x5120 .i8) (harg11 : arg11.IsWhole)
  (arg12 : Memref sig .tc .vmem S8x5120 .f32) (harg12 : arg12.IsWhole)
  (arg13 : Memref sig .tc .vmem S40x8x128 .f32) (harg13 : arg13.IsWhole)
  (arg14 : Memref sig .tc .vmem S40x8x128 .f32) (harg14 : arg14.IsWhole)
  (arg15 : Memref sig .tc .vmem S40x8x128 .f32) (harg15 : arg15.IsWhole)
  (arg16 : Memref sig .tc .vmem S40x8x128 .f32) (harg16 : arg16.IsWhole)
  (v9 : BitVec 32) (v10 : Elt F .i32)
  (X_arg2 : BufTy.Contents (Elt F) arg2.view.ty) (X_arg3 : BufTy.Contents (Elt F) arg3.view.ty) (X_arg4 : BufTy.Contents (Elt F) arg4.view.ty) (X_arg6 : BufTy.Contents (Elt F) arg6.view.ty) (X_arg13 : BufTy.Contents (Elt F) arg13.view.ty) (X_arg14 : BufTy.Contents (Elt F) arg14.view.ty)
  (G_arg8 : BufTy.Contents (Elt F) arg8.view.ty) (G_arg9 : BufTy.Contents (Elt F) arg9.view.ty) (G_arg11 : BufTy.Contents (Elt F) arg11.view.ty) (G_arg15 : BufTy.Contents (Elt F) arg15.view.ty) (G_arg16 : BufTy.Contents (Elt F) arg16.view.ty)

/-- ONE TRIP: the buffers read are left as they are; each buffer written gets the trip's store. -/
theorem trip_run (k : Fin k0_t1_loop.trips) (E : Set ℕ) :
    iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg13.view.loc (c : Thread nD τ) ↦[arg13.view.set]{fullShare} X_arg13) ∗ (arg14.view.loc (c : Thread nD τ) ↦[arg14.view.set]{fullShare} X_arg14) ∗ (arg8.view.loc (c : Thread nD τ) ↦[arg8.view.set]{fullShare} G_arg8) ∗ (arg9.view.loc (c : Thread nD τ) ↦[arg9.view.set]{fullShare} G_arg9) ∗ (arg11.view.loc (c : Thread nD τ) ↦[arg11.view.set]{fullShare} G_arg11) ∗ (arg15.view.loc (c : Thread nD τ) ↦[arg15.view.set]{fullShare} G_arg15) ∗ (arg16.view.loc (c : Thread nD τ) ↦[arg16.view.set]{fullShare} G_arg16) : sProp 𝕄G)
      ⊢ wp frame (wpE (defs₀ (F := F)) 𝒱 (c : Thread nD τ) bd) E
          (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v10 k PUnit.unit)
          (fun _ => iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg13.view.loc (c : Thread nD τ) ↦[arg13.view.set]{fullShare} X_arg13) ∗ (arg14.view.loc (c : Thread nD τ) ↦[arg14.view.set]{fullShare} X_arg14) ∗ (arg8.view.loc (c : Thread nD τ) ↦[arg8.view.set]{fullShare} arg8.view.writes (Elt F) G_arg8 [pcD i v10 (arg2.view.read (Elt F) X_arg2) (arg3.view.read (Elt F) X_arg3) (arg4.view.read (Elt F) X_arg4) (arg6.view.read (Elt F) X_arg6) (arg13.view.read (Elt F) X_arg13) (arg14.view.read (Elt F) X_arg14) k]) ∗ (arg9.view.loc (c : Thread nD τ) ↦[arg9.view.set]{fullShare} arg9.view.writes (Elt F) G_arg9 [pcMc i (arg3.view.read (Elt F) X_arg3) (arg4.view.read (Elt F) X_arg4) (arg13.view.read (Elt F) X_arg13) k]) ∗ (arg11.view.loc (c : Thread nD τ) ↦[arg11.view.set]{fullShare} arg11.view.writes (Elt F) G_arg11 [pcVc i (arg3.view.read (Elt F) X_arg3) (arg6.view.read (Elt F) X_arg6) (arg14.view.read (Elt F) X_arg14) k]) ∗ (arg15.view.loc (c : Thread nD τ) ↦[arg15.view.set]{fullShare} arg15.view.writes (Elt F) G_arg15 [pcMs i (arg3.view.read (Elt F) X_arg3) (arg4.view.read (Elt F) X_arg4) (arg13.view.read (Elt F) X_arg13) k]) ∗ (arg16.view.loc (c : Thread nD τ) ↦[arg16.view.set]{fullShare} arg16.view.writes (Elt F) G_arg16 [pcVs i (arg3.view.read (Elt F) X_arg3) (arg6.view.read (Elt F) X_arg6) (arg14.view.read (Elt F) X_arg14) k]))) := by
  have hk : k.val < 40 := Nat.lt_of_lt_of_le k.isLt k0_t1_abs.2.1
  unfold k0_t1_body
  iintro ⟨HR_arg2, HR_arg3, HR_arg4, HR_arg6, HR_arg13, HR_arg14, HW_arg8, HW_arg9, HW_arg11, HW_arg15, HW_arg16⟩
  sl_exec
  sl_step
  isplitl [HR_arg2]; · iexact HR_arg2
  isplitl [HR_arg3]; · iexact HR_arg3
  isplitl [HR_arg4]; · iexact HR_arg4
  isplitl [HR_arg6]; · iexact HR_arg6
  isplitl [HR_arg13]; · iexact HR_arg13
  isplitl [HR_arg14]; · iexact HR_arg14
  isplitl [HW_arg8]; · iexact HW_arg8
  isplitl [HW_arg9]; · iexact HW_arg9
  isplitl [HW_arg11]; · iexact HW_arg11
  isplitl [HW_arg15]; · iexact HW_arg15
  iexact HW_arg16

set_option warn.classDefReducibility false in
/-- THE LOOP BY ITS INVARIANT: before trip `k` each buffer written holds, over what it held at the loop's start, the
    stores of the trips before `k`. -/
@[sl_loop] def loopInv (E : Set ℕ) :
    Idealize.ShloMosaic.LoopInv (M := 𝕄G) Idealize.ShloMosaic.frame (wpE (defs₀ (F := F)) 𝒱 (c : Thread nD τ) bd) E
      k0_t1_loop.lb k0_t1_loop.ub k0_t1_loop.st k0_t1_ok ()
      (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v10) where
  inv k _ := iprop((arg2.view.loc (c : Thread nD τ) ↦[arg2.view.set]{fullShare} X_arg2) ∗ (arg3.view.loc (c : Thread nD τ) ↦[arg3.view.set]{fullShare} X_arg3) ∗ (arg4.view.loc (c : Thread nD τ) ↦[arg4.view.set]{fullShare} X_arg4) ∗ (arg6.view.loc (c : Thread nD τ) ↦[arg6.view.set]{fullShare} X_arg6) ∗ (arg13.view.loc (c : Thread nD τ) ↦[arg13.view.set]{fullShare} X_arg13) ∗ (arg14.view.loc (c : Thread nD τ) ↦[arg14.view.set]{fullShare} X_arg14) ∗ (∃ f, (arg8.view.loc (c : Thread nD τ) ↦[arg8.view.set]{fullShare} f) ∗ ⌜f = arg8.view.writes (Elt F) G_arg8 (upTo (pcD i v10 (arg2.view.read (Elt F) X_arg2) (arg3.view.read (Elt F) X_arg3) (arg4.view.read (Elt F) X_arg4) (arg6.view.read (Elt F) X_arg6) (arg13.view.read (Elt F) X_arg13) (arg14.view.read (Elt F) X_arg14)) k)⌝) ∗ (∃ f, (arg9.view.loc (c : Thread nD τ) ↦[arg9.view.set]{fullShare} f) ∗ ⌜f = arg9.view.writes (Elt F) G_arg9 (upTo (pcMc i (arg3.view.read (Elt F) X_arg3) (arg4.view.read (Elt F) X_arg4) (arg13.view.read (Elt F) X_arg13)) k)⌝) ∗ (∃ f, (arg11.view.loc (c : Thread nD τ) ↦[arg11.view.set]{fullShare} f) ∗ ⌜f = arg11.view.writes (Elt F) G_arg11 (upTo (pcVc i (arg3.view.read (Elt F) X_arg3) (arg6.view.read (Elt F) X_arg6) (arg14.view.read (Elt F) X_arg14)) k)⌝) ∗ (∃ f, (arg15.view.loc (c : Thread nD τ) ↦[arg15.view.set]{fullShare} f) ∗ ⌜f = arg15.view.writes (Elt F) G_arg15 (upTo (pcMs i (arg3.view.read (Elt F) X_arg3) (arg4.view.read (Elt F) X_arg4) (arg13.view.read (Elt F) X_arg13)) k)⌝) ∗ (∃ f, (arg16.view.loc (c : Thread nD τ) ↦[arg16.view.set]{fullShare} f) ∗ ⌜f = arg16.view.writes (Elt F) G_arg16 (upTo (pcVs i (arg3.view.read (Elt F) X_arg3) (arg6.view.read (Elt F) X_arg6) (arg14.view.read (Elt F) X_arg14)) k)⌝))
  step k acc := by
    iintro ⟨HR_arg2, HR_arg3, HR_arg4, HR_arg6, HR_arg13, HR_arg14, ⟨%f_arg8, HW_arg8, %h_arg8⟩, ⟨%f_arg9, HW_arg9, %h_arg9⟩, ⟨%f_arg11, HW_arg11, %h_arg11⟩, ⟨%f_arg15, HW_arg15, %h_arg15⟩, ⟨%f_arg16, HW_arg16, %h_arg16⟩⟩
    iapply (wp_wand_r Idealize.ShloMosaic.frame (wpE (defs₀ (F := F)) 𝒱 (c : Thread nD τ) bd) E)
    isplitl [HR_arg2 HR_arg3 HR_arg4 HR_arg6 HR_arg13 HR_arg14 HW_arg8 HW_arg9 HW_arg11 HW_arg15 HW_arg16]
    · iapply (trip_run (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 v9 v10 X_arg2 X_arg3 X_arg4 X_arg6 X_arg13 X_arg14 f_arg8 f_arg9 f_arg11 f_arg15 f_arg16 k E)
      isplitl [HR_arg2]; · iexact HR_arg2
      isplitl [HR_arg3]; · iexact HR_arg3
      isplitl [HR_arg4]; · iexact HR_arg4
      isplitl [HR_arg6]; · iexact HR_arg6
      isplitl [HR_arg13]; · iexact HR_arg13
      isplitl [HR_arg14]; · iexact HR_arg14
      isplitl [HW_arg8]; · iexact HW_arg8
      isplitl [HW_arg9]; · iexact HW_arg9
      isplitl [HW_arg11]; · iexact HW_arg11
      isplitl [HW_arg15]; · iexact HW_arg15
      iexact HW_arg16
    · iintro %_ ⟨HR_arg2, HR_arg3, HR_arg4, HR_arg6, HR_arg13, HR_arg14, HW_arg8, HW_arg9, HW_arg11, HW_arg15, HW_arg16⟩
      rw [upTo_succ, upTo_succ, upTo_succ, upTo_succ, upTo_succ]
      isplitl [HR_arg2]; · iexact HR_arg2
      isplitl [HR_arg3]; · iexact HR_arg3
      isplitl [HR_arg4]; · iexact HR_arg4
      isplitl [HR_arg6]; · iexact HR_arg6
      isplitl [HR_arg13]; · iexact HR_arg13
      isplitl [HR_arg14]; · iexact HR_arg14
      isplitl [HW_arg8]
      · iexists _; isplitl [HW_arg8]; · iexact HW_arg8
        ipureintro; rw [h_arg8, ← View.writes_append]; rfl
      isplitl [HW_arg9]
      · iexists _; isplitl [HW_arg9]; · iexact HW_arg9
        ipureintro; rw [h_arg9, ← View.writes_append]; rfl
      isplitl [HW_arg11]
      · iexists _; isplitl [HW_arg11]; · iexact HW_arg11
        ipureintro; rw [h_arg11, ← View.writes_append]; rfl
      isplitl [HW_arg15]
      · iexists _; isplitl [HW_arg15]; · iexact HW_arg15
        ipureintro; rw [h_arg15, ← View.writes_append]; rfl
      iexists _; isplitl [HW_arg16]; · iexact HW_arg16
      ipureintro; rw [h_arg16, ← View.writes_append]; rfl

end Loop

end Cert.KernelIdeal.Body

end
-- ==== Proof.KernelIdeal.Geom.lean ====
/- Where the kernel body's stores lie, and what the buffers read after them: closed forms of the offsets and the
   conditions over the grid, the blocks assembled from the column loop's stores, and the scale rows moved between the
   [8, 5120] blocks and the [40, 8, 128] scratch. -/
module

public import proofs.«01_k».proof.Proof.KernelIdeal.Loop
public import Idealize.ShloMosaic.Lib.Pipeline.Value

@[expose] public section

set_option maxRecDepth 8192

noncomputable section

namespace Cert.KernelIdeal.Body

open Idealize.ShloMosaic
open Cert.KernelIdeal.Gen Cert.Pieces

variable {F : FTy → Type} [FloatOps F] [Named F]

/-! ## Closed forms -/

/-- The scale row of grid point `i` within its group of eight. -/
abbrev row (i : grid0.Coords) : ℕ := (i 0).val % 8

theorem trips_eq : k0_t1_loop.trips = 40 := by decide +kernel

theorem trips_lt (k : Fin k0_t1_loop.trips) : k.val < 40 := trips_eq ▸ k.isLt

theorem off1_eq : ∀ k : Fin k0_t1_loop.trips, k0_off1 k = ![0, 128 * k.val] := by decide +kernel

theorem coord_lt (i : grid0.Coords) : (i 0).val < 69 := (i 0).isLt

/-- The grid point `n`. -/
def pt (n : Fin 69) : grid0.Coords := fun | 0 => n

theorem eq_pt (i : grid0.Coords) : i = pt (i 0) := funext fun a => by fin_cases a; rfl

theorem off2_0 : ∀ k : Fin k0_t1_loop.trips, ∀ n : Fin 69,
    k0_off2 (pt n) k = ![k.val, n.val % 8, 0] := by decide +kernel

theorem off2_eq (i : grid0.Coords) (k : Fin k0_t1_loop.trips) : k0_off2 i k = ![k.val, row i, 0] := by
  have := off2_0 k (i 0)
  rw [← this]
  rw [← eq_pt]

/-- The body's row-zero condition: the point starts a group of eight grid points. -/
def cond1 (i : grid0.Coords) : BitVec 1 :=
  let arg0 : BitVec 32 := BitVec.ofNat 32 (i 0).val
  let v0 : BitVec 1 := Scalar.cmpi .eq 8#32 0#32
  let v1 : BitVec 32 := Scalar.select v0 1#32 8#32
  let v2 : BitVec 32 := Scalar.remsi arg0 v1
  let v3 : BitVec 1 := Scalar.cmpi .ne v2 0#32
  let v4 : BitVec 1 := Scalar.cmpi .slt v2 0#32
  let v5 : BitVec 1 := Scalar.cmpi .slt v1 0#32
  let v6 : BitVec 1 := Scalar.xori v4 v5
  let v7 : BitVec 1 := Scalar.andi v6 v3
  let v8 : BitVec 32 := Scalar.addi v2 v1
  let v9 : BitVec 32 := Scalar.select v7 v8 v2
  Scalar.cmpi .ne (Scalar.extui (Scalar.cmpi .eq v9 0#32) : BitVec 32) 0#32

theorem cond1_iff (i : grid0.Coords) : cond1 i = 1#1 ↔ row i = 0 := by
  have h : ∀ n : Fin 69, (cond1 (pt n) = 1#1 ↔ n.val % 8 = 0) := by decide +kernel
  have := h (i 0)
  rwa [← eq_pt] at this

theorem cond2_iff (i : grid0.Coords) : k0_cond2 i = 1#1 ↔ row i = 7 ∨ (i 0).val = 68 := by
  have h : ∀ n : Fin 69, (k0_cond2 (pt n) = 1#1 ↔ n.val % 8 = 7 ∨ n.val = 68) := by decide +kernel
  have := h (i 0)
  rwa [← eq_pt] at this

/-! ## Indices -/

/-- The index `(a, b)` of a rank-2 shape. -/
abbrev ix2 {m n : ℕ} (a b : ℕ) (ha : a < m := by omega) (hb : b < n := by omega) : (⟨2, ![m, n]⟩ : Shape).Idx :=
  fun | 0 => ⟨a, ha⟩ | 1 => ⟨b, hb⟩

/-- The index `(a, b, c)` of a rank-3 shape. -/
abbrev ix3 {l m n : ℕ} (a b c : ℕ) (ha : a < l := by omega) (hb : b < m := by omega) (hc : c < n := by omega) :
    (⟨3, ![l, m, n]⟩ : Shape).Idx :=
  fun | 0 => ⟨a, ha⟩ | 1 => ⟨b, hb⟩ | 2 => ⟨c, hc⟩

theorem lt0 {m n : ℕ} (j : (⟨2, ![m, n]⟩ : Shape).Idx) : (j 0).val < m := (j 0).isLt
theorem lt1 {m n : ℕ} (j : (⟨2, ![m, n]⟩ : Shape).Idx) : (j 1).val < n := (j 1).isLt
theorem lt30 {l m n : ℕ} (j : (⟨3, ![l, m, n]⟩ : Shape).Idx) : (j 0).val < l := (j 0).isLt
theorem lt31 {l m n : ℕ} (j : (⟨3, ![l, m, n]⟩ : Shape).Idx) : (j 1).val < m := (j 1).isLt
theorem lt32 {l m n : ℕ} (j : (⟨3, ![l, m, n]⟩ : Shape).Idx) : (j 2).val < n := (j 2).isLt

theorem ext2 {m n : ℕ} {j j' : (⟨2, ![m, n]⟩ : Shape).Idx} (h0 : (j 0).val = (j' 0).val) (h1 : (j 1).val = (j' 1).val) :
    j = j' := funext fun a => by fin_cases a; exacts [Fin.ext h0, Fin.ext h1]

theorem ext3 {l m n : ℕ} {j j' : (⟨3, ![l, m, n]⟩ : Shape).Idx} (h0 : (j 0).val = (j' 0).val)
    (h1 : (j 1).val = (j' 1).val) (h2 : (j 2).val = (j' 2).val) :
    j = j' := funext fun a => by fin_cases a; exacts [Fin.ext h0, Fin.ext h1, Fin.ext h2]

/-- The column group of a column. -/
abbrev grp (n : ℕ) (h : n < 5120) : Fin k0_t1_loop.trips := ⟨n / 128, by rw [trips_eq]; omega⟩

/-! ## A block assembled from the trips' stores -/

/-- The block whose column group `k` is `W k`. -/
def asm {α : Type} (W : Fin k0_t1_loop.trips → S128x128.Idx → α) : S128x5120.Idx → α :=
  fun j => W (grp (j 1).val (lt1 j)) (ix2 (j 0).val ((j 1).val % 128) (lt0 j) (Nat.mod_lt _ (by decide)))

/-- The scratch whose scale row `r` of column group `k` is `W k`, every other row as in `x`. -/
def setRow {α : Type} (r : ℕ) (W : Fin k0_t1_loop.trips → S1x1x128.Idx → α) (x : S40x8x128.Idx → α) : S40x8x128.Idx → α :=
  fun j => if (j 1).val = r then W ⟨(j 0).val, lt_of_lt_of_eq (lt30 j) trips_eq.symm⟩ (ix3 0 0 (j 2).val (by decide) (by decide) (lt32 j)) else x j

section Reads

variable {sig : RefSig} {κ : Kind} {sp : Space} {e : EltTy} {Val : EltTy → Type}

/-- A block after the loop reads the block assembled from the trips' payloads, whatever it held before. -/
theorem read_cols (v : View sig κ sp S128x5120 e) (G : v.ty.Contents Val)
    (W : Fin k0_t1_loop.trips → S128x128.Idx → Val e) :
    v.read Val (v.writes Val G (upTo (fun k => (⟨colR k, W k⟩ : View.Piece Val S128x5120 e)) k0_t1_loop.trips)) = asm W := by
  funext j
  have e0 : ∀ (k : Fin k0_t1_loop.trips) (x : (colR k).shape.Idx), ((colR k).emb x 0).val = (x 0).val := fun k x => by
    show k0_off1 k 0 + 1 * (x 0).val = _; rw [off1_eq]; simp
  have e1 : ∀ (k : Fin k0_t1_loop.trips) (x : (colR k).shape.Idx), ((colR k).emb x 1).val = 128 * k.val + (x 1).val := fun k x => by
    show k0_off1 k 1 + 1 * (x 1).val = _; rw [off1_eq]; simp
  refine View.read_writes_apply_of_pieces v G (asm W) _ ?_ j ?_
  · intro p hp x
    obtain ⟨k, rfl⟩ := exists_of_mem_upTo _ _ hp
    have hx0 : (x 0).val < 128 := (x 0).isLt
    have hx1 : (x 1).val < 128 := (x 1).isLt
    have hk := trips_lt k
    have hg : grp ((colR k).emb x 1).val (lt1 _) = k := Fin.ext (by show ((colR k).emb x 1).val / 128 = _; rw [e1]; omega)
    show W k x = W (grp ((colR k).emb x 1).val (lt1 _)) _
    rw [hg]
    congr 1
    refine ext2 (m := 128) (n := 128) ?_ ?_
    · exact (e0 k x).symm
    · show (x 1).val = ((colR k).emb x 1).val % 128
      rw [e1]; omega
  · refine ⟨_, mem_upTo _ (grp (j 1).val (lt1 j)) _ (grp (j 1).val (lt1 j)).isLt, ?_⟩
    have h0 := lt0 j
    have h1 := lt1 j
    rw [Rect.mem_set_unit]
    intro a
    rw [off1_eq]
    fin_cases a
    · exact ⟨Nat.zero_le _, by show (j 0).val < 0 + 128; omega⟩
    · exact ⟨by show 128 * ((j 1).val / 128) ≤ (j 1).val; omega, by show (j 1).val < 128 * ((j 1).val / 128) + 128; omega⟩

/-- The scratch of new scales after the loop reads the trips' rows at the point's row, and elsewhere what it held. -/
theorem read_rows (i : grid0.Coords) (v : View sig κ sp S40x8x128 e) (G : v.ty.Contents Val)
    (W : Fin k0_t1_loop.trips → S1x1x128.Idx → Val e) :
    v.read Val (v.writes Val G (upTo (fun k => (⟨rowR i k, W k⟩ : View.Piece Val S40x8x128 e)) k0_t1_loop.trips))
      = setRow (row i) W (v.read Val G) := by
  funext j
  have e0 : ∀ (k : Fin k0_t1_loop.trips) (x : (rowR i k).shape.Idx), ((rowR i k).emb x 0).val = k.val := fun k x => by
    have : (x 0).val < 1 := (x 0).isLt
    show k0_off2 i k 0 + 1 * (x 0).val = _; rw [off2_eq]; simp; omega
  have e1 : ∀ (k : Fin k0_t1_loop.trips) (x : (rowR i k).shape.Idx), ((rowR i k).emb x 1).val = row i := fun k x => by
    have : (x 1).val < 1 := (x 1).isLt
    show k0_off2 i k 1 + 1 * (x 1).val = _; rw [off2_eq]; simp; omega
  have e2 : ∀ (k : Fin k0_t1_loop.trips) (x : (rowR i k).shape.Idx), ((rowR i k).emb x 2).val = (x 2).val := fun k x => by
    show k0_off2 i k 2 + 1 * (x 2).val = _; rw [off2_eq]; simp
  by_cases hj : (j 1).val = row i
  · refine View.read_writes_apply_of_pieces v G (setRow (row i) W (v.read Val G)) _ ?_ j ?_
    · intro p hp x
      obtain ⟨k, rfl⟩ := exists_of_mem_upTo _ _ hp
      have hx0 : (x 0).val < 1 := (x 0).isLt
      have hx1 : (x 1).val < 1 := (x 1).isLt
      show W k x = setRow (row i) W _ ((rowR i k).emb x)
      unfold setRow
      rw [if_pos (e1 k x)]
      have hg : (⟨((rowR i k).emb x 0).val, lt_of_lt_of_eq (lt30 _) trips_eq.symm⟩ : Fin k0_t1_loop.trips) = k := Fin.ext (e0 k x)
      rw [hg]
      congr 1
      refine ext3 (l := 1) (m := 1) (n := 128) ?_ ?_ (e2 k x).symm
      · show (x 0).val = 0; omega
      · show (x 1).val = 0; omega
    · refine ⟨_, mem_upTo _ ⟨(j 0).val, lt_of_lt_of_eq (lt30 j) trips_eq.symm⟩ _ (lt_of_lt_of_eq (lt30 j) trips_eq.symm), ?_⟩
      have h2 := lt32 j
      rw [Rect.mem_set_unit]
      intro a
      rw [off2_eq]
      fin_cases a
      · exact ⟨le_refl _, by show (j 0).val < (j 0).val + 1; omega⟩
      · exact ⟨by show row i ≤ (j 1).val; omega, by show (j 1).val < row i + 1; omega⟩
      · exact ⟨Nat.zero_le _, by show (j 2).val < 0 + 128; omega⟩
  · unfold setRow
    rw [if_neg hj]
    refine View.read_writes_apply_of_forall_not_mem v G j _ ?_
    intro p hp hmem
    obtain ⟨k, rfl⟩ := exists_of_mem_upTo _ _ hp
    obtain ⟨x, hx⟩ := (rowR i k).exists_idx_of_mem hmem
    exact hj (by rw [← hx]; exact e1 k x)

end Reads

/-! ## Scale rows in and out of the scratch -/

/-- An [8, 5120] block of scales laid out as 40 groups of 128 columns. -/
def stageIn {α : Type} (x : S8x5120.Idx → α) : S40x8x128.Idx → α :=
  fun j => x (ix2 (j 1).val (128 * (j 0).val + (j 2).val) (lt31 j)
    (by have := lt30 j; have := lt32 j; omega))

/-- 40 groups of 128 columns of scales laid out as an [8, 5120] block. -/
def stageOut {α : Type} (y : S40x8x128.Idx → α) : S8x5120.Idx → α :=
  fun j => y (ix3 ((j 1).val / 128) (j 0).val ((j 1).val % 128) (by have := lt1 j; omega) (lt0 j)
    (Nat.mod_lt _ (by decide)))

/-- The copy of column group `k` into the scratch, at an index. -/
theorem stage_in_piece {α : Type} (x : S8x5120.Idx → α) (k : ℕ) (hk : k < 40)
    (inb : ∀ a, (![0, 128 * k] : Fin 2 → ℕ) a + S8x128.size a ≤ S8x5120.size a)
    (inb' : ∀ a, (![k, 0, 0] : Fin 3 → ℕ) a + S1x8x128.size a ≤ S40x8x128.size a)
    (h : S8x128.ShapeCasts S1x8x128) (y : S1x8x128.Idx) :
    shapeCast S1x8x128 (fun z : S8x128.Idx => x ((Rect.unit (s := S8x5120) ![0, 128 * k] S8x128.size inb).idx z)) h y
      = stageIn x ((Rect.unit (s := S40x8x128) ![k, 0, 0] S1x8x128.size inb').emb y) := by
  have hy : (y 0).val < 1 := (y 0).isLt
  refine (shapeCast_addUnit_apply (n := 2) ![8, 128] _ h y).trans ?_
  unfold stageIn
  refine congrArg x (ext2 (m := 8) (n := 5120) ?_ ?_)
  · show 0 + 1 * (y 1).val = 0 + 1 * (y 1).val; rfl
  · show 128 * k + 1 * (y 2).val = 128 * (k + 1 * (y 0).val) + (0 + 1 * (y 2).val); omega

/-- The copy of column group `k` out of the scratch, at an index. -/
theorem stage_out_piece {α : Type} (x : S40x8x128.Idx → α) (k : ℕ) (hk : k < 40)
    (inb : ∀ a, (![0, 128 * k] : Fin 2 → ℕ) a + S8x128.size a ≤ S8x5120.size a)
    (inb' : ∀ a, (![k, 0, 0] : Fin 3 → ℕ) a + S1x8x128.size a ≤ S40x8x128.size a)
    (h : S1x8x128.ShapeCasts S8x128) (y : S8x128.Idx) :
    shapeCast S8x128 (fun z : S1x8x128.Idx => x ((Rect.unit (s := S40x8x128) ![k, 0, 0] S1x8x128.size inb').idx z)) h y
      = stageOut x ((Rect.unit (s := S8x5120) ![0, 128 * k] S8x128.size inb).emb y) := by
  have hy : (y 1).val < 128 := (y 1).isLt
  refine (shapeCast_dropUnit_apply (n := 2) ![8, 128] _ h y).trans ?_
  unfold stageOut
  refine congrArg x (ext3 (l := 40) (m := 8) (n := 128) ?_ ?_ ?_)
  · show k + 1 * 0 = (128 * k + 1 * (y 1).val) / 128; omega
  · show 0 + 1 * (y 0).val = 0 + 1 * (y 0).val; rfl
  · show 0 + 1 * (y 1).val = (128 * k + 1 * (y 1).val) % 128; omega

end Cert.KernelIdeal.Body

end
-- ==== Proof.KernelIdeal.Blocks.lean ====
/- What the kernel body computes at one grid point, as functions of the blocks it is handed and the scratch it holds. -/
module

public import proofs.«01_k».proof.Proof.KernelIdeal.Geom

@[expose] public section

set_option maxRecDepth 8192

noncomputable section

namespace Cert.KernelIdeal.Body

open Idealize.ShloMosaic
open Cert.KernelIdeal.Gen Cert.Pieces

variable {F : FTy → Type} [FloatOps F] [Named F]

/-- The step counter a one-word block holds. -/
def word (x1 : Vec F S1 .i32) : Elt F .i32 := x1 fun a => ⟨0, by fin_cases a; decide⟩

theorem word_eq (x1 : Vec F S1 .i32) (j : S1.Idx) : x1 j = word x1 :=
  congrArg x1 (funext fun a => by
    fin_cases a
    have : (j 0).val < 1 := (j 0).isLt
    exact Fin.ext (by show (j 0).val = 0; omega))

/-- The update block. -/
def dOf (i : grid0.Coords) (x1 : Vec F S1 .i32) (x2 : Vec F S128x5120 .f32) (x3 : Vec F S128x5120 .bf16)
    (x4 x6 : Vec F S128x5120 .i8) (x13 x14 : Vec F S40x8x128 .f32) : Vec F S128x5120 .f32 :=
  asm (tripD i (word x1) x2 x3 x4 x6 x13 x14)

/-- The block of first-moment codes. -/
def mcOf (i : grid0.Coords) (x3 : Vec F S128x5120 .bf16) (x4 : Vec F S128x5120 .i8) (x13 : Vec F S40x8x128 .f32) :
    Vec F S128x5120 .i8 :=
  asm fun k => k0_pay86 (tripM i x3 x4 x13 k)

/-- The block of second-moment codes. -/
def vcOf (i : grid0.Coords) (x3 : Vec F S128x5120 .bf16) (x6 : Vec F S128x5120 .i8) (x14 : Vec F S40x8x128 .f32) :
    Vec F S128x5120 .i8 :=
  asm fun k => k0_pay175 (tripV i x3 x6 x14 k) (k0_pay88 (tripV i x3 x6 x14 k)) (k0_pay89 (F := F))

/-- The scratch of first-moment scales after the point. -/
def msOf (i : grid0.Coords) (x3 : Vec F S128x5120 .bf16) (x4 : Vec F S128x5120 .i8) (x13 x15 : Vec F S40x8x128 .f32) :
    Vec F S40x8x128 .f32 :=
  setRow (row i) (fun k => k0_pay87 (tripM i x3 x4 x13 k)) x15

/-- The scratch of second-moment scales after the point. -/
def vsOf (i : grid0.Coords) (x3 : Vec F S128x5120 .bf16) (x6 : Vec F S128x5120 .i8) (x14 x16 : Vec F S40x8x128 .f32) :
    Vec F S40x8x128 .f32 :=
  setRow (row i) (fun k => k0_pay176 (k0_pay88 (tripV i x3 x6 x14 k))) x16

end Cert.KernelIdeal.Body

end
-- ==== Proof.KernelIdeal.BodyA.lean ====
/- The kernel body at the first point of a group: its run as a triple over the blocks and the scratch. -/
module

public import proofs.«01_k».proof.Proof.Gen.KernelIdeal.Skeleton
public import proofs.«01_k».proof.Proof.Pieces
public import proofs.«01_k».proof.Proof.KernelIdeal.Blocks
public import Idealize.ShloMosaic.Lib.Ring
public import Idealize.ShloMosaic.Lib.Exec
public import Idealize.ShloMosaic.Lib.Tactic
public import Idealize.ShloMosaic.Lib.Pipeline.Kit
public import Idealize.ShloMosaic.Lib.Pipeline.FrameBody

@[expose] public section

-- a region applies its sixteen memrefs and their facts in every statement
set_option maxRecDepth 8192
set_option maxHeartbeats 1000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Pieces

variable {F : FTy → Type} [FloatOps F] [Named F]

local notation "𝕄G" => MT nD τ sig Unit (Elt F) ℕ (UR sig nD τ) ℕ

variable (𝒱 : Variants) (c : Dev nD) (bd : Option 𝒱.V) (i : grid0.Coords)
  (arg1 : Memref sig .tc .smem S1 .i32) (harg1 : arg1.IsWhole)
  (arg2 : Memref sig .tc .vmem S128x5120 .f32) (harg2 : arg2.IsWhole)
  (arg3 : Memref sig .tc .vmem S128x5120 .bf16) (harg3 : arg3.IsWhole)
  (arg4 : Memref sig .tc .vmem S128x5120 .i8) (harg4 : arg4.IsWhole)
  (arg5 : Memref sig .tc .vmem S8x5120 .f32) (harg5 : arg5.IsWhole)
  (arg6 : Memref sig .tc .vmem S128x5120 .i8) (harg6 : arg6.IsWhole)
  (arg7 : Memref sig .tc .vmem S8x5120 .f32) (harg7 : arg7.IsWhole)
  (arg8 : Memref sig .tc .vmem S128x5120 .f32) (harg8 : arg8.IsWhole)
  (arg9 : Memref sig .tc .vmem S128x5120 .i8) (harg9 : arg9.IsWhole)
  (arg10 : Memref sig .tc .vmem S8x5120 .f32) (harg10 : arg10.IsWhole)
  (arg11 : Memref sig .tc .vmem S128x5120 .i8) (harg11 : arg11.IsWhole)
  (arg12 : Memref sig .tc .vmem S8x5120 .f32) (harg12 : arg12.IsWhole)
  (arg13 : Memref sig .tc .vmem S40x8x128 .f32) (harg13 : arg13.IsWhole)
  (arg14 : Memref sig .tc .vmem S40x8x128 .f32) (harg14 : arg14.IsWhole)
  (arg15 : Memref sig .tc .vmem S40x8x128 .f32) (harg15 : arg15.IsWhole)
  (arg16 : Memref sig .tc .vmem S40x8x128 .f32) (harg16 : arg16.IsWhole)

/-- The run over the buffers' contents. -/
theorem runA_raw (h1 : cond1 i = 1#1) (h2 : ¬ k0_cond2 i = 1#1) (E : Set ℕ)
  (f1 : BufTy.Contents (Elt F) arg1.view.ty) (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare (View.read (Elt F) arg1.view f1) ∗ owns (c : Thread nD τ) arg2 fullShare (View.read (Elt F) arg2.view f2) ∗ owns (c : Thread nD τ) arg3 fullShare (View.read (Elt F) arg3.view f3) ∗ owns (c : Thread nD τ) arg4 fullShare (View.read (Elt F) arg4.view f4) ∗ owns (c : Thread nD τ) arg5 fullShare (View.read (Elt F) arg5.view f5) ∗ owns (c : Thread nD τ) arg6 fullShare (View.read (Elt F) arg6.view f6) ∗ owns (c : Thread nD τ) arg7 fullShare (View.read (Elt F) arg7.view f7) ∗ owns (c : Thread nD τ) arg8 fullShare (dOf i (View.read (Elt F) arg1.view f1) (View.read (Elt F) arg2.view f2) (View.read (Elt F) arg3.view f3) (View.read (Elt F) arg4.view f4) (View.read (Elt F) arg6.view f6) (stageIn (View.read (Elt F) arg5.view f5)) (stageIn (View.read (Elt F) arg7.view f7))) ∗ owns (c : Thread nD τ) arg9 fullShare (mcOf i (View.read (Elt F) arg3.view f3) (View.read (Elt F) arg4.view f4) (stageIn (View.read (Elt F) arg5.view f5))) ∗ owns (c : Thread nD τ) arg11 fullShare (vcOf i (View.read (Elt F) arg3.view f3) (View.read (Elt F) arg6.view f6) (stageIn (View.read (Elt F) arg7.view f7))) ∗ owns (c : Thread nD τ) arg13 fullShare (stageIn (View.read (Elt F) arg5.view f5)) ∗ owns (c : Thread nD τ) arg14 fullShare (stageIn (View.read (Elt F) arg7.view f7)) ∗ owns (c : Thread nD τ) arg15 fullShare (msOf i (View.read (Elt F) arg3.view f3) (View.read (Elt F) arg4.view f4) (stageIn (View.read (Elt F) arg5.view f5)) (View.read (Elt F) arg15.view f15)) ∗ owns (c : Thread nD τ) arg16 fullShare (vsOf i (View.read (Elt F) arg3.view f3) (View.read (Elt F) arg6.view f6) (stageIn (View.read (Elt F) arg7.view f7)) (View.read (Elt F) arg16.view f16)))) := by
  unfold owns
  iintro ⟨H1, H2, H3, H4, H5, H6, H7, H8, H9, H11, H13, H14, H15, H16⟩
  simp only [cc0_adamw8_eq_skeleton]; unfold cc0_adamw8_skel
  simp only [k0_part28_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  sl_exec
  sl_step
  have hw : runA_raw.sl.r arg1 f1 = word (View.read (Elt F) arg1.view f1) := word_eq (F := F) (View.read (Elt F) arg1.view f1) _
  rw [hw]
  have s13 : View.read (Elt F) arg13.view (arg13.view.writes (Elt F) arg13.view.junk (runA_raw.sl.H13_40 arg5 f5)) = stageIn (View.read (Elt F) arg5.view f5) := by
    refine funext fun j => View.read_writes_apply_of_pieces arg13.view _ (stageIn (View.read (Elt F) arg5.view f5)) _ ?_ j (View.cover_of_tiledL (s := S40x8x128) _ S1x8x128.size (by sl_kernel_rfl) j)
    unfold runA_raw.sl.H13_40
    simp only [List.forall_mem_cons]
    exact ⟨fun y => stage_in_piece (View.read (Elt F) arg5.view f5) 39 (by decide) (by decide) (by decide) _ y, fun y => stage_in_piece (View.read (Elt F) arg5.view f5) 38 (by decide) (by decide) (by decide) _ y, fun y => stage_in_piece (View.read (Elt F) arg5.view f5) 37 (by decide) (by decide) (by decide) _ y, fun y => stage_in_piece (View.read (Elt F) arg5.view f5) 36 (by decide) (by decide) (by decide) _ y, fun y => stage_in_piece (View.read (Elt F) arg5.view f5) 35 (by decide) (by decide) (by decide) _ y, fun y => stage_in_piece (View.read (Elt F) arg5.view f5) 34 (by decide) (by decide) (by decide) _ y, fun y => stage_in_piece (View.read (Elt F) arg5.view f5) 33 (by decide) (by decide) (by decide) _ y, fun y => stage_in_piece (View.read (Elt F) arg5.view f5) 32 (by decide) (by decide) (by decide) _ y, fun y => stage_in_piece (View.read (Elt F) arg5.view f5) 31 (by decide) (by decide) (by decide) _ y, fun y => stage_in_piece (View.read (Elt F) arg5.view f5) 30 (by decide) (by decide) (by decide) _ y, fun y => stage_in_piece (View.read (Elt F) arg5.view f5) 29 (by decide) (by decide) (by decide) _ y, fun y => stage_in_piece (View.read (Elt F) arg5.view f5) 28 (by decide) (by decide) (by decide) _ y, fun y => stage_in_piece (View.read (Elt F) arg5.view f5) 27 (by decide) (by decide) (by decide) _ y, fun y => stage_in_piece (View.read (Elt F) arg5.view f5) 26 (by decide) (by decide) (by decide) _ y, fun y => stage_in_piece (View.read (Elt F) arg5.view f5) 25 (by decide) (by decide) (by decide) _ y, fun y => stage_in_piece (View.read (Elt F) arg5.view f5) 24 (by decide) (by decide) (by decide) _ y, fun y => stage_in_piece (View.read (Elt F) arg5.view f5) 23 (by decide) (by decide) (by decide) _ y, fun y => stage_in_piece (View.read (Elt F) arg5.view f5) 22 (by decide) (by decide) (by decide) _ y, fun y => stage_in_piece (View.read (Elt F) arg5.view f5) 21 (by decide) (by decide) (by decide) _ y, fun y => stage_in_piece (View.read (Elt F) arg5.view f5) 20 (by decide) (by decide) (by decide) _ y, fun y => stage_in_piece (View.read (Elt F) arg5.view f5) 19 (by decide) (by decide) (by decide) _ y, fun y => stage_in_piece (View.read (Elt F) arg5.view f5) 18 (by decide) (by decide) (by decide) _ y, fun y => stage_in_piece (View.read (Elt F) arg5.view f5) 17 (by decide) (by decide) (by decide) _ y, fun y => stage_in_piece (View.read (Elt F) arg5.view f5) 16 (by decide) (by decide) (by decide) _ y, fun y => stage_in_piece (View.read (Elt F) arg5.view f5) 15 (by decide) (by decide) (by decide) _ y, fun y => stage_in_piece (View.read (Elt F) arg5.view f5) 14 (by decide) (by decide) (by decide) _ y, fun y => stage_in_piece (View.read (Elt F) arg5.view f5) 13 (by decide) (by decide) (by decide) _ y, fun y => stage_in_piece (View.read (Elt F) arg5.view f5) 12 (by decide) (by decide) (by decide) _ y, fun y => stage_in_piece (View.read (Elt F) arg5.view f5) 11 (by decide) (by decide) (by decide) _ y, fun y => stage_in_piece (View.read (Elt F) arg5.view f5) 10 (by decide) (by decide) (by decide) _ y, fun y => stage_in_piece (View.read (Elt F) arg5.view f5) 9 (by decide) (by decide) (by decide) _ y, fun y => stage_in_piece (View.read (Elt F) arg5.view f5) 8 (by decide) (by decide) (by decide) _ y, fun y => stage_in_piece (View.read (Elt F) arg5.view f5) 7 (by decide) (by decide) (by decide) _ y, fun y => stage_in_piece (View.read (Elt F) arg5.view f5) 6 (by decide) (by decide) (by decide) _ y, fun y => stage_in_piece (View.read (Elt F) arg5.view f5) 5 (by decide) (by decide) (by decide) _ y, fun y => stage_in_piece (View.read (Elt F) arg5.view f5) 4 (by decide) (by decide) (by decide) _ y, fun y => stage_in_piece (View.read (Elt F) arg5.view f5) 3 (by decide) (by decide) (by decide) _ y, fun y => stage_in_piece (View.read (Elt F) arg5.view f5) 2 (by decide) (by decide) (by decide) _ y, fun y => stage_in_piece (View.read (Elt F) arg5.view f5) 1 (by decide) (by decide) (by decide) _ y, fun y => stage_in_piece (View.read (Elt F) arg5.view f5) 0 (by decide) (by decide) (by decide) _ y, List.forall_mem_nil _⟩
  have s14 : View.read (Elt F) arg14.view (arg14.view.writes (Elt F) arg14.view.junk (runA_raw.sl.H14_40 arg7 f7)) = stageIn (View.read (Elt F) arg7.view f7) := by
    refine funext fun j => View.read_writes_apply_of_pieces arg14.view _ (stageIn (View.read (Elt F) arg7.view f7)) _ ?_ j (View.cover_of_tiledL (s := S40x8x128) _ S1x8x128.size (by sl_kernel_rfl) j)
    unfold runA_raw.sl.H14_40
    simp only [List.forall_mem_cons]
    exact ⟨fun y => stage_in_piece (View.read (Elt F) arg7.view f7) 39 (by decide) (by decide) (by decide) _ y, fun y => stage_in_piece (View.read (Elt F) arg7.view f7) 38 (by decide) (by decide) (by decide) _ y, fun y => stage_in_piece (View.read (Elt F) arg7.view f7) 37 (by decide) (by decide) (by decide) _ y, fun y => stage_in_piece (View.read (Elt F) arg7.view f7) 36 (by decide) (by decide) (by decide) _ y, fun y => stage_in_piece (View.read (Elt F) arg7.view f7) 35 (by decide) (by decide) (by decide) _ y, fun y => stage_in_piece (View.read (Elt F) arg7.view f7) 34 (by decide) (by decide) (by decide) _ y, fun y => stage_in_piece (View.read (Elt F) arg7.view f7) 33 (by decide) (by decide) (by decide) _ y, fun y => stage_in_piece (View.read (Elt F) arg7.view f7) 32 (by decide) (by decide) (by decide) _ y, fun y => stage_in_piece (View.read (Elt F) arg7.view f7) 31 (by decide) (by decide) (by decide) _ y, fun y => stage_in_piece (View.read (Elt F) arg7.view f7) 30 (by decide) (by decide) (by decide) _ y, fun y => stage_in_piece (View.read (Elt F) arg7.view f7) 29 (by decide) (by decide) (by decide) _ y, fun y => stage_in_piece (View.read (Elt F) arg7.view f7) 28 (by decide) (by decide) (by decide) _ y, fun y => stage_in_piece (View.read (Elt F) arg7.view f7) 27 (by decide) (by decide) (by decide) _ y, fun y => stage_in_piece (View.read (Elt F) arg7.view f7) 26 (by decide) (by decide) (by decide) _ y, fun y => stage_in_piece (View.read (Elt F) arg7.view f7) 25 (by decide) (by decide) (by decide) _ y, fun y => stage_in_piece (View.read (Elt F) arg7.view f7) 24 (by decide) (by decide) (by decide) _ y, fun y => stage_in_piece (View.read (Elt F) arg7.view f7) 23 (by decide) (by decide) (by decide) _ y, fun y => stage_in_piece (View.read (Elt F) arg7.view f7) 22 (by decide) (by decide) (by decide) _ y, fun y => stage_in_piece (View.read (Elt F) arg7.view f7) 21 (by decide) (by decide) (by decide) _ y, fun y => stage_in_piece (View.read (Elt F) arg7.view f7) 20 (by decide) (by decide) (by decide) _ y, fun y => stage_in_piece (View.read (Elt F) arg7.view f7) 19 (by decide) (by decide) (by decide) _ y, fun y => stage_in_piece (View.read (Elt F) arg7.view f7) 18 (by decide) (by decide) (by decide) _ y, fun y => stage_in_piece (View.read (Elt F) arg7.view f7) 17 (by decide) (by decide) (by decide) _ y, fun y => stage_in_piece (View.read (Elt F) arg7.view f7) 16 (by decide) (by decide) (by decide) _ y, fun y => stage_in_piece (View.read (Elt F) arg7.view f7) 15 (by decide) (by decide) (by decide) _ y, fun y => stage_in_piece (View.read (Elt F) arg7.view f7) 14 (by decide) (by decide) (by decide) _ y, fun y => stage_in_piece (View.read (Elt F) arg7.view f7) 13 (by decide) (by decide) (by decide) _ y, fun y => stage_in_piece (View.read (Elt F) arg7.view f7) 12 (by decide) (by decide) (by decide) _ y, fun y => stage_in_piece (View.read (Elt F) arg7.view f7) 11 (by decide) (by decide) (by decide) _ y, fun y => stage_in_piece (View.read (Elt F) arg7.view f7) 10 (by decide) (by decide) (by decide) _ y, fun y => stage_in_piece (View.read (Elt F) arg7.view f7) 9 (by decide) (by decide) (by decide) _ y, fun y => stage_in_piece (View.read (Elt F) arg7.view f7) 8 (by decide) (by decide) (by decide) _ y, fun y => stage_in_piece (View.read (Elt F) arg7.view f7) 7 (by decide) (by decide) (by decide) _ y, fun y => stage_in_piece (View.read (Elt F) arg7.view f7) 6 (by decide) (by decide) (by decide) _ y, fun y => stage_in_piece (View.read (Elt F) arg7.view f7) 5 (by decide) (by decide) (by decide) _ y, fun y => stage_in_piece (View.read (Elt F) arg7.view f7) 4 (by decide) (by decide) (by decide) _ y, fun y => stage_in_piece (View.read (Elt F) arg7.view f7) 3 (by decide) (by decide) (by decide) _ y, fun y => stage_in_piece (View.read (Elt F) arg7.view f7) 2 (by decide) (by decide) (by decide) _ y, fun y => stage_in_piece (View.read (Elt F) arg7.view f7) 1 (by decide) (by decide) (by decide) _ y, fun y => stage_in_piece (View.read (Elt F) arg7.view f7) 0 (by decide) (by decide) (by decide) _ y, List.forall_mem_nil _⟩
  rw [s13, s14]
  isplitl [H1]
  · iexists _; isplitr
    rotate_left
    · iexact H1
    · ipureintro; rfl
  isplitl [H2]
  · iexists _; isplitr
    rotate_left
    · iexact H2
    · ipureintro; rfl
  isplitl [H3]
  · iexists _; isplitr
    rotate_left
    · iexact H3
    · ipureintro; rfl
  isplitl [H4]
  · iexists _; isplitr
    rotate_left
    · iexact H4
    · ipureintro; rfl
  isplitl [H5]
  · iexists _; isplitr
    rotate_left
    · iexact H5
    · ipureintro; rfl
  isplitl [H6]
  · iexists _; isplitr
    rotate_left
    · iexact H6
    · ipureintro; rfl
  isplitl [H7]
  · iexists _; isplitr
    rotate_left
    · iexact H7
    · ipureintro; rfl
  isplitl [H8]
  · iexists _; isplitr
    rotate_left
    · iexact H8
    · ipureintro; exact read_cols arg8.view f8 _
  isplitl [H9]
  · iexists _; isplitr
    rotate_left
    · iexact H9
    · ipureintro; exact read_cols arg9.view f9 _
  isplitl [H11]
  · iexists _; isplitr
    rotate_left
    · iexact H11
    · ipureintro; exact read_cols arg11.view f11 _
  isplitl [H13]
  · iexists _; isplitr
    rotate_left
    · iexact H13
    · ipureintro; exact s13
  isplitl [H14]
  · iexists _; isplitr
    rotate_left
    · iexact H14
    · ipureintro; exact s14
  isplitl [H15]
  · iexists _; isplitr
    rotate_left
    · iexact H15
    · ipureintro; exact read_rows i arg15.view f15 _
  iexists _; isplitr
  rotate_left
  · iexact H16
  · ipureintro; exact read_rows i arg16.view f16 _

/-- THE FIRST POINT OF A GROUP: the old scales of the group are laid out in the scratch, then the column loop runs on them. -/
theorem runA (h1 : cond1 i = 1#1) (h2 : ¬ k0_cond2 i = 1#1) (E : Set ℕ)
  (x1 : Vec F S1 .i32) (x2 : Vec F S128x5120 .f32) (x3 : Vec F S128x5120 .bf16) (x4 : Vec F S128x5120 .i8) (x5 : Vec F S8x5120 .f32) (x6 : Vec F S128x5120 .i8) (x7 : Vec F S8x5120 .f32) (x8 : Vec F S128x5120 .f32) (x9 : Vec F S128x5120 .i8) (x11 : Vec F S128x5120 .i8) (x13 : Vec F S40x8x128 .f32) (x14 : Vec F S40x8x128 .f32) (x15 : Vec F S40x8x128 .f32) (x16 : Vec F S40x8x128 .f32) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg11 fullShare x11 ∗ owns (c : Thread nD τ) arg13 fullShare x13 ∗ owns (c : Thread nD τ) arg14 fullShare x14 ∗ owns (c : Thread nD τ) arg15 fullShare x15 ∗ owns (c : Thread nD τ) arg16 fullShare x16 : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (dOf i x1 x2 x3 x4 x6 (stageIn x5) (stageIn x7)) ∗ owns (c : Thread nD τ) arg9 fullShare (mcOf i x3 x4 (stageIn x5)) ∗ owns (c : Thread nD τ) arg11 fullShare (vcOf i x3 x6 (stageIn x7)) ∗ owns (c : Thread nD τ) arg13 fullShare (stageIn x5) ∗ owns (c : Thread nD τ) arg14 fullShare (stageIn x7) ∗ owns (c : Thread nD τ) arg15 fullShare (msOf i x3 x4 (stageIn x5) x15) ∗ owns (c : Thread nD τ) arg16 fullShare (vsOf i x3 x6 (stageIn x7) x16))) := by
  have key := runA_raw (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 E
  unfold owns at key ⊢
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f11, %hf11, H11⟩, ⟨%f13, %hf13, H13⟩, ⟨%f14, %hf14, H14⟩, ⟨%f15, %hf15, H15⟩, ⟨%f16, %hf16, H16⟩⟩
  subst hf1
  subst hf2
  subst hf3
  subst hf4
  subst hf5
  subst hf6
  subst hf7
  subst hf8
  subst hf9
  subst hf11
  subst hf13
  subst hf14
  subst hf15
  subst hf16
  iapply (key f1 f2 f3 f4 f5 f6 f7 f8 f9 f11 f13 f14 f15 f16)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H11]; · iexact H11
  isplitl [H13]; · iexact H13
  isplitl [H14]; · iexact H14
  isplitl [H15]; · iexact H15
  iexact H16

end Cert.KernelIdeal.Body

end
-- ==== Proof.KernelIdeal.BodyB.lean ====
/- The kernel body at a point inside a group: its run as a triple over the blocks and the scratch. -/
module

public import proofs.«01_k».proof.Proof.Gen.KernelIdeal.Skeleton
public import proofs.«01_k».proof.Proof.Pieces
public import proofs.«01_k».proof.Proof.KernelIdeal.Blocks
public import Idealize.ShloMosaic.Lib.Ring
public import Idealize.ShloMosaic.Lib.Exec
public import Idealize.ShloMosaic.Lib.Tactic
public import Idealize.ShloMosaic.Lib.Pipeline.Kit
public import Idealize.ShloMosaic.Lib.Pipeline.FrameBody

@[expose] public section

-- a region applies its sixteen memrefs and their facts in every statement
set_option maxRecDepth 8192
set_option maxHeartbeats 1000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Pieces

variable {F : FTy → Type} [FloatOps F] [Named F]

local notation "𝕄G" => MT nD τ sig Unit (Elt F) ℕ (UR sig nD τ) ℕ

variable (𝒱 : Variants) (c : Dev nD) (bd : Option 𝒱.V) (i : grid0.Coords)
  (arg1 : Memref sig .tc .smem S1 .i32) (harg1 : arg1.IsWhole)
  (arg2 : Memref sig .tc .vmem S128x5120 .f32) (harg2 : arg2.IsWhole)
  (arg3 : Memref sig .tc .vmem S128x5120 .bf16) (harg3 : arg3.IsWhole)
  (arg4 : Memref sig .tc .vmem S128x5120 .i8) (harg4 : arg4.IsWhole)
  (arg5 : Memref sig .tc .vmem S8x5120 .f32) (harg5 : arg5.IsWhole)
  (arg6 : Memref sig .tc .vmem S128x5120 .i8) (harg6 : arg6.IsWhole)
  (arg7 : Memref sig .tc .vmem S8x5120 .f32) (harg7 : arg7.IsWhole)
  (arg8 : Memref sig .tc .vmem S128x5120 .f32) (harg8 : arg8.IsWhole)
  (arg9 : Memref sig .tc .vmem S128x5120 .i8) (harg9 : arg9.IsWhole)
  (arg10 : Memref sig .tc .vmem S8x5120 .f32) (harg10 : arg10.IsWhole)
  (arg11 : Memref sig .tc .vmem S128x5120 .i8) (harg11 : arg11.IsWhole)
  (arg12 : Memref sig .tc .vmem S8x5120 .f32) (harg12 : arg12.IsWhole)
  (arg13 : Memref sig .tc .vmem S40x8x128 .f32) (harg13 : arg13.IsWhole)
  (arg14 : Memref sig .tc .vmem S40x8x128 .f32) (harg14 : arg14.IsWhole)
  (arg15 : Memref sig .tc .vmem S40x8x128 .f32) (harg15 : arg15.IsWhole)
  (arg16 : Memref sig .tc .vmem S40x8x128 .f32) (harg16 : arg16.IsWhole)

/-- The run over the buffers' contents. -/
theorem runB_raw (h1 : ¬ cond1 i = 1#1) (h2 : ¬ k0_cond2 i = 1#1) (E : Set ℕ)
  (f1 : BufTy.Contents (Elt F) arg1.view.ty) (f2 : BufTy.Contents (Elt F) arg2.view.ty) (f3 : BufTy.Contents (Elt F) arg3.view.ty) (f4 : BufTy.Contents (Elt F) arg4.view.ty) (f6 : BufTy.Contents (Elt F) arg6.view.ty) (f8 : BufTy.Contents (Elt F) arg8.view.ty) (f9 : BufTy.Contents (Elt F) arg9.view.ty) (f11 : BufTy.Contents (Elt F) arg11.view.ty) (f13 : BufTy.Contents (Elt F) arg13.view.ty) (f14 : BufTy.Contents (Elt F) arg14.view.ty) (f15 : BufTy.Contents (Elt F) arg15.view.ty) (f16 : BufTy.Contents (Elt F) arg16.view.ty) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg11.view.loc (c : Thread nD τ) ↦[arg11.view.set]{fullShare} f11) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare (View.read (Elt F) arg1.view f1) ∗ owns (c : Thread nD τ) arg2 fullShare (View.read (Elt F) arg2.view f2) ∗ owns (c : Thread nD τ) arg3 fullShare (View.read (Elt F) arg3.view f3) ∗ owns (c : Thread nD τ) arg4 fullShare (View.read (Elt F) arg4.view f4) ∗ owns (c : Thread nD τ) arg6 fullShare (View.read (Elt F) arg6.view f6) ∗ owns (c : Thread nD τ) arg8 fullShare (dOf i (View.read (Elt F) arg1.view f1) (View.read (Elt F) arg2.view f2) (View.read (Elt F) arg3.view f3) (View.read (Elt F) arg4.view f4) (View.read (Elt F) arg6.view f6) (View.read (Elt F) arg13.view f13) (View.read (Elt F) arg14.view f14)) ∗ owns (c : Thread nD τ) arg9 fullShare (mcOf i (View.read (Elt F) arg3.view f3) (View.read (Elt F) arg4.view f4) (View.read (Elt F) arg13.view f13)) ∗ owns (c : Thread nD τ) arg11 fullShare (vcOf i (View.read (Elt F) arg3.view f3) (View.read (Elt F) arg6.view f6) (View.read (Elt F) arg14.view f14)) ∗ owns (c : Thread nD τ) arg13 fullShare (View.read (Elt F) arg13.view f13) ∗ owns (c : Thread nD τ) arg14 fullShare (View.read (Elt F) arg14.view f14) ∗ owns (c : Thread nD τ) arg15 fullShare (msOf i (View.read (Elt F) arg3.view f3) (View.read (Elt F) arg4.view f4) (View.read (Elt F) arg13.view f13) (View.read (Elt F) arg15.view f15)) ∗ owns (c : Thread nD τ) arg16 fullShare (vsOf i (View.read (Elt F) arg3.view f3) (View.read (Elt F) arg6.view f6) (View.read (Elt F) arg14.view f14) (View.read (Elt F) arg16.view f16)))) := by
  unfold owns
  iintro ⟨H1, H2, H3, H4, H6, H8, H9, H11, H13, H14, H15, H16⟩
  simp only [cc0_adamw8_eq_skeleton]; unfold cc0_adamw8_skel
  simp only [k0_part28_eq_skeleton]
  sl_exec
  sl_step
  have hw : runB_raw.sl.r arg1 f1 = word (View.read (Elt F) arg1.view f1) := word_eq (F := F) (View.read (Elt F) arg1.view f1) _
  rw [hw]
  isplitl [H1]
  · iexists _; isplitr
    rotate_left
    · iexact H1
    · ipureintro; rfl
  isplitl [H2]
  · iexists _; isplitr
    rotate_left
    · iexact H2
    · ipureintro; rfl
  isplitl [H3]
  · iexists _; isplitr
    rotate_left
    · iexact H3
    · ipureintro; rfl
  isplitl [H4]
  · iexists _; isplitr
    rotate_left
    · iexact H4
    · ipureintro; rfl
  isplitl [H6]
  · iexists _; isplitr
    rotate_left
    · iexact H6
    · ipureintro; rfl
  isplitl [H8]
  · iexists _; isplitr
    rotate_left
    · iexact H8
    · ipureintro; exact read_cols arg8.view f8 _
  isplitl [H9]
  · iexists _; isplitr
    rotate_left
    · iexact H9
    · ipureintro; exact read_cols arg9.view f9 _
  isplitl [H11]
  · iexists _; isplitr
    rotate_left
    · iexact H11
    · ipureintro; exact read_cols arg11.view f11 _
  isplitl [H13]
  · iexists _; isplitr
    rotate_left
    · iexact H13
    · ipureintro; rfl
  isplitl [H14]
  · iexists _; isplitr
    rotate_left
    · iexact H14
    · ipureintro; rfl
  isplitl [H15]
  · iexists _; isplitr
    rotate_left
    · iexact H15
    · ipureintro; exact read_rows i arg15.view f15 _
  iexists _; isplitr
  rotate_left
  · iexact H16
  · ipureintro; exact read_rows i arg16.view f16 _

/-- A POINT INSIDE A GROUP: the column loop runs on the scratch as it stands. -/
theorem runB (h1 : ¬ cond1 i = 1#1) (h2 : ¬ k0_cond2 i = 1#1) (E : Set ℕ)
  (x1 : Vec F S1 .i32) (x2 : Vec F S128x5120 .f32) (x3 : Vec F S128x5120 .bf16) (x4 : Vec F S128x5120 .i8) (x6 : Vec F S128x5120 .i8) (x8 : Vec F S128x5120 .f32) (x9 : Vec F S128x5120 .i8) (x11 : Vec F S128x5120 .i8) (x13 : Vec F S40x8x128 .f32) (x14 : Vec F S40x8x128 .f32) (x15 : Vec F S40x8x128 .f32) (x16 : Vec F S40x8x128 .f32) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg8 fullShare x8 ∗ owns (c : Thread nD τ) arg9 fullShare x9 ∗ owns (c : Thread nD τ) arg11 fullShare x11 ∗ owns (c : Thread nD τ) arg13 fullShare x13 ∗ owns (c : Thread nD τ) arg14 fullShare x14 ∗ owns (c : Thread nD τ) arg15 fullShare x15 ∗ owns (c : Thread nD τ) arg16 fullShare x16 : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg8 fullShare (dOf i x1 x2 x3 x4 x6 x13 x14) ∗ owns (c : Thread nD τ) arg9 fullShare (mcOf i x3 x4 x13) ∗ owns (c : Thread nD τ) arg11 fullShare (vcOf i x3 x6 x14) ∗ owns (c : Thread nD τ) arg13 fullShare x13 ∗ owns (c : Thread nD τ) arg14 fullShare x14 ∗ owns (c : Thread nD τ) arg15 fullShare (msOf i x3 x4 x13 x15) ∗ owns (c : Thread nD τ) arg16 fullShare (vsOf i x3 x6 x14 x16))) := by
  have key := runB_raw (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 E
  unfold owns at key ⊢
  iintro ⟨⟨%f1, %hf1, H1⟩, ⟨%f2, %hf2, H2⟩, ⟨%f3, %hf3, H3⟩, ⟨%f4, %hf4, H4⟩, ⟨%f6, %hf6, H6⟩, ⟨%f8, %hf8, H8⟩, ⟨%f9, %hf9, H9⟩, ⟨%f11, %hf11, H11⟩, ⟨%f13, %hf13, H13⟩, ⟨%f14, %hf14, H14⟩, ⟨%f15, %hf15, H15⟩, ⟨%f16, %hf16, H16⟩⟩
  subst hf1
  subst hf2
  subst hf3
  subst hf4
  subst hf6
  subst hf8
  subst hf9
  subst hf11
  subst hf13
  subst hf14
  subst hf15
  subst hf16
  iapply (key f1 f2 f3 f4 f6 f8 f9 f11 f13 f14 f15 f16)
  isplitl [H1]; · iexact H1
  isplitl [H2]; · iexact H2
  isplitl [H3]; · iexact H3
  isplitl [H4]; · iexact H4
  isplitl [H6]; · iexact H6
  isplitl [H8]; · iexact H8
  isplitl [H9]; · iexact H9
  isplitl [H11]; · iexact H11
  isplitl [H13]; · iexact H13
  isplitl [H14]; · iexact H14
  isplitl [H15]; · iexact H15
  iexact H16

end Cert.KernelIdeal.Body

end
-- ==== Proof.KernelIdeal.BodyC.lean ====
/- The kernel body at the last point of a group: its run as a triple over the blocks and the scratch. -/
module

public import proofs.«01_k».proof.Proof.Gen.KernelIdeal.Skeleton
public import proofs.«01_k».proof.Proof.Pieces
public import proofs.«01_k».proof.Proof.KernelIdeal.Blocks
public import Idealize.ShloMosaic.Lib.Ring
public import Idealize.ShloMosaic.Lib.Exec
public import Idealize.ShloMosaic.Lib.Tactic
public import Idealize.ShloMosaic.Lib.Pipeline.Kit
public import Idealize.ShloMosaic.Lib.Pipeline.FrameBody

@[expose] public section

-- a region applies its sixteen memrefs and their facts in every statement
set_option maxRecDepth 8192
set_option maxHeartbeats 1000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Pieces

variable {F : FTy → Type} [FloatOps F] [Named F]

local notation "𝕄G" => MT nD τ sig Unit (Elt F) ℕ (UR sig nD τ) ℕ

variable (𝒱 : Variants) (c : Dev nD) (bd : Option 𝒱.V) (i : grid0.Coords)
  (arg1 : Memref sig .tc .smem S1 .i32) (harg1 : arg1.IsWhole)
  (arg2 : Memref sig .tc .vmem S128x5120 .f32) (harg2 : arg2.IsWhole)
  (arg3 : Memref sig .tc .vmem S128x5120 .bf16) (harg3 : arg3.IsWhole)
  (arg4 : Memref sig .tc .vmem S128x5120 .i8) (harg4 : arg4.IsWhole)
  (arg5 : Memref sig .tc .vmem S8x5120 .f32) (harg5 : arg5.IsWhole)
  (arg6 : Memref sig .tc .vmem S128x5120 .i8) (harg6 : arg6.IsWhole)
  (arg7 : Memref sig .tc .vmem S8x5120 .f32) (harg7 : arg7.IsWhole)
  (arg8 : Memref sig .tc .vmem S128x5120 .f32) (harg8 : arg8.IsWhole)
  (arg9 : Memref sig .tc .vmem S128x5120 .i8) (harg9 : arg9.IsWhole)
  (arg10 : Memref sig .tc .vmem S8x5120 .f32) (harg10 : arg10.IsWhole)
  (arg11 : Memref sig .tc .vmem S128x5120 .i8) (harg11 : arg11.IsWhole)
  (arg12 : Memref sig .tc .vmem S8x5120 .f32) (harg12 : arg12.IsWhole)
  (arg13 : Memref sig .tc .vmem S40x8x128 .f32) (harg13 : arg13.IsWhole)
  (arg14 : Memref sig .tc .vmem S40x8x128 .f32) (harg14 : arg14.IsWhole)
  (arg15 : Memref sig .tc .vmem S40x8x128 .f32) (harg15 : arg15.IsWhole)
  (arg16 : Memref sig .tc .vmem S40x8x128 .f32) (harg16 : arg16.IsWhole)

/-- The run over the buffers' contents. -/
theorem runC_raw (h1 : ¬ cond1 i = 1#1) (h2 : k0_cond2 i = 1#1) (E : Set ℕ)
  (f1 : BufTy.Contents (Elt F) arg1.view.ty) (f2 : BufTy.Contents (Elt F) arg2.view.ty) (f3 : BufTy.Contents (Elt F) arg3.view.ty) (f4 : BufTy.Contents (Elt F) arg4.view.ty) (f6 : BufTy.Contents (Elt F) arg6.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty) (f16 : BufTy.Contents (Elt F) arg16.view.ty) :
    iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16) : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare (View.read (Elt F) arg1.view f1) ∗ owns (c : Thread nD τ) arg2 fullShare (View.read (Elt F) arg2.view f2) ∗ owns (c : Thread nD τ) arg3 fullShare (View.read (Elt F) arg3.view f3) ∗ owns (c : Thread nD τ) arg4 fullShare (View.read (Elt F) arg4.view f4) ∗ owns (c : Thread nD τ) arg6 fullShare (View.read (Elt F) arg6.view f6) ∗ owns (c : Thread nD τ) arg8 fullShare (dOf i (View.read (Elt F) arg1.view f1) (View.read (Elt F) arg2.view f2) (View.read (Elt F) arg3.view f3) (View.read (Elt F) arg4.view f4) (View.read (Elt F) arg6.view f6) (View.read (Elt F) arg13.view f13) (View.read (Elt F) arg14.view f14)) ∗ owns (c : Thread nD τ) arg9 fullShare (mcOf i (View.read (Elt F) arg3.view f3) (View.read (Elt F) arg4.view f4) (View.read (Elt F) arg13.view f13)) ∗ owns (c : Thread nD τ) arg10 fullShare (stageOut (msOf i (View.read (Elt F) arg3.view f3) (View.read (Elt F) arg4.view f4) (View.read (Elt F) arg13.view f13) (View.read (Elt F) arg15.view f15))) ∗ owns (c : Thread nD τ) arg11 fullShare (vcOf i (View.read (Elt F) arg3.view f3) (View.read (Elt F) arg6.view f6) (View.read (Elt F) arg14.view f14)) ∗ owns (c : Thread nD τ) arg12 fullShare (stageOut (vsOf i (View.read (Elt F) arg3.view f3) (View.read (Elt F) arg6.view f6) (View.read (Elt F) arg14.view f14) (View.read (Elt F) arg16.view f16))) ∗ owns (c : Thread nD τ) arg13 fullShare (View.read (Elt F) arg13.view f13) ∗ owns (c : Thread nD τ) arg14 fullShare (View.read (Elt F) arg14.view f14) ∗ owns (c : Thread nD τ) arg15 fullShare (msOf i (View.read (Elt F) arg3.view f3) (View.read (Elt F) arg4.view f4) (View.read (Elt F) arg13.view f13) (View.read (Elt F) arg15.view f15)) ∗ owns (c : Thread nD τ) arg16 fullShare (vsOf i (View.read (Elt F) arg3.view f3) (View.read (Elt F) arg6.view f6) (View.read (Elt F) arg14.view f14) (View.read (Elt F) arg16.view f16)))) := by
  unfold owns
  iintro ⟨H1, H2, H3, H4, H6, H8, H9, H10, H11, H12, H13, H14, H15, H16⟩
  simp only [cc0_adamw8_eq_skeleton]; unfold cc0_adamw8_skel
  simp only [k0_part28_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
  sl_exec
  sl_step
  have hw : runC_raw.sl.r arg1 f1 = word (View.read (Elt F) arg1.view f1) := word_eq (F := F) (View.read (Elt F) arg1.view f1) _
  rw [hw]
  isplitl [H1]
  · iexists _; isplitr
    rotate_left
    · iexact H1
    · ipureintro; rfl
  isplitl [H2]
  · iexists _; isplitr
    rotate_left
    · iexact H2
    · ipureintro; rfl
  isplitl [H3]
  · iexists _; isplitr
    rotate_left
    · iexact H3
    · ipureintro; rfl
  isplitl [H4]
  · iexists _; isplitr
    rotate_left
    · iexact H4
    · ipureintro; rfl
  isplitl [H6]
  · iexists _; isplitr
    rotate_left
    · iexact H6
    · ipureintro; rfl
  isplitl [H8]
  · iexists _; isplitr
    rotate_left
    · iexact H8
    · ipureintro; exact read_cols arg8.view f8 _
  isplitl [H9]
  · iexists _; isplitr
    rotate_left
    · iexact H9
    · ipureintro; exact read_cols arg9.view f9 _
  isplitl [H10]
  · iexists _; isplitr
    rotate_left
    · iexact H10
    · ipureintro; refine funext fun j => (View.read_writes_apply_of_pieces arg10.view _ (stageOut (msOf i (View.read (Elt F) arg3.view f3) (View.read (Elt F) arg4.view f4) (View.read (Elt F) arg13.view f13) (View.read (Elt F) arg15.view f15))) _ ?_ j (View.cover_of_tiledL (s := S8x5120) _ S8x128.size (by sl_kernel_rfl) j))
      rw [show msOf i (View.read (Elt F) arg3.view f3) (View.read (Elt F) arg4.view f4) (View.read (Elt F) arg13.view f13) (View.read (Elt F) arg15.view f15) = _ from (read_rows i arg15.view f15 _).symm]
      simp only [List.forall_mem_cons]
      exact ⟨fun y => stage_out_piece (View.read (Elt F) arg15.view (arg15.view.writes (Elt F) f15 (upTo (pcMs i (View.read (Elt F) arg3.view f3) (View.read (Elt F) arg4.view f4) (View.read (Elt F) arg13.view f13)) k0_t1_loop.trips))) 39 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 38 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 37 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 36 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 35 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 34 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 33 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 32 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 31 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 30 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 29 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 28 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 27 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 26 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 25 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 24 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 23 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 22 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 21 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 20 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 19 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 18 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 17 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 16 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 15 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 14 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 13 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 12 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 11 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 10 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 9 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 8 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 7 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 6 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 5 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 4 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 3 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 2 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 1 (by decide) (by decide) (by decide) _ y, fun y => stage_out_piece (View.read (Elt F) arg15.view (arg15.view.writes (Elt F) f15 (upTo (pcMs i (View.read (Elt F) arg3.view f3) (View.read (Elt F) arg4.view f4) (View.read (Elt F) arg13.view f13)) k0_t1_loop.trips))) 0 (by decide) (by decide) (by decide) _ y, List.forall_mem_nil _⟩
  isplitl [H11]
  · iexists _; isplitr
    rotate_left
    · iexact H11
    · ipureintro; exact read_cols arg11.view f11 _
  isplitl [H12]
  · iexists _; isplitr
    rotate_left
    · iexact H12
    · ipureintro; refine funext fun j => (View.read_writes_apply_of_pieces arg12.view _ (stageOut (vsOf i (View.read (Elt F) arg3.view f3) (View.read (Elt F) arg6.view f6) (View.read (Elt F) arg14.view f14) (View.read (Elt F) arg16.view f16))) _ ?_ j (View.cover_of_tiledL (s := S8x5120) _ S8x128.size (by sl_kernel_rfl) j))
      rw [show vsOf i (View.read (Elt F) arg3.view f3) (View.read (Elt F) arg6.view f6) (View.read (Elt F) arg14.view f14) (View.read (Elt F) arg16.view f16) = _ from (read_rows i arg16.view f16 _).symm]
      simp only [List.forall_mem_cons]
      exact ⟨fun y => stage_out_piece (View.read (Elt F) arg16.view (arg16.view.writes (Elt F) f16 (upTo (pcVs i (View.read (Elt F) arg3.view f3) (View.read (Elt F) arg6.view f6) (View.read (Elt F) arg14.view f14)) k0_t1_loop.trips))) 39 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 38 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 37 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 36 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 35 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 34 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 33 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 32 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 31 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 30 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 29 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 28 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 27 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 26 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 25 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 24 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 23 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 22 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 21 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 20 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 19 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 18 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 17 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 16 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 15 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 14 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 13 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 12 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 11 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 10 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 9 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 8 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 7 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 6 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 5 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 4 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 3 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 2 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 1 (by decide) (by decide) (by decide) _ y, fun y => stage_out_piece (View.read (Elt F) arg16.view (arg16.view.writes (Elt F) f16 (upTo (pcVs i (View.read (Elt F) arg3.view f3) (View.read (Elt F) arg6.view f6) (View.read (Elt F) arg14.view f14)) k0_t1_loop.trips))) 0 (by decide) (by decide) (by decide) _ y, List.forall_mem_nil _⟩
  isplitl [H13]
  · iexists _; isplitr
    rotate_left
    · iexact H13
    · ipureintro; rfl
  isplitl [H14]
  · iexists _; isplitr
    rotate_left
    · iexact H14
    · ipureintro; rfl
  isplitl [H15]
  · iexists _; isplitr
    rotate_left
    · iexact H15
    · ipureintro; exact read_rows i arg15.view f15 _
  iexists _; isplitr
  rotate_left
  · iexact H16
  · ipureintro; exact read_rows i arg16.view f16 _

/-- THE LAST POINT OF A GROUP: the column loop runs, then the new scales of the group go out to the blocks. -/
theorem runC (h1 : ¬ cond1 i = 1#1) (h2 : k0_cond2 i = 1#1) (E : Set ℕ)
  (x1 : Vec F S1 .i32) (x2 : Vec F S128x5120 .f32) (x3 : Vec F S128x5120 .bf16) (x4 : Vec F S128x5120 .i8) (x6 : Vec F S128x5120 .i8) (x8 : Vec F S128x5120 .f32) (x9 : Vec F S128x5120 .i8) (x10 : Vec F S8x5120 .f32) (x11 : Vec F S128x5120 .i8) (x12 : Vec F S8x5120 .f32) (x13 : Vec F S40x8x128 .f32) (x14 : Vec F S40x8x128 .f32) (x15 : Vec F S40x8x128 .f32) (x16 : Vec F S40x8x128 .f32) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg6 fullShare x6 ∗ owns (c : Thread nD τ) arg8 fullShare (dOf i x1 x2 x3 x4 x6 x13 x14) ∗ owns (c : Thread nD τ) arg9 fullShare (mcOf i x3 x4 x13) ∗ owns (c : Thread nD τ) arg10 fullShare (stageOut (msOf i x3 x4 x13 x15)) ∗ owns (c : Thread nD τ) arg11 fullShare (vcOf i x3 x6 x14) ∗ owns (c : Thread nD τ) arg12 fullShare (stageOut (vsOf i x3 x6 x14 x16)) ∗ owns (c : Thread nD τ) arg13 fullShare x13 ∗ owns (c : Thread nD τ) arg14 fullShare x14 ∗ owns (c : Thread nD τ) arg15 fullShare (msOf i x3 x4 x13 x15) ∗ owns (c : Thread nD τ) arg16 fullShare (vsOf i x3 x6 x14 x16))) := by
  have key := runC_raw (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 h1 h2 E
  unfold owns at key ⊢
  iintro ⟨⟨%f1, %hf1, H1⟩, ⟨%f2, %hf2, H2⟩, ⟨%f3, %hf3, H3⟩, ⟨%f4, %hf4, H4⟩, ⟨%f6, %hf6, H6⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩⟩
  subst hf1
  subst hf2
  subst hf3
  subst hf4
  subst hf6
  subst hf8
  subst hf9
  subst hf10
  subst hf11
  subst hf12
  subst hf13
  subst hf14
  subst hf15
  subst hf16
  iapply (key f1 f2 f3 f4 f6 f8 f9 f10 f11 f12 f13 f14 f15 f16)
  isplitl [H1]; · iexact H1
  isplitl [H2]; · iexact H2
  isplitl [H3]; · iexact H3
  isplitl [H4]; · iexact H4
  isplitl [H6]; · iexact H6
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

end Cert.KernelIdeal.Body

end
-- ==== Proof.KernelIdeal.Run.lean ====
/- The kernel body at any grid point: the three cases in one triple. -/
module

public import proofs.«01_k».proof.Proof.Gen.KernelIdeal.Skeleton
public import proofs.«01_k».proof.Proof.Pieces
public import proofs.«01_k».proof.Proof.KernelIdeal.BodyA
public import proofs.«01_k».proof.Proof.KernelIdeal.BodyB
public import proofs.«01_k».proof.Proof.KernelIdeal.BodyC
public import Idealize.ShloMosaic.Lib.Exec
public import Idealize.ShloMosaic.Lib.Tactic
public import Idealize.ShloMosaic.Lib.Pipeline.Kit
public import Idealize.ShloMosaic.Lib.Pipeline.FrameBody

@[expose] public section

-- a region applies its sixteen memrefs and their facts in every statement
set_option maxRecDepth 8192
set_option maxHeartbeats 1000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Pieces

variable {F : FTy → Type} [FloatOps F] [Named F]

local notation "𝕄G" => MT nD τ sig Unit (Elt F) ℕ (UR sig nD τ) ℕ

/-- The scratch of old scales a point works on: at a group's first point the block of scales laid out in column groups,
    else the scratch as it stands. -/
def in13 (i : grid0.Coords) (x : Vec F S8x5120 .f32) (y : Vec F S40x8x128 .f32) : Vec F S40x8x128 .f32 :=
  if row i = 0 then stageIn x else y

/-- The block of new scales a point leaves: at a group's last point the scratch of new scales, else the block as it stood. -/
def out10 (i : grid0.Coords) (y : Vec F S40x8x128 .f32) (x : Vec F S8x5120 .f32) : Vec F S8x5120 .f32 :=
  if k0_cond2 i = 1#1 then stageOut y else x

variable (𝒱 : Variants) (c : Dev nD) (bd : Option 𝒱.V) (i : grid0.Coords)
  (arg1 : Memref sig .tc .smem S1 .i32) (harg1 : arg1.IsWhole)
  (arg2 : Memref sig .tc .vmem S128x5120 .f32) (harg2 : arg2.IsWhole)
  (arg3 : Memref sig .tc .vmem S128x5120 .bf16) (harg3 : arg3.IsWhole)
  (arg4 : Memref sig .tc .vmem S128x5120 .i8) (harg4 : arg4.IsWhole)
  (arg5 : Memref sig .tc .vmem S8x5120 .f32) (harg5 : arg5.IsWhole)
  (arg6 : Memref sig .tc .vmem S128x5120 .i8) (harg6 : arg6.IsWhole)
  (arg7 : Memref sig .tc .vmem S8x5120 .f32) (harg7 : arg7.IsWhole)
  (arg8 : Memref sig .tc .vmem S128x5120 .f32) (harg8 : arg8.IsWhole)
  (arg9 : Memref sig .tc .vmem S128x5120 .i8) (harg9 : arg9.IsWhole)
  (arg10 : Memref sig .tc .vmem S8x5120 .f32) (harg10 : arg10.IsWhole)
  (arg11 : Memref sig .tc .vmem S128x5120 .i8) (harg11 : arg11.IsWhole)
  (arg12 : Memref sig .tc .vmem S8x5120 .f32) (harg12 : arg12.IsWhole)
  (arg13 : Memref sig .tc .vmem S40x8x128 .f32) (harg13 : arg13.IsWhole)
  (arg14 : Memref sig .tc .vmem S40x8x128 .f32) (harg14 : arg14.IsWhole)
  (arg15 : Memref sig .tc .vmem S40x8x128 .f32) (harg15 : arg15.IsWhole)
  (arg16 : Memref sig .tc .vmem S40x8x128 .f32) (harg16 : arg16.IsWhole)

/-- ONE GRID POINT of the kernel body over all its blocks and scratch buffers. -/
theorem run (E : Set ℕ)
  (x1 : Vec F S1 .i32) (x2 : Vec F S128x5120 .f32) (x3 : Vec F S128x5120 .bf16) (x4 : Vec F S128x5120 .i8) (x5 : Vec F S8x5120 .f32) (x6 : Vec F S128x5120 .i8) (x7 : Vec F S8x5120 .f32) (x8 : Vec F S128x5120 .f32) (x9 : Vec F S128x5120 .i8) (x10 : Vec F S8x5120 .f32) (x11 : Vec F S128x5120 .i8) (x12 : Vec F S8x5120 .f32) (x13 : Vec F S40x8x128 .f32) (x14 : Vec F S40x8x128 .f32) (x15 : Vec F S40x8x128 .f32) (x16 : Vec F S40x8x128 .f32) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 : sProp 𝕄G)
      ⊢ wp frame (wpE (defs₀ (F := F)) 𝒱 (c : Thread nD τ) bd) E
          (cc0_adamw8 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16)
          (fun _ => iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (dOf i x1 x2 x3 x4 x6 (in13 i x5 x13) (in13 i x7 x14)) ∗ owns (c : Thread nD τ) arg9 fullShare (mcOf i x3 x4 (in13 i x5 x13)) ∗ owns (c : Thread nD τ) arg10 fullShare (out10 i (msOf i x3 x4 (in13 i x5 x13) x15) x10) ∗ owns (c : Thread nD τ) arg11 fullShare (vcOf i x3 x6 (in13 i x7 x14)) ∗ owns (c : Thread nD τ) arg12 fullShare (out10 i (vsOf i x3 x6 (in13 i x7 x14) x16) x12) ∗ owns (c : Thread nD τ) arg13 fullShare (in13 i x5 x13) ∗ owns (c : Thread nD τ) arg14 fullShare (in13 i x7 x14) ∗ owns (c : Thread nD τ) arg15 fullShare (msOf i x3 x4 (in13 i x5 x13) x15) ∗ owns (c : Thread nD τ) arg16 fullShare (vsOf i x3 x6 (in13 i x7 x14) x16))) := by
  have hdisj : row i = 0 → ¬ k0_cond2 i = 1#1 := fun h0 h => by
    rcases (cond2_iff i).mp h with h | h
    · omega
    · rw [show row i = (i 0).val % 8 from rfl, h] at h0; exact absurd h0 (by decide)
  unfold in13 out10
  iintro ⟨H1, H2, H3, H4, H5, H6, H7, H8, H9, H10, H11, H12, H13, H14, H15, H16⟩
  by_cases h1 : row i = 0
  · have h2 := hdisj h1
    simp only [if_pos h1, if_neg h2]
    iapply (wp_wand_r Idealize.ShloMosaic.frame (wpE (defs₀ (F := F)) 𝒱 (c : Thread nD τ) bd) E)
    isplitl [H1 H2 H3 H4 H5 H6 H7 H8 H9 H11 H13 H14 H15 H16]
    · iapply (runA (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 ((cond1_iff i).mpr h1) h2 E x1 x2 x3 x4 x5 x6 x7 x8 x9 x11 x13 x14 x15 x16)
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H11]; · iexact H11
      isplitl [H13]; · iexact H13
      isplitl [H14]; · iexact H14
      isplitl [H15]; · iexact H15
      iexact H16
    · iintro %_ ⟨H1, H2, H3, H4, H5, H6, H7, H8, H9, H11, H13, H14, H15, H16⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
  by_cases h2 : k0_cond2 i = 1#1
  · simp only [if_neg h1, if_pos h2]
    iapply (wp_wand_r Idealize.ShloMosaic.frame (wpE (defs₀ (F := F)) 𝒱 (c : Thread nD τ) bd) E)
    isplitl [H1 H2 H3 H4 H6 H8 H9 H10 H11 H12 H13 H14 H15 H16]
    · iapply (runC (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (fun h => h1 ((cond1_iff i).mp h)) h2 E x1 x2 x3 x4 x6 x8 x9 x10 x11 x12 x13 x14 x15 x16)
      isplitl [H1]; · iexact H1
      isplitl [H2]; · iexact H2
      isplitl [H3]; · iexact H3
      isplitl [H4]; · iexact H4
      isplitl [H6]; · iexact H6
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
    · iintro %_ ⟨H1, H2, H3, H4, H6, H8, H9, H10, H11, H12, H13, H14, H15, H16⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16
  · simp only [if_neg h1, if_neg h2]
    iapply (wp_wand_r Idealize.ShloMosaic.frame (wpE (defs₀ (F := F)) 𝒱 (c : Thread nD τ) bd) E)
    isplitl [H1 H2 H3 H4 H6 H8 H9 H11 H13 H14 H15 H16]
    · iapply (runB (F := F) 𝒱 c bd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 (fun h => h1 ((cond1_iff i).mp h)) h2 E x1 x2 x3 x4 x6 x8 x9 x11 x13 x14 x15 x16)
      isplitl [H1]; · iexact H1
      isplitl [H2]; · iexact H2
      isplitl [H3]; · iexact H3
      isplitl [H4]; · iexact H4
      isplitl [H6]; · iexact H6
      isplitl [H8]; · iexact H8
      isplitl [H9]; · iexact H9
      isplitl [H11]; · iexact H11
      isplitl [H13]; · iexact H13
      isplitl [H14]; · iexact H14
      isplitl [H15]; · iexact H15
      iexact H16
    · iintro %_ ⟨H1, H2, H3, H4, H6, H8, H9, H11, H13, H14, H15, H16⟩
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      iexact H16

end Cert.KernelIdeal.Body

end
-- ==== Proof.KernelIdeal.Values.lean ====
/- What the whole arrays hold, block by block, and what the four scratch buffers hold from one grid point to the next. -/
module

public import proofs.«01_k».proof.Proof.KernelIdeal.Run

@[expose] public section

set_option maxRecDepth 8192

noncomputable section

namespace Cert.KernelIdeal.Body

open Idealize.ShloMosaic
open Cert.KernelIdeal.Gen Cert.Pieces

variable {F : FTy → Type} [FloatOps F] [Named F]

/-! ## Blocks of whole arrays -/

/-- Rows `128 n … 128 n + 127` of an array. -/
def rowsAt {α : Type} (X : S8832x5120.Idx → α) (n : ℕ) (hn : n < 69) : S128x5120.Idx → α :=
  fun j => X (ix2 (128 * n + (j 0).val) (j 1).val (by have := lt0 j; omega) (lt1 j))

/-- Row `n` of an array of scales, laid out as 40 groups of 128 columns, the same in each of the eight rows. -/
def scaleRow {α : Type} (S : S69x5120.Idx → α) (n : ℕ) (hn : n < 69) : S40x8x128.Idx → α :=
  fun j => S (ix2 n (128 * (j 0).val + (j 2).val) hn (by have := lt30 j; have := lt32 j; omega))

/-- A trip reads the scratch of old scales at the grid point's row only. -/
theorem ld_congr (i : grid0.Coords) {y y' : Vec F S40x8x128 .f32} (h : ∀ j, (j 1).val = row i → y j = y' j)
    (k : Fin k0_t1_loop.trips) : View.ld y (rowR i k) = View.ld y' (rowR i k) := by
  funext z
  refine h _ ?_
  have : (z 1).val < 1 := (z 1).isLt
  show k0_off2 i k 1 + 1 * (z 1).val = _; rw [off2_eq]; simp; omega

/-- The new first moment of block `n`, column group `k`, of whole arrays. -/
def wholeM (G : Vec F S8832x5120 .bf16) (MC : Vec F S8832x5120 .i8) (MS : Vec F S69x5120 .f32) (n : Fin 69)
    (k : Fin k0_t1_loop.trips) : FVec F S128x128 .f32 :=
  tripM (pt n) (rowsAt G n.val n.isLt) (rowsAt MC n.val n.isLt) (scaleRow MS n.val n.isLt) k

/-- The new second moment of block `n`, column group `k`, of whole arrays. -/
def wholeV (G : Vec F S8832x5120 .bf16) (VC : Vec F S8832x5120 .i8) (VS : Vec F S69x5120 .f32) (n : Fin 69)
    (k : Fin k0_t1_loop.trips) : FVec F S128x128 .f32 :=
  tripV (pt n) (rowsAt G n.val n.isLt) (rowsAt VC n.val n.isLt) (scaleRow VS n.val n.isLt) k

/-- The update of block `n`, column group `k`, of whole arrays. -/
def wholeD (T : Elt F .i32) (P : Vec F S8832x5120 .f32) (G : Vec F S8832x5120 .bf16) (MC VC : Vec F S8832x5120 .i8)
    (MS VS : Vec F S69x5120 .f32) (n : Fin 69) (k : Fin k0_t1_loop.trips) : FVec F S128x128 .f32 :=
  tripD (pt n) T (rowsAt P n.val n.isLt) (rowsAt G n.val n.isLt) (rowsAt MC n.val n.isLt) (rowsAt VC n.val n.isLt)
    (scaleRow MS n.val n.isLt) (scaleRow VS n.val n.isLt) k

/-- An array put together from blocks of 128 rows and groups of 128 columns. -/
def asmAll {α : Type} (W : Fin 69 → Fin k0_t1_loop.trips → S128x128.Idx → α) : S8832x5120.Idx → α :=
  fun j => W ⟨(j 0).val / 128, by have := lt0 j; omega⟩ (grp (j 1).val (lt1 j))
    (ix2 ((j 0).val % 128) ((j 1).val % 128) (Nat.mod_lt _ (by decide)) (Nat.mod_lt _ (by decide)))

/-- An array of scales put together from rows and groups of 128 columns. -/
def asmScales {α : Type} (W : Fin 69 → Fin k0_t1_loop.trips → S1x1x128.Idx → α) : S69x5120.Idx → α :=
  fun j => W ⟨(j 0).val, lt0 j⟩ (grp (j 1).val (lt1 j))
    (ix3 0 0 ((j 1).val % 128) (by decide) (by decide) (Nat.mod_lt _ (by decide)))

/-- Block `n` of an array put together from blocks is block `n`. -/
theorem rowsAt_asmAll {α : Type} (W : Fin 69 → Fin k0_t1_loop.trips → S128x128.Idx → α) (n : Fin 69) :
    rowsAt (asmAll W) n.val n.isLt = asm (W n) := by
  funext j
  have h0 := lt0 j
  have hn := n.isLt
  have e : (⟨(128 * n.val + (j 0).val) / 128, by omega⟩ : Fin 69) = n := Fin.ext (by show _ / 128 = _; omega)
  show W ⟨(128 * n.val + (j 0).val) / 128, _⟩ _ _ = W n _ _
  rw [e]
  refine congrArg (W n _) (ext2 (m := 128) (n := 128) ?_ rfl)
  show (128 * n.val + (j 0).val) % 128 = (j 0).val
  omega

/-- The new update array. -/
def newD (T : Elt F .i32) (P : Vec F S8832x5120 .f32) (G : Vec F S8832x5120 .bf16) (MC VC : Vec F S8832x5120 .i8)
    (MS VS : Vec F S69x5120 .f32) : Vec F S8832x5120 .f32 := asmAll (wholeD T P G MC VC MS VS)

/-- The new codes of the first moment. -/
def newMc (G : Vec F S8832x5120 .bf16) (MC : Vec F S8832x5120 .i8) (MS : Vec F S69x5120 .f32) : Vec F S8832x5120 .i8 :=
  asmAll fun n k => k0_pay86 (wholeM G MC MS n k)

/-- The new codes of the second moment. -/
def newVc (G : Vec F S8832x5120 .bf16) (VC : Vec F S8832x5120 .i8) (VS : Vec F S69x5120 .f32) : Vec F S8832x5120 .i8 :=
  asmAll fun n k => k0_pay175 (wholeV G VC VS n k) (k0_pay88 (wholeV G VC VS n k)) (k0_pay89 (F := F))

/-- The new scales of the first moment. -/
def newMs (G : Vec F S8832x5120 .bf16) (MC : Vec F S8832x5120 .i8) (MS : Vec F S69x5120 .f32) : Vec F S69x5120 .f32 :=
  asmScales fun n k => k0_pay87 (wholeM G MC MS n k)

/-- The new scales of the second moment. -/
def newVs (G : Vec F S8832x5120 .bf16) (VC : Vec F S8832x5120 .i8) (VS : Vec F S69x5120 .f32) : Vec F S69x5120 .f32 :=
  asmScales fun n k => k0_pay176 (k0_pay88 (wholeV G VC VS n k))

/-! ## One grid point on blocks of whole arrays -/

section Point

variable (n : Fin 69) (T : Elt F .i32) (x1 : Vec F S1 .i32) (P : Vec F S8832x5120 .f32) (G : Vec F S8832x5120 .bf16)
  (MC VC : Vec F S8832x5120 .i8) (MS VS : Vec F S69x5120 .f32) (y y' : Vec F S40x8x128 .f32)

theorem tripM_eq (h : ∀ j, (j 1).val = row (pt n) → y j = scaleRow MS n.val n.isLt j) :
    tripM (pt n) (rowsAt G n.val n.isLt) (rowsAt MC n.val n.isLt) y = wholeM G MC MS n :=
  funext fun k => by unfold tripM wholeM tripM; rw [ld_congr _ h]

theorem tripV_eq (h : ∀ j, (j 1).val = row (pt n) → y' j = scaleRow VS n.val n.isLt j) :
    tripV (pt n) (rowsAt G n.val n.isLt) (rowsAt VC n.val n.isLt) y' = wholeV G VC VS n :=
  funext fun k => by unfold tripV wholeV tripV; rw [ld_congr _ h]

theorem tripD_eq (h : ∀ j, (j 1).val = row (pt n) → y j = scaleRow MS n.val n.isLt j)
    (h' : ∀ j, (j 1).val = row (pt n) → y' j = scaleRow VS n.val n.isLt j) :
    tripD (pt n) T (rowsAt P n.val n.isLt) (rowsAt G n.val n.isLt) (rowsAt MC n.val n.isLt) (rowsAt VC n.val n.isLt) y y'
      = wholeD T P G MC VC MS VS n :=
  funext fun k => by unfold tripD wholeD tripD; rw [ld_congr _ h, ld_congr _ h']

end Point

/-! ## The scratch from point to point -/

/-- BEFORE POINT `n`, for one moment, `S` its array of old scales and `N` of new: inside a group of eight points the
    scratch `y` holds the group's old scales, and the scratch `y'` holds the new scales of the group's earlier points. -/
structure Inv (S N : Vec F S69x5120 .f32) (n : ℕ) (y y' : Vec F S40x8x128 .f32) : Prop where
  old : n % 8 ≠ 0 → ∀ (j : S40x8x128.Idx) (h : 8 * (n / 8) + (j 1).val < 69),
    y j = S (ix2 (8 * (n / 8) + (j 1).val) (128 * (j 0).val + (j 2).val) h (by have := lt30 j; have := lt32 j; omega))
  new : ∀ (j : S40x8x128.Idx) (h : 8 * (n / 8) + (j 1).val < 69), (j 1).val < n % 8 →
    y' j = N (ix2 (8 * (n / 8) + (j 1).val) (128 * (j 0).val + (j 2).val) h (by have := lt30 j; have := lt32 j; omega))

section Step

variable {S N : Vec F S69x5120 .f32} {n : Fin 69} {x : Vec F S8x5120 .f32} {y y' : Vec F S40x8x128 .f32}

/-- A group's block of old scales, on the rows inside the array. -/
def Held (S : Vec F S69x5120 .f32) (n : ℕ) (x : Vec F S8x5120 .f32) : Prop :=
  ∀ (j : S8x5120.Idx) (h : 8 * (n / 8) + (j 0).val < 69), x j = S (ix2 (8 * (n / 8) + (j 0).val) (j 1).val h (lt1 j))

/-- The scratch a point works on holds the group's old scales. -/
theorem Inv.in_eq (hI : Inv S N n.val y y') (hx : Held S n.val x) (j : S40x8x128.Idx)
    (h : 8 * (n.val / 8) + (j 1).val < 69) : in13 (pt n) x y j
      = S (ix2 (8 * (n.val / 8) + (j 1).val) (128 * (j 0).val + (j 2).val) h (by have := lt30 j; have := lt32 j; omega)) := by
  unfold in13
  split
  · unfold stageIn
    exact hx (ix2 (j 1).val (128 * (j 0).val + (j 2).val) (lt31 j) (by have := lt30 j; have := lt32 j; omega)) h
  · next hr => exact hI.old hr j h

/-- At the point's own row it holds the point's old scales. -/
theorem Inv.agree (hI : Inv S N n.val y y') (hx : Held S n.val x) (j : S40x8x128.Idx) (hj : (j 1).val = row (pt n)) :
    in13 (pt n) x y j = scaleRow S n.val n.isLt j := by
  have hj' : (j 1).val = n.val % 8 := hj
  have hn := n.isLt
  rw [hI.in_eq hx j (by omega)]
  unfold scaleRow
  refine congrArg S (ext2 (m := 69) (n := 5120) ?_ rfl)
  show 8 * (n.val / 8) + (j 1).val = n.val
  omega

/-- The rows of new scales up to the point's own, after the point. -/
theorem Inv.out (hI : Inv S N n.val y y') (W : Fin 69 → Fin k0_t1_loop.trips → S1x1x128.Idx → Elt F .f32)
    (hW : asmScales W = N) (j : S40x8x128.Idx) (h : 8 * (n.val / 8) + (j 1).val < 69) (hj : (j 1).val ≤ n.val % 8) :
    setRow (row (pt n)) (W n) y' j
      = N (ix2 (8 * (n.val / 8) + (j 1).val) (128 * (j 0).val + (j 2).val) h (by have := lt30 j; have := lt32 j; omega)) := by
  have h0 : (j 0).val < 40 := lt30 j
  have h2 : (j 2).val < 128 := lt32 j
  unfold setRow
  split
  · next hr =>
    have hr' : (j 1).val = n.val % 8 := hr
    rw [← hW]
    unfold asmScales
    have e : (⟨8 * (n.val / 8) + (j 1).val, h⟩ : Fin 69) = n := Fin.ext (by show _ + _ = _; omega)
    have e' : (⟨(j 0).val, lt_of_lt_of_eq (lt30 j) trips_eq.symm⟩ : Fin k0_t1_loop.trips)
        = grp (128 * (j 0).val + (j 2).val) (by omega) :=
      Fin.ext (by show (j 0).val = (128 * (j 0).val + (j 2).val) / 128; omega)
    show W n _ _ = W ⟨8 * (n.val / 8) + (j 1).val, h⟩ (grp (128 * (j 0).val + (j 2).val) (by omega)) _
    rw [e, e']
    refine congrArg (W n _) (ext3 (l := 1) (m := 1) (n := 128) rfl rfl ?_)
    show (j 2).val = (128 * (j 0).val + (j 2).val) % 128
    omega
  · next hr =>
    have hr' : ¬ (j 1).val = n.val % 8 := hr
    exact hI.new j h (by omega)

/-- ONE POINT keeps the invariant. -/
theorem Inv.step (hI : Inv S N n.val y y') (hx : Held S n.val x)
    (W : Fin 69 → Fin k0_t1_loop.trips → S1x1x128.Idx → Elt F .f32) (hW : asmScales W = N) :
    Inv S N (n.val + 1) (in13 (pt n) x y) (setRow (row (pt n)) (W n) y') where
  old hr j h := by
    have e : (n.val + 1) / 8 = n.val / 8 := by omega
    refine (hI.in_eq hx j (by omega)).trans (congrArg S (ext2 (m := 69) (n := 5120) ?_ rfl))
    show 8 * (n.val / 8) + (j 1).val = 8 * ((n.val + 1) / 8) + (j 1).val
    rw [e]
  new j h hj := by
    have e : (n.val + 1) / 8 = n.val / 8 := by omega
    refine (hI.out W hW j (by omega) (by omega)).trans (congrArg N (ext2 (m := 69) (n := 5120) ?_ rfl))
    show 8 * (n.val / 8) + (j 1).val = 8 * ((n.val + 1) / 8) + (j 1).val
    rw [e]

/-- At a group's last point the block written out holds the group's new scales, on the rows inside the array. -/
theorem Inv.held (hI : Inv S N n.val y y') (W : Fin 69 → Fin k0_t1_loop.trips → S1x1x128.Idx → Elt F .f32)
    (hW : asmScales W = N) (hc : k0_cond2 (pt n) = 1#1) : Held N n.val (stageOut (setRow (row (pt n)) (W n) y')) := by
  intro j h
  have h0 := lt0 j
  have h1 := lt1 j
  have hn := n.isLt
  have hr : n.val % 8 = 7 ∨ n.val = 68 := (cond2_iff (pt n)).mp hc
  unfold stageOut
  rw [hI.out W hW _ (by show 8 * (n.val / 8) + (j 0).val < 69; exact h) (by show (j 0).val ≤ _; omega)]
  refine congrArg N (ext2 (m := 69) (n := 5120) rfl ?_)
  show 128 * ((j 1).val / 128) + (j 1).val % 128 = (j 1).val
  omega

/-- Before the first point nothing is asked of the scratch. -/
theorem Inv.zero (S N : Vec F S69x5120 .f32) (y y' : Vec F S40x8x128 .f32) : Inv S N 0 y y' where
  old h := absurd rfl h
  new j h hj := absurd hj (Nat.not_lt_zero _)

end Step

end Cert.KernelIdeal.Body

end
-- ==== Proof.KernelIdeal.Blks.lean ====
/- The windows' blocks as the pipeline stages them, read off the whole arrays. -/
module

public import proofs.«01_k».proof.Proof.KernelIdeal.Values
public import proofs.«01_k».proof.Proof.Gen.KernelIdeal.Frame

@[expose] public section

set_option maxRecDepth 8192

noncomputable section

namespace Cert.KernelIdeal.Body

open Idealize.ShloMosaic Idealize.ShloMosaic.TcCoe
open Cert.KernelIdeal.Gen Cert.Pieces

variable {F : FTy → Type} [FloatOps F] [Named F]

/-- A grid point as a number below 69. -/
@[irreducible] def num (t : Fin cfg0.N) : Fin 69 := ⟨t.val, t.isLt⟩

theorem num_val (t : Fin cfg0.N) : (num t).val = t.val := by unfold num; rfl

theorem coords_val : ∀ t : Fin cfg0.N, (grid0.coords t 0).val = t.val := by decide +kernel

theorem coords_eq (t : Fin cfg0.N) : grid0.coords t = pt (num t) := by
  rw [eq_pt (grid0.coords t)]
  exact congrArg pt (Fin.ext ((coords_val t).trans (num_val t).symm))

theorem idx_1 : ∀ n : Fin 69, cc0_transform_1 (pt n) = ![n.val, 0] := by decide +kernel
theorem idx_2 : ∀ n : Fin 69, cc0_transform_2 (pt n) = ![n.val, 0] := by decide +kernel
theorem idx_3 : ∀ n : Fin 69, cc0_transform_3 (pt n) = ![n.val, 0] := by decide +kernel
theorem idx_4 : ∀ n : Fin 69, cc0_transform_4 (pt n) = ![n.val / 8, 0] := by decide +kernel
theorem idx_5 : ∀ n : Fin 69, cc0_transform_5 (pt n) = ![n.val, 0] := by decide +kernel
theorem idx_6 : ∀ n : Fin 69, cc0_transform_6 (pt n) = ![n.val / 8, 0] := by decide +kernel
theorem idx_7 : ∀ n : Fin 69, cc0_transform_7 (pt n) = ![n.val, 0] := by decide +kernel
theorem idx_8 : ∀ n : Fin 69, cc0_transform_8 (pt n) = ![n.val, 0] := by decide +kernel
theorem idx_9 : ∀ n : Fin 69, cc0_transform_9 (pt n) = ![n.val / 8, 0] := by decide +kernel
theorem idx_10 : ∀ n : Fin 69, cc0_transform_10 (pt n) = ![n.val, 0] := by decide +kernel
theorem idx_11 : ∀ n : Fin 69, cc0_transform_11 (pt n) = ![n.val / 8, 0] := by decide +kernel

/-- A block of 128 rows at a grid point, at an index. -/
theorem emb_1 (t : Fin cfg0.N) (y : S128x5120.Idx) : (win0_1.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_1 (grid0.coords t) 0 * 128 + 1 * (y 0).val = 128 * (num t).val + (y 0).val
    rw [coords_eq, idx_1]; show (num t).val * 128 + _ = _; omega
  · show cc0_transform_1 (grid0.coords t) 1 * 5120 + 1 * (y 1).val = (y 1).val
    rw [coords_eq, idx_1]; show 0 * 5120 + _ = _; omega

/-- A block of 128 rows at a grid point, at an index. -/
theorem emb_2 (t : Fin cfg0.N) (y : S128x5120.Idx) : (win0_2.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_2 (grid0.coords t) 0 * 128 + 1 * (y 0).val = 128 * (num t).val + (y 0).val
    rw [coords_eq, idx_2]; show (num t).val * 128 + _ = _; omega
  · show cc0_transform_2 (grid0.coords t) 1 * 5120 + 1 * (y 1).val = (y 1).val
    rw [coords_eq, idx_2]; show 0 * 5120 + _ = _; omega

/-- A block of 128 rows at a grid point, at an index. -/
theorem emb_3 (t : Fin cfg0.N) (y : S128x5120.Idx) : (win0_3.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_3 (grid0.coords t) 0 * 128 + 1 * (y 0).val = 128 * (num t).val + (y 0).val
    rw [coords_eq, idx_3]; show (num t).val * 128 + _ = _; omega
  · show cc0_transform_3 (grid0.coords t) 1 * 5120 + 1 * (y 1).val = (y 1).val
    rw [coords_eq, idx_3]; show 0 * 5120 + _ = _; omega

/-- A block of 128 rows at a grid point, at an index. -/
theorem emb_5 (t : Fin cfg0.N) (y : S128x5120.Idx) : (win0_5.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_5 (grid0.coords t) 0 * 128 + 1 * (y 0).val = 128 * (num t).val + (y 0).val
    rw [coords_eq, idx_5]; show (num t).val * 128 + _ = _; omega
  · show cc0_transform_5 (grid0.coords t) 1 * 5120 + 1 * (y 1).val = (y 1).val
    rw [coords_eq, idx_5]; show 0 * 5120 + _ = _; omega

/-- A block of 128 rows at a grid point, at an index. -/
theorem emb_7 (t : Fin cfg0.N) (y : S128x5120.Idx) : (win0_7.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_7 (grid0.coords t) 0 * 128 + 1 * (y 0).val = 128 * (num t).val + (y 0).val
    rw [coords_eq, idx_7]; show (num t).val * 128 + _ = _; omega
  · show cc0_transform_7 (grid0.coords t) 1 * 5120 + 1 * (y 1).val = (y 1).val
    rw [coords_eq, idx_7]; show 0 * 5120 + _ = _; omega

/-- A block of 128 rows at a grid point, at an index. -/
theorem emb_8 (t : Fin cfg0.N) (y : S128x5120.Idx) : (win0_8.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_8 (grid0.coords t) 0 * 128 + 1 * (y 0).val = 128 * (num t).val + (y 0).val
    rw [coords_eq, idx_8]; show (num t).val * 128 + _ = _; omega
  · show cc0_transform_8 (grid0.coords t) 1 * 5120 + 1 * (y 1).val = (y 1).val
    rw [coords_eq, idx_8]; show 0 * 5120 + _ = _; omega

/-- A block of 128 rows at a grid point, at an index. -/
theorem emb_10 (t : Fin cfg0.N) (y : S128x5120.Idx) : (win0_10.blk t).view.emb y
    = ix2 (m := 8832) (n := 5120) (128 * (num t).val + (y 0).val) (y 1).val (by have := lt0 y; have := (num t).isLt; omega) (lt1 y) := by
  refine ext2 (m := 8832) (n := 5120) ?_ ?_
  · show cc0_transform_10 (grid0.coords t) 0 * 128 + 1 * (y 0).val = 128 * (num t).val + (y 0).val
    rw [coords_eq, idx_10]; show (num t).val * 128 + _ = _; omega
  · show cc0_transform_10 (grid0.coords t) 1 * 5120 + 1 * (y 1).val = (y 1).val
    rw [coords_eq, idx_10]; show 0 * 5120 + _ = _; omega

theorem xsize_4 : ∀ n : Fin 69, win0_4.xsize (pt n) = ![min 8 (69 - 8 * (n.val / 8)), 5120] := by decide +kernel

theorem xsize_4_0 (t : Fin cfg0.N) :
    win0_4.xsize (grid0.coords t) (0 : Fin 2) = min 8 (69 - 8 * ((num t).val / 8)) := by
  rw [coords_eq]; exact congrFun (xsize_4 (num t)) (0 : Fin 2)

theorem xsize_4_1 (t : Fin cfg0.N) : win0_4.xsize (grid0.coords t) (1 : Fin 2) = 5120 := by
  rw [coords_eq]; exact congrFun (xsize_4 (num t)) (1 : Fin 2)

theorem lt_4_0 (t : Fin cfg0.N) (y : (win0_4.xblock (grid0.coords t)).Idx) :
    8 * ((num t).val / 8) + (y (0 : Fin 2)).val < 69 := by
  have h0 : (y (0 : Fin 2)).val < _ := lt_of_lt_of_eq (y (0 : Fin 2)).isLt (xsize_4_0 t)
  exact Nat.add_lt_of_lt_sub' (lt_of_lt_of_le h0 (Nat.min_le_right _ _))

theorem lt_4_1 (t : Fin cfg0.N) (y : (win0_4.xblock (grid0.coords t)).Idx) : (y (1 : Fin 2)).val < 5120 :=
  lt_of_lt_of_eq (y (1 : Fin 2)).isLt (xsize_4_1 t)

/-- A block of eight rows of scales at a grid point, at an index inside the array. -/
theorem emb_4 (t : Fin cfg0.N) (y : (win0_4.xblock (grid0.coords t)).Idx) : (win0_4.blk t).view.emb y
    = ix2 (m := 69) (n := 5120) (8 * ((num t).val / 8) + (y (0 : Fin 2)).val) (y (1 : Fin 2)).val (lt_4_0 t y) (lt_4_1 t y) := by
  have e0 : cc0_transform_4 (grid0.coords t) 0 = (num t).val / 8 := by rw [coords_eq]; exact congrFun (idx_4 (num t)) 0
  have e1 : cc0_transform_4 (grid0.coords t) 1 = 0 := by rw [coords_eq]; exact congrFun (idx_4 (num t)) 1
  refine ext2 (m := 69) (n := 5120) ?_ ?_
  · show cc0_transform_4 (grid0.coords t) 0 * 8 + 1 * (y (0 : Fin 2)).val = 8 * ((num t).val / 8) + (y (0 : Fin 2)).val
    rw [e0]; generalize (y (0 : Fin 2)).val = a; omega
  · show cc0_transform_4 (grid0.coords t) 1 * 5120 + 1 * (y (1 : Fin 2)).val = (y (1 : Fin 2)).val
    rw [e1]; generalize (y (1 : Fin 2)).val = a; omega

/-- An index of the block of scales on the rows inside the array is one the transfer moves. -/
theorem moved_4 (t : Fin cfg0.N) (j : S8x5120.Idx) (h : 8 * ((num t).val / 8) + (j 0).val < 69) :
    win0_4.moved (grid0.coords t) j = true := by
  have h0 : (j 0).val < 8 := lt0 j
  have h1 : (j 1).val < 5120 := lt1 j
  refine (win0_4.moved_iff _ _).mpr fun a => ?_
  have key : ∀ a : Fin 2, (j a).val < win0_4.xsize (grid0.coords t) a := by
    rw [Fin.forall_fin_two]
    refine ⟨lt_of_lt_of_eq ?_ (xsize_4_0 t).symm, lt_of_lt_of_eq h1 (xsize_4_1 t).symm⟩
    generalize (j 0).val = a at *
    omega
  exact key a

/-- Whatever fills it past the array's end, the staged block of scales holds the group's rows. -/
theorem held_4 (S : Vec F S69x5120 .f32) (t : Fin cfg0.N) (d : S8x5120.Idx → Elt F .f32)
    (g : (win0_4.xblock (grid0.coords t)).Idx → Elt F .f32) (hg : ∀ y, g y = S ((win0_4.blk t).view.emb y)) :
    Held S (num t).val (win0_4.fill (grid0.coords t) d g) := by
  intro j h
  unfold Pipeline.Window.fill
  rw [dif_pos (moved_4 t j h), hg, emb_4]

theorem xsize_6 : ∀ n : Fin 69, win0_6.xsize (pt n) = ![min 8 (69 - 8 * (n.val / 8)), 5120] := by decide +kernel

theorem xsize_6_0 (t : Fin cfg0.N) :
    win0_6.xsize (grid0.coords t) (0 : Fin 2) = min 8 (69 - 8 * ((num t).val / 8)) := by
  rw [coords_eq]; exact congrFun (xsize_6 (num t)) (0 : Fin 2)

theorem xsize_6_1 (t : Fin cfg0.N) : win0_6.xsize (grid0.coords t) (1 : Fin 2) = 5120 := by
  rw [coords_eq]; exact congrFun (xsize_6 (num t)) (1 : Fin 2)

theorem lt_6_0 (t : Fin cfg0.N) (y : (win0_6.xblock (grid0.coords t)).Idx) :
    8 * ((num t).val / 8) + (y (0 : Fin 2)).val < 69 := by
  have h0 : (y (0 : Fin 2)).val < _ := lt_of_lt_of_eq (y (0 : Fin 2)).isLt (xsize_6_0 t)
  exact Nat.add_lt_of_lt_sub' (lt_of_lt_of_le h0 (Nat.min_le_right _ _))

theorem lt_6_1 (t : Fin cfg0.N) (y : (win0_6.xblock (grid0.coords t)).Idx) : (y (1 : Fin 2)).val < 5120 :=
  lt_of_lt_of_eq (y (1 : Fin 2)).isLt (xsize_6_1 t)

/-- A block of eight rows of scales at a grid point, at an index inside the array. -/
theorem emb_6 (t : Fin cfg0.N) (y : (win0_6.xblock (grid0.coords t)).Idx) : (win0_6.blk t).view.emb y
    = ix2 (m := 69) (n := 5120) (8 * ((num t).val / 8) + (y (0 : Fin 2)).val) (y (1 : Fin 2)).val (lt_6_0 t y) (lt_6_1 t y) := by
  have e0 : cc0_transform_6 (grid0.coords t) 0 = (num t).val / 8 := by rw [coords_eq]; exact congrFun (idx_6 (num t)) 0
  have e1 : cc0_transform_6 (grid0.coords t) 1 = 0 := by rw [coords_eq]; exact congrFun (idx_6 (num t)) 1
  refine ext2 (m := 69) (n := 5120) ?_ ?_
  · show cc0_transform_6 (grid0.coords t) 0 * 8 + 1 * (y (0 : Fin 2)).val = 8 * ((num t).val / 8) + (y (0 : Fin 2)).val
    rw [e0]; generalize (y (0 : Fin 2)).val = a; omega
  · show cc0_transform_6 (grid0.coords t) 1 * 5120 + 1 * (y (1 : Fin 2)).val = (y (1 : Fin 2)).val
    rw [e1]; generalize (y (1 : Fin 2)).val = a; omega

/-- An index of the block of scales on the rows inside the array is one the transfer moves. -/
theorem moved_6 (t : Fin cfg0.N) (j : S8x5120.Idx) (h : 8 * ((num t).val / 8) + (j 0).val < 69) :
    win0_6.moved (grid0.coords t) j = true := by
  have h0 : (j 0).val < 8 := lt0 j
  have h1 : (j 1).val < 5120 := lt1 j
  refine (win0_6.moved_iff _ _).mpr fun a => ?_
  have key : ∀ a : Fin 2, (j a).val < win0_6.xsize (grid0.coords t) a := by
    rw [Fin.forall_fin_two]
    refine ⟨lt_of_lt_of_eq ?_ (xsize_6_0 t).symm, lt_of_lt_of_eq h1 (xsize_6_1 t).symm⟩
    generalize (j 0).val = a at *
    omega
  exact key a

/-- Whatever fills it past the array's end, the staged block of scales holds the group's rows. -/
theorem held_6 (S : Vec F S69x5120 .f32) (t : Fin cfg0.N) (d : S8x5120.Idx → Elt F .f32)
    (g : (win0_6.xblock (grid0.coords t)).Idx → Elt F .f32) (hg : ∀ y, g y = S ((win0_6.blk t).view.emb y)) :
    Held S (num t).val (win0_6.fill (grid0.coords t) d g) := by
  intro j h
  unfold Pipeline.Window.fill
  rw [dif_pos (moved_6 t j h), hg, emb_6]

theorem xsize_9 : ∀ n : Fin 69, win0_9.xsize (pt n) = ![min 8 (69 - 8 * (n.val / 8)), 5120] := by decide +kernel

theorem xsize_9_0 (t : Fin cfg0.N) :
    win0_9.xsize (grid0.coords t) (0 : Fin 2) = min 8 (69 - 8 * ((num t).val / 8)) := by
  rw [coords_eq]; exact congrFun (xsize_9 (num t)) (0 : Fin 2)

theorem xsize_9_1 (t : Fin cfg0.N) : win0_9.xsize (grid0.coords t) (1 : Fin 2) = 5120 := by
  rw [coords_eq]; exact congrFun (xsize_9 (num t)) (1 : Fin 2)

theorem lt_9_0 (t : Fin cfg0.N) (y : (win0_9.xblock (grid0.coords t)).Idx) :
    8 * ((num t).val / 8) + (y (0 : Fin 2)).val < 69 := by
  have h0 : (y (0 : Fin 2)).val < _ := lt_of_lt_of_eq (y (0 : Fin 2)).isLt (xsize_9_0 t)
  exact Nat.add_lt_of_lt_sub' (lt_of_lt_of_le h0 (Nat.min_le_right _ _))

theorem lt_9_1 (t : Fin cfg0.N) (y : (win0_9.xblock (grid0.coords t)).Idx) : (y (1 : Fin 2)).val < 5120 :=
  lt_of_lt_of_eq (y (1 : Fin 2)).isLt (xsize_9_1 t)

/-- A block of eight rows of scales at a grid point, at an index inside the array. -/
theorem emb_9 (t : Fin cfg0.N) (y : (win0_9.xblock (grid0.coords t)).Idx) : (win0_9.blk t).view.emb y
    = ix2 (m := 69) (n := 5120) (8 * ((num t).val / 8) + (y (0 : Fin 2)).val) (y (1 : Fin 2)).val (lt_9_0 t y) (lt_9_1 t y) := by
  have e0 : cc0_transform_9 (grid0.coords t) 0 = (num t).val / 8 := by rw [coords_eq]; exact congrFun (idx_9 (num t)) 0
  have e1 : cc0_transform_9 (grid0.coords t) 1 = 0 := by rw [coords_eq]; exact congrFun (idx_9 (num t)) 1
  refine ext2 (m := 69) (n := 5120) ?_ ?_
  · show cc0_transform_9 (grid0.coords t) 0 * 8 + 1 * (y (0 : Fin 2)).val = 8 * ((num t).val / 8) + (y (0 : Fin 2)).val
    rw [e0]; generalize (y (0 : Fin 2)).val = a; omega
  · show cc0_transform_9 (grid0.coords t) 1 * 5120 + 1 * (y (1 : Fin 2)).val = (y (1 : Fin 2)).val
    rw [e1]; generalize (y (1 : Fin 2)).val = a; omega

/-- An index of the block of scales on the rows inside the array is one the transfer moves. -/
theorem moved_9 (t : Fin cfg0.N) (j : S8x5120.Idx) (h : 8 * ((num t).val / 8) + (j 0).val < 69) :
    win0_9.moved (grid0.coords t) j = true := by
  have h0 : (j 0).val < 8 := lt0 j
  have h1 : (j 1).val < 5120 := lt1 j
  refine (win0_9.moved_iff _ _).mpr fun a => ?_
  have key : ∀ a : Fin 2, (j a).val < win0_9.xsize (grid0.coords t) a := by
    rw [Fin.forall_fin_two]
    refine ⟨lt_of_lt_of_eq ?_ (xsize_9_0 t).symm, lt_of_lt_of_eq h1 (xsize_9_1 t).symm⟩
    generalize (j 0).val = a at *
    omega
  exact key a

/-- Contents that hold the group's new scales are, on the part written back, the array's block. -/
theorem cut_9 (S : Vec F S69x5120 .f32) (t : Fin cfg0.N) (x : S8x5120.Idx → Elt F .f32) (hx : Held S (num t).val x) :
    win0_9.cut (grid0.coords t) x = fun y => S ((win0_9.blk t).view.emb y) := by
  funext y
  rw [emb_9]
  exact hx (win0_9.xinj (grid0.coords t) y) (lt_9_0 t y)

theorem xsize_11 : ∀ n : Fin 69, win0_11.xsize (pt n) = ![min 8 (69 - 8 * (n.val / 8)), 5120] := by decide +kernel

theorem xsize_11_0 (t : Fin cfg0.N) :
    win0_11.xsize (grid0.coords t) (0 : Fin 2) = min 8 (69 - 8 * ((num t).val / 8)) := by
  rw [coords_eq]; exact congrFun (xsize_11 (num t)) (0 : Fin 2)

theorem xsize_11_1 (t : Fin cfg0.N) : win0_11.xsize (grid0.coords t) (1 : Fin 2) = 5120 := by
  rw [coords_eq]; exact congrFun (xsize_11 (num t)) (1 : Fin 2)

theorem lt_11_0 (t : Fin cfg0.N) (y : (win0_11.xblock (grid0.coords t)).Idx) :
    8 * ((num t).val / 8) + (y (0 : Fin 2)).val < 69 := by
  have h0 : (y (0 : Fin 2)).val < _ := lt_of_lt_of_eq (y (0 : Fin 2)).isLt (xsize_11_0 t)
  exact Nat.add_lt_of_lt_sub' (lt_of_lt_of_le h0 (Nat.min_le_right _ _))

theorem lt_11_1 (t : Fin cfg0.N) (y : (win0_11.xblock (grid0.coords t)).Idx) : (y (1 : Fin 2)).val < 5120 :=
  lt_of_lt_of_eq (y (1 : Fin 2)).isLt (xsize_11_1 t)

/-- A block of eight rows of scales at a grid point, at an index inside the array. -/
theorem emb_11 (t : Fin cfg0.N) (y : (win0_11.xblock (grid0.coords t)).Idx) : (win0_11.blk t).view.emb y
    = ix2 (m := 69) (n := 5120) (8 * ((num t).val / 8) + (y (0 : Fin 2)).val) (y (1 : Fin 2)).val (lt_11_0 t y) (lt_11_1 t y) := by
  have e0 : cc0_transform_11 (grid0.coords t) 0 = (num t).val / 8 := by rw [coords_eq]; exact congrFun (idx_11 (num t)) 0
  have e1 : cc0_transform_11 (grid0.coords t) 1 = 0 := by rw [coords_eq]; exact congrFun (idx_11 (num t)) 1
  refine ext2 (m := 69) (n := 5120) ?_ ?_
  · show cc0_transform_11 (grid0.coords t) 0 * 8 + 1 * (y (0 : Fin 2)).val = 8 * ((num t).val / 8) + (y (0 : Fin 2)).val
    rw [e0]; generalize (y (0 : Fin 2)).val = a; omega
  · show cc0_transform_11 (grid0.coords t) 1 * 5120 + 1 * (y (1 : Fin 2)).val = (y (1 : Fin 2)).val
    rw [e1]; generalize (y (1 : Fin 2)).val = a; omega

/-- An index of the block of scales on the rows inside the array is one the transfer moves. -/
theorem moved_11 (t : Fin cfg0.N) (j : S8x5120.Idx) (h : 8 * ((num t).val / 8) + (j 0).val < 69) :
    win0_11.moved (grid0.coords t) j = true := by
  have h0 : (j 0).val < 8 := lt0 j
  have h1 : (j 1).val < 5120 := lt1 j
  refine (win0_11.moved_iff _ _).mpr fun a => ?_
  have key : ∀ a : Fin 2, (j a).val < win0_11.xsize (grid0.coords t) a := by
    rw [Fin.forall_fin_two]
    refine ⟨lt_of_lt_of_eq ?_ (xsize_11_0 t).symm, lt_of_lt_of_eq h1 (xsize_11_1 t).symm⟩
    generalize (j 0).val = a at *
    omega
  exact key a

/-- Contents that hold the group's new scales are, on the part written back, the array's block. -/
theorem cut_11 (S : Vec F S69x5120 .f32) (t : Fin cfg0.N) (x : S8x5120.Idx → Elt F .f32) (hx : Held S (num t).val x) :
    win0_11.cut (grid0.coords t) x = fun y => S ((win0_11.blk t).view.emb y) := by
  funext y
  rw [emb_11]
  exact hx (win0_11.xinj (grid0.coords t) y) (lt_11_0 t y)

/-- The windows of new scales are written back at the group's last point only. -/
theorem flush_9 : ∀ t : Fin cfg0.N, (cfg0.win 9).flush t = (k0_cond2 (grid0.coords t) == 1#1) := by decide +kernel
theorem flush_11 : ∀ t : Fin cfg0.N, (cfg0.win 11).flush t = (k0_cond2 (grid0.coords t) == 1#1) := by decide +kernel

end Cert.KernelIdeal.Body

end
-- ==== Proof.KernelIdeal.Dats.lean ====
/- The kernel's proof data: what every staging buffer holds after the body at each grid point, what the scratch carries,
   and that the body keeps both; then the whole run. -/
module

public import proofs.«01_k».proof.Proof.KernelIdeal.Blks
public import Idealize.ShloMosaic.Lib.Pipeline.KitQuiescent
public import Idealize.ShloMosaic.Lib.Tactic

@[expose] public section

set_option maxRecDepth 8192
set_option maxHeartbeats 1000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.KernelIdeal.Gen Cert.Pieces

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays the region finds -/

/-- The step counter. -/
def aT (c : Dev nD) : Elt F .i32 := word (F := F) (V m c main_v0)
/-- The parameters. -/
def aP (c : Dev nD) : Vec F S8832x5120 .f32 := V m c main_arg0
/-- The gradients. -/
def aG (c : Dev nD) : Vec F S8832x5120 .bf16 := V m c main_arg1
/-- The codes of the first moment. -/
def aMC (c : Dev nD) : Vec F S8832x5120 .i8 := V m c main_arg2
/-- The scales of the first moment. -/
def aMS (c : Dev nD) : Vec F S69x5120 .f32 := V m c main_arg3
/-- The codes of the second moment. -/
def aVC (c : Dev nD) : Vec F S8832x5120 .i8 := V m c main_arg4
/-- The scales of the second moment. -/
def aVS (c : Dev nD) : Vec F S69x5120 .f32 := V m c main_arg5

/-- The update array the kernel ends with. -/
def rD (c : Dev nD) : Vec F S8832x5120 .f32 := newD (aT m c) (aP m c) (aG m c) (aMC m c) (aVC m c) (aMS m c) (aVS m c)
/-- The codes of the first moment it ends with. -/
def rMc (c : Dev nD) : Vec F S8832x5120 .i8 := newMc (aG m c) (aMC m c) (aMS m c)
/-- The scales of the first moment it ends with. -/
def rMs (c : Dev nD) : Vec F S69x5120 .f32 := newMs (aG m c) (aMC m c) (aMS m c)
/-- The codes of the second moment it ends with. -/
def rVc (c : Dev nD) : Vec F S8832x5120 .i8 := newVc (aG m c) (aVC m c) (aVS m c)
/-- The scales of the second moment it ends with. -/
def rVs (c : Dev nD) : Vec F S69x5120 .f32 := newVs (aG m c) (aVC m c) (aVS m c)

/-! ## Every block read off its array -/

theorem iblk_0 (c : Dev nD) (t : Fin cfg0.N) : word (F := F) (iblk m c 0 t) = aT m c := by
  unfold word aT word iblk
  refine congrArg (V m c main_v0) (funext fun a => ?_)
  fin_cases a
  exact Fin.ext (Nat.lt_one_iff.mp (Fin.isLt _))
theorem iblk_1 (c : Dev nD) (t : Fin cfg0.N) : iblk m c 1 t = rowsAt (aP m c) (num t).val (num t).isLt :=
  funext fun y => congrArg (aP m c) (emb_1 t y)
theorem iblk_2 (c : Dev nD) (t : Fin cfg0.N) : iblk m c 2 t = rowsAt (aG m c) (num t).val (num t).isLt :=
  funext fun y => congrArg (aG m c) (emb_2 t y)
theorem iblk_3 (c : Dev nD) (t : Fin cfg0.N) : iblk m c 3 t = rowsAt (aMC m c) (num t).val (num t).isLt :=
  funext fun y => congrArg (aMC m c) (emb_3 t y)
theorem iblk_5 (c : Dev nD) (t : Fin cfg0.N) : iblk m c 5 t = rowsAt (aVC m c) (num t).val (num t).isLt :=
  funext fun y => congrArg (aVC m c) (emb_5 t y)
theorem iblk_4 (c : Dev nD) (t : Fin cfg0.N) (y) : iblk m c 4 t y = aMS m c ((win0_4.blk t).view.emb y) := rfl
theorem iblk_6 (c : Dev nD) (t : Fin cfg0.N) (y) : iblk m c 6 t y = aVS m c ((win0_6.blk t).view.emb y) := rfl

/-! ## The proof data -/

/-- A word for the rows past an array's end. -/
abbrev pad : S8x5120.Idx → Elt F .f32 := fun _ => Scalar.ofBits .f32 0#32

/-- What the scratch holds before point `n`. -/
def Φ₀ (c : Dev nD) (n : ℕ) : sProp 𝕄 :=
  iprop((∃ y13 y14 y15 y16, ⌜Inv (aMS m c) (rMs m c) n y13 y15 ∧ Inv (aVS m c) (rVs m c) n y14 y16⌝
      ∗ owns (c : Thread nD τ) (Memref.whole cc0_scratch0) fullShare y13
      ∗ owns (c : Thread nD τ) (Memref.whole cc0_scratch1) fullShare y14
      ∗ owns (c : Thread nD τ) (Memref.whole cc0_scratch2) fullShare y15
      ∗ owns (c : Thread nD τ) (Memref.whole cc0_scratch3) fullShare y16)
    ∗ ∃ r, prngReg c r)

/-- After the body at a point: the inputs' buffers hold their blocks, the outputs' the blocks of the arrays the kernel
    ends with; past an array's end, where nothing is stated, zeros. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => win0_4.fill (grid0.coords t) pad (iblk m c 4 t)
    | ⟨5, _⟩ => iblk m c 5 t
    | ⟨6, _⟩ => win0_6.fill (grid0.coords t) pad (iblk m c 6 t)
    | ⟨7, _⟩ => rowsAt (rD m c) (num t).val (num t).isLt
    | ⟨8, _⟩ => rowsAt (rMc m c) (num t).val (num t).isLt
    | ⟨9, _⟩ => win0_9.fill (grid0.coords t) pad fun y => rMs m c ((win0_9.blk t).view.emb y)
    | ⟨10, _⟩ => rowsAt (rVc m c) (num t).val (num t).isLt
    | ⟨11, _⟩ => win0_11.fill (grid0.coords t) pad fun y => rVs m c ((win0_11.blk t).view.emb y)
  Φ t := Φ₀ m c t.val
  q _ := fullShare
  owed _ := 0

theorem A_eq (c : Dev nD) (w : Fin cfg0.W) : (dats m 0 c).A w = V m c (Pipeline.arrRef spec0 w) := rfl

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem clip_4 (t t' : Fin cfg0.N) (h : win0_4.index t = win0_4.index t') :
    win0_4.clip (grid0.coords t) = win0_4.clip (grid0.coords t') := by
  funext a
  show Pipeline.Clip.of (win0_4.index t a) _ _ = Pipeline.Clip.of (win0_4.index t' a) _ _
  rw [h]
theorem before_4 (c : Dev nD) (t : Fin cfg0.N) (d) :
    (dats m 0 c).before 4 t d = win0_4.fill (grid0.coords t) d (iblk m c 4 t) :=
  ((dats m 0 c).before_in_eq_fetched 4 rfl (fun _ => rfl) (clip_4) (fun t => win0_4.cut_fill _ _ _) t d).trans rfl
theorem clip_6 (t t' : Fin cfg0.N) (h : win0_6.index t = win0_6.index t') :
    win0_6.clip (grid0.coords t) = win0_6.clip (grid0.coords t') := by
  funext a
  show Pipeline.Clip.of (win0_6.index t a) _ _ = Pipeline.Clip.of (win0_6.index t' a) _ _
  rw [h]
theorem before_6 (c : Dev nD) (t : Fin cfg0.N) (d) :
    (dats m 0 c).before 6 t d = win0_6.fill (grid0.coords t) d (iblk m c 6 t) :=
  ((dats m 0 c).before_in_eq_fetched 6 rfl (fun _ => rfl) (clip_6) (fun t => win0_6.cut_fill _ _ _) t d).trans rfl

theorem defs₀_row (t : Fin cfg0.N) :
    defs₀ (F := F) .tc cfg0.body (cfg0.bodyArgs t (cfg0.slots t)) = bodyAt0 t := by
  unfold defs₀; rw [Defs.onTc_tc]

/-- What the body leaves in window 9's buffer is what its obligation asks: at a group's last point the group's new scales,
    elsewhere what it found. -/
theorem leave_9 (c : Dev nD) (t : Fin cfg0.N) (d) (y : Vec F S40x8x128 .f32)
    (h : k0_cond2 (grid0.coords t) = 1#1 → Held (rMs m c) (num t).val (stageOut y)) :
    (owns (c : Thread nD τ) (st0_9 t) fullShare (out10 (grid0.coords t) y ((dats m 0 c).before 9 t d)) : sProp 𝕄)
      ⊢ (dats m 0 c).leaves 9 t := by
  unfold Dat.leaves out10
  by_cases h2 : k0_cond2 (grid0.coords t) = 1#1
  · have hi : cfg0.idle 9 (grid0.coords t) = false := by
      show (!(k0_cond2 (grid0.coords t) == 1#1)) = false
      rw [h2]; rfl
    rw [hi, if_pos h2]
    have hx : win0_9.cut (grid0.coords t) (stageOut y) = win0_9.cut (grid0.coords t) ((dats m 0 c).after 9 t) :=
      (cut_9 _ t _ (h h2)).trans (win0_9.cut_fill _ _ _).symm
    iintro H
    iexists (stageOut y)
    change _ ⊢ owns (c : Thread nD τ) (st0_9 t) fullShare (win0_9.fill (grid0.coords t) (stageOut y) (win0_9.cut (grid0.coords t) ((dats m 0 c).after 9 t)))
    rw [win0_9.fill_congr_cut _ hx]
  · have hi : cfg0.idle 9 (grid0.coords t) = true := by
      show (!(k0_cond2 (grid0.coords t) == 1#1)) = true
      rw [beq_false_of_ne h2]; rfl
    have hf : (cfg0.win 9).flush t = false := by rw [flush_9, beq_false_of_ne h2]
    rw [hi, hf, if_neg h2]
    iintro H
    iexists d
    iexact H

/-- What the body leaves in window 11's buffer is what its obligation asks: at a group's last point the group's new scales,
    elsewhere what it found. -/
theorem leave_11 (c : Dev nD) (t : Fin cfg0.N) (d) (y : Vec F S40x8x128 .f32)
    (h : k0_cond2 (grid0.coords t) = 1#1 → Held (rVs m c) (num t).val (stageOut y)) :
    (owns (c : Thread nD τ) (st0_11 t) fullShare (out10 (grid0.coords t) y ((dats m 0 c).before 11 t d)) : sProp 𝕄)
      ⊢ (dats m 0 c).leaves 11 t := by
  unfold Dat.leaves out10
  by_cases h2 : k0_cond2 (grid0.coords t) = 1#1
  · have hi : cfg0.idle 11 (grid0.coords t) = false := by
      show (!(k0_cond2 (grid0.coords t) == 1#1)) = false
      rw [h2]; rfl
    rw [hi, if_pos h2]
    have hx : win0_11.cut (grid0.coords t) (stageOut y) = win0_11.cut (grid0.coords t) ((dats m 0 c).after 11 t) :=
      (cut_11 _ t _ (h h2)).trans (win0_11.cut_fill _ _ _).symm
    iintro H
    iexists (stageOut y)
    change _ ⊢ owns (c : Thread nD τ) (st0_11 t) fullShare (win0_11.fill (grid0.coords t) (stageOut y) (win0_11.cut (grid0.coords t) ((dats m 0 c).after 11 t)))
    rw [win0_11.fill_congr_cut _ hx]
  · have hi : cfg0.idle 11 (grid0.coords t) = true := by
      show (!(k0_cond2 (grid0.coords t) == 1#1)) = true
      rw [beq_false_of_ne h2]; rfl
    have hf : (cfg0.win 11).flush t = false := by rw [flush_11, beq_false_of_ne h2]
    rw [hi, hf, if_neg h2]
    iintro H
    iexists d
    iexact H

theorem leave_4 (c : Dev nD) (t : Fin cfg0.N) (d) :
    (owns (c : Thread nD τ) (st0_4 t) fullShare (win0_4.fill (grid0.coords t) d (iblk m c 4 t)) : sProp 𝕄)
      ⊢ (dats m 0 c).leaves 4 t := by
  iintro H
  iexists d
  change _ ⊢ owns (c : Thread nD τ) (st0_4 t) fullShare (win0_4.fill (grid0.coords t) d (win0_4.cut (grid0.coords t) (win0_4.fill (grid0.coords t) pad (iblk m c 4 t))))
  rw [win0_4.cut_fill]

theorem leave_6 (c : Dev nD) (t : Fin cfg0.N) (d) :
    (owns (c : Thread nD τ) (st0_6 t) fullShare (win0_6.fill (grid0.coords t) d (iblk m c 6 t)) : sProp 𝕄)
      ⊢ (dats m 0 c).leaves 6 t := by
  iintro H
  iexists d
  change _ ⊢ owns (c : Thread nD τ) (st0_6 t) fullShare (win0_6.fill (grid0.coords t) d (win0_6.cut (grid0.coords t) (win0_6.fill (grid0.coords t) pad (iblk m c 6 t))))
  rw [win0_6.cut_fill]

/-! ## One grid point over its staged blocks -/

section Pt

variable (c : Dev nD) (t : Fin cfg0.N) (y y' : Vec F S40x8x128 .f32)

theorem d_eq (h : ∀ j, (j 1).val = row (grid0.coords t) → y j = scaleRow (aMS m c) (num t).val (num t).isLt j)
    (h' : ∀ j, (j 1).val = row (grid0.coords t) → y' j = scaleRow (aVS m c) (num t).val (num t).isLt j) :
    dOf (grid0.coords t) (iblk m c 0 t) (iblk m c 1 t) (iblk m c 2 t) (iblk m c 3 t) (iblk m c 5 t) y y'
      = rowsAt (rD m c) (num t).val (num t).isLt := by
  rw [coords_eq] at h h'
  unfold dOf
  rw [iblk_0, iblk_1, iblk_2, iblk_3, iblk_5, coords_eq, tripD_eq (num t) (aT m c) (aP m c) (aG m c) (aMC m c) (aVC m c) (aMS m c) (aVS m c) y y' h h']
  exact (rowsAt_asmAll _ _).symm

theorem mc_eq (h : ∀ j, (j 1).val = row (grid0.coords t) → y j = scaleRow (aMS m c) (num t).val (num t).isLt j) :
    mcOf (grid0.coords t) (iblk m c 2 t) (iblk m c 3 t) y = rowsAt (rMc m c) (num t).val (num t).isLt := by
  rw [coords_eq] at h
  unfold mcOf
  rw [iblk_2, iblk_3, coords_eq, tripM_eq (num t) (aG m c) (aMC m c) (aMS m c) y h]
  exact (rowsAt_asmAll (fun n k => k0_pay86 (wholeM (aG m c) (aMC m c) (aMS m c) n k)) (num t)).symm

theorem vc_eq (h : ∀ j, (j 1).val = row (grid0.coords t) → y j = scaleRow (aVS m c) (num t).val (num t).isLt j) :
    vcOf (grid0.coords t) (iblk m c 2 t) (iblk m c 5 t) y = rowsAt (rVc m c) (num t).val (num t).isLt := by
  rw [coords_eq] at h
  unfold vcOf
  rw [iblk_2, iblk_5, coords_eq, tripV_eq (num t) (aG m c) (aVC m c) (aVS m c) y h]
  exact (rowsAt_asmAll (fun n k => k0_pay175 (wholeV (aG m c) (aVC m c) (aVS m c) n k)
    (k0_pay88 (wholeV (aG m c) (aVC m c) (aVS m c) n k)) (k0_pay89 (F := F))) (num t)).symm

theorem ms_eq (h : ∀ j, (j 1).val = row (grid0.coords t) → y j = scaleRow (aMS m c) (num t).val (num t).isLt j) :
    msOf (grid0.coords t) (iblk m c 2 t) (iblk m c 3 t) y y'
      = setRow (row (grid0.coords t)) (fun k => k0_pay87 (wholeM (aG m c) (aMC m c) (aMS m c) (num t) k)) y' := by
  rw [coords_eq] at h
  unfold msOf
  rw [iblk_2, iblk_3, coords_eq, tripM_eq (num t) (aG m c) (aMC m c) (aMS m c) y h]

theorem vs_eq (h : ∀ j, (j 1).val = row (grid0.coords t) → y j = scaleRow (aVS m c) (num t).val (num t).isLt j) :
    vsOf (grid0.coords t) (iblk m c 2 t) (iblk m c 5 t) y y'
      = setRow (row (grid0.coords t)) (fun k => k0_pay176 (k0_pay88 (wholeV (aG m c) (aVC m c) (aVS m c) (num t) k))) y' := by
  rw [coords_eq] at h
  unfold vsOf
  rw [iblk_2, iblk_5, coords_eq, tripV_eq (num t) (aG m c) (aVC m c) (aVS m c) y h]

end Pt

/-! ## The body obligation -/

/-- THE BODY KEEPS THE PROOF DATA, at every grid point. -/
theorem body_obligation (c : Dev nD) : BodyObligationLoose (dats m 0 c) (defs₀ (F := F)) Variants.none () Set.univ := fun t => by
  rw [bigSep_W0, bigSep_W0, defs₀_row]
  change iprop(Φ₀ m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))
    ⊢ wp Idealize.ShloMosaic.frame (wpE (defs₀ (F := F)) Variants.none (c : Thread nD τ) none) Set.univ (bodyAt0 t) fun _ =>
      iprop(Φ₀ m c (t.val + 1) ∗ (dats m 0 c).owesAt () t.succ
      ∗ owns (c : Thread nD τ) (st0_0 t) fullShare (iblk m c 0 t)
      ∗ owns (c : Thread nD τ) (st0_1 t) fullShare (iblk m c 1 t)
      ∗ owns (c : Thread nD τ) (st0_2 t) fullShare (iblk m c 2 t)
      ∗ owns (c : Thread nD τ) (st0_3 t) fullShare (iblk m c 3 t)
      ∗ (dats m 0 c).leaves 4 t
      ∗ owns (c : Thread nD τ) (st0_5 t) fullShare (iblk m c 5 t)
      ∗ (dats m 0 c).leaves 6 t
      ∗ owns (c : Thread nD τ) (st0_7 t) fullShare (rowsAt (rD m c) (num t).val (num t).isLt)
      ∗ owns (c : Thread nD τ) (st0_8 t) fullShare (rowsAt (rMc m c) (num t).val (num t).isLt)
      ∗ (dats m 0 c).leaves 9 t
      ∗ owns (c : Thread nD τ) (st0_10 t) fullShare (rowsAt (rVc m c) (num t).val (num t).isLt)
      ∗ (dats m 0 c).leaves 11 t)
  rw [show (dats m 0 c).owesAt () t.succ = (dats m 0 c).owesAt () t.castSucc from rfl]
  unfold Φ₀
  iintro ⟨⟨⟨%y13, %y14, %y15, %y16, %hI, S13, S14, S15, S16⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [before_0 m c t d0, before_1 m c t d1, before_2 m c t d2, before_3 m c t d3, before_4 m c t d4, before_5 m c t d5, before_6 m c t d6]
  obtain ⟨hM, hV⟩ := hI
  rw [← num_val t] at hM hV ⊢
  have xM : Held (aMS m c) (num t).val (win0_4.fill (grid0.coords t) d4 (iblk m c 4 t)) := held_4 _ t d4 _ (iblk_4 m c t)
  have xV : Held (aVS m c) (num t).val (win0_6.fill (grid0.coords t) d6 (iblk m c 6 t)) := held_6 _ t d6 _ (iblk_6 m c t)
  have eM := hM.agree xM
  have eV := hV.agree xV
  have sM := hM.step xM (fun n k => k0_pay87 (wholeM (aG m c) (aMC m c) (aMS m c) n k)) rfl
  have sV := hV.step xV (fun n k => k0_pay176 (k0_pay88 (wholeV (aG m c) (aVC m c) (aVS m c) n k))) rfl
  have oM := hM.held (fun n k => k0_pay87 (wholeM (aG m c) (aMC m c) (aMS m c) n k)) rfl
  have oV := hV.held (fun n k => k0_pay176 (k0_pay88 (wholeV (aG m c) (aVC m c) (aVS m c) n k))) rfl
  rw [← coords_eq t] at eM eV sM sV oM oV
  iapply (wp_wand_r Idealize.ShloMosaic.frame (wpE (defs₀ (F := F)) Variants.none (c : Thread nD τ) none) Set.univ)
  isplitl [H0 H1 H2 H3 H4 H5 H6 H7 H8 H9 H10 H11 S13 S14 S15 S16]
  · iapply (run (F := F) Variants.none c none (grid0.coords t) _ _ _ _ _ _ _ _ _ _ _ _ _ _ _ _ _ _ _ _ _ _ _ _ _ _ _ _ _ _ _ _ Set.univ
      (iblk m c 0 t) (iblk m c 1 t) (iblk m c 2 t) (iblk m c 3 t) (win0_4.fill (grid0.coords t) d4 (iblk m c 4 t)) (iblk m c 5 t)
      (win0_6.fill (grid0.coords t) d6 (iblk m c 6 t)) ((dats m 0 c).before 7 t d7) ((dats m 0 c).before 8 t d8) ((dats m 0 c).before 9 t d9)
      ((dats m 0 c).before 10 t d10) ((dats m 0 c).before 11 t d11) y13 y14 y15 y16)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [S13]; · iexact S13
    isplitl [S14]; · iexact S14
    isplitl [S15]; · iexact S15
    iexact S16
  iintro %_ ⟨H0, H1, H2, H3, H4, H5, H6, H7, H8, H9, H10, H11, S13, S14, S15, S16⟩
  rw [d_eq m c t _ _ eM eV, mc_eq m c t _ eM, vc_eq m c t _ eV, ms_eq m c t _ _ eM, vs_eq m c t _ _ eV]
  isplitl [S13 S14 S15 S16 Hr]
  · isplitl [S13 S14 S15 S16]
    · iexists _; iexists _; iexists _; iexists _
      isplitr; rotate_left
      · isplitl [S13]; · iexact S13
        isplitl [S14]; · iexact S14
        isplitl [S15]; · iexact S15
        iexact S16
      ipureintro
      exact ⟨sM, sV⟩
    iexact Hr
  isplitl [Ho]; · iexact Ho
  isplitl [H0]; · iexact H0
  isplitl [H1]; · iexact H1
  isplitl [H2]; · iexact H2
  isplitl [H3]; · iexact H3
  isplitl [H4]; · iapply (leave_4 m c t d4); iexact H4
  isplitl [H5]; · iexact H5
  isplitl [H6]; · iapply (leave_6 m c t d6); iexact H6
  isplitl [H7]; · iexact H7
  isplitl [H8]; · iexact H8
  isplitl [H9]; · iapply (leave_9 m c t d9 _ oM); iexact H9
  isplitl [H10]; · iexact H10
  iapply (leave_11 m c t d11 _ oV); iexact H11

end Cert.KernelIdeal.Body

end
-- ==== Proof.KernelIdeal.Final.lean ====
/- The whole run of the kernel: it ends, leaves its arguments as they were, and ends with the arrays named. -/
module

public import proofs.«01_k».proof.Proof.KernelIdeal.Dats
public import Idealize.ShloMosaic.Lib.Pipeline.ValueKit
public import Idealize.ShloMosaic.Lib.Pipeline.KitQuiescent
public import Idealize.ShloMosaic.Lib.Tactic

@[expose] public section

set_option maxRecDepth 8192
set_option maxHeartbeats 1000000

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.KernelIdeal.Gen Cert.Pieces

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The launch -/

/-- Before the first point the scratch holds anything. -/
theorem hin (c : Dev nD) : Pipeline.ΦA spec0 c ⊢ (dats m 0 c).Φ 0 := by
  show _ ⊢ Φ₀ m c 0
  unfold Pipeline.ΦA Φ₀
  rw [scopedRest0_eq]
  simp only [owns_whole_eq]
  iintro ⟨⟨⟨%f13, H13⟩, ⟨%f14, H14⟩, ⟨%f15, H15⟩, ⟨%f16, H16⟩⟩, Hr⟩
  isplitl [H13 H14 H15 H16]
  · iexists f13; iexists f14; iexists f15; iexists f16
    isplitr
    · ipureintro; exact ⟨Inv.zero _ _ _ _, Inv.zero _ _ _ _⟩
    isplitl [H13]
    · iexists f13; isplitr; · ipureintro; rfl
      iexact H13
    isplitl [H14]
    · iexists f14; isplitr; · ipureintro; rfl
      iexact H14
    isplitl [H15]
    · iexists f15; isplitr; · ipureintro; rfl
      iexact H15
    iexists f16; isplitr; · ipureintro; rfl
    iexact H16
  iexact Hr

/-- After the last point the scratch is forgotten. -/
theorem hout (c : Dev nD) : (dats m 0 c).Φ (Fin.last cfg0.N) ⊢ Pipeline.ΦA spec0 c := by
  show Φ₀ m c _ ⊢ _
  unfold Pipeline.ΦA Φ₀
  rw [scopedRest0_eq]
  simp only [owns_whole_eq]
  iintro ⟨⟨%y13, %y14, %y15, %y16, -, ⟨%f13, -, H13⟩, ⟨%f14, -, H14⟩, ⟨%f15, -, H15⟩, ⟨%f16, -, H16⟩⟩, Hr⟩
  isplitl [H13 H14 H15 H16]
  · isplitl [H13]; · iexists f13; iexact H13
    isplitl [H14]; · iexists f14; iexact H14
    isplitl [H15]; · iexists f15; iexact H15
    iexists f16; iexact H16
  iexact Hr

-- the run theorem's implicit arguments are found by unifying its conclusion with this one, which takes unfolding plain
-- definitions in a metavariable's type
set_option backward.isDefEq.respectTransparency.types false in
/-- THE LAUNCH: every execution of @main ends, with every array at what the proof data say and every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m)
    (hin := hin m) (hout := hout m)

/-- The argument arrays end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun _ h => ⟨fun c => ⟨((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).1 4).trans (((dats m 0 c).arrAt_in 4 rfl _).trans ((A_eq m c 4).trans (V_main_arg3 m c))),
      ((h.1 c).1 5).trans (((dats m 0 c).arrAt_in 5 rfl _).trans ((A_eq m c 5).trans (V_main_arg4 m c))),
      ((h.1 c).1 6).trans (((dats m 0 c).arrAt_in 6 rfl _).trans ((A_eq m c 6).trans (V_main_arg5 m c))),
      ((h.1 c).2 main_arg6 (Pipeline.mem_restRefs_of main_arg6 (by decide) (by decide))).trans (V_main_arg6 m c)⟩, h.2⟩) (run_main m ρ)

/-! ## The result arrays -/

theorem final_7 (c : Dev nD) : (dats m 0 c).arrAt 7 cfg0.N = rD m c :=
  (dats m 0 c).arrAt_eq_of_covers 7 (rD m c) (by decide +kernel) fun t _ y => (congrArg (rD m c) (emb_7 t y)).symm
theorem final_8 (c : Dev nD) : (dats m 0 c).arrAt 8 cfg0.N = rMc m c :=
  (dats m 0 c).arrAt_eq_of_covers 8 (rMc m c) (by decide +kernel) fun t _ y => (congrArg (rMc m c) (emb_8 t y)).symm
theorem final_10 (c : Dev nD) : (dats m 0 c).arrAt 10 cfg0.N = rVc m c :=
  (dats m 0 c).arrAt_eq_of_covers 10 (rVc m c) (by decide +kernel) fun t _ y => (congrArg (rVc m c) (emb_10 t y)).symm
theorem final_9 (c : Dev nD) : (dats m 0 c).arrAt 9 cfg0.N = rMs m c :=
  (dats m 0 c).arrAt_eq_of_covers 9 (rMs m c) (by decide +kernel) fun t _ y =>
    win0_9.fill_xinj (grid0.coords t) pad (fun y => rMs m c ((win0_9.blk t).view.emb y)) y
theorem final_11 (c : Dev nD) : (dats m 0 c).arrAt 11 cfg0.N = rVs m c :=
  (dats m 0 c).arrAt_eq_of_covers 11 (rVs m c) (by decide +kernel) fun t _ y =>
    win0_11.fill_xinj (grid0.coords t) pad (fun y => rVs m c ((win0_11.blk t).view.emb y)) y

end Cert.KernelIdeal.Body

end
-- ==== Proof.ReferenceIdeal.Values.lean ====
/- What the reference computes: each of its five result arrays as one expression of its argument arrays. -/
module

public import proofs.«01_k».proof.Proof.Gen.ReferenceIdeal.Value
public import Idealize.ShloMosaic.Lib.WholeRead
public import Idealize.ShloMosaic.Lib.VecWindow
public import Idealize.ShloMosaic.Lib.Pipeline.ValueKit

@[expose] public section

set_option maxRecDepth 8192

noncomputable section

namespace Cert.ReferenceIdeal.Body

open Cert.ReferenceIdeal Cert.ReferenceIdeal.Gen Idealize.ShloMosaic Idealize.ShloMosaic.TcCoe Idealize.SL.Sem
open Idealize.ShloMosaic.Pipeline (Dat)

variable {F : FTy → Type} [FloatOps F]

/-! ## The results as expressions of whole arrays -/

/-- The one word of the step count. -/
def word (x : Vec F S1 .i32) : Elt F .i32 := x fun a => ⟨0, by fin_cases a; decide⟩

/-- The update. -/
def newD (t : Elt F .i32) (P : Vec F S8832x5120 .f32) (G : Vec F S8832x5120 .bf16) (MC : Vec F S8832x5120 .i8)
    (MS : Vec F S69x5120 .f32) (VC : Vec F S8832x5120 .i8) (VS : Vec F S69x5120 .f32) : Vec F S8832x5120 .f32 :=
  k0_pay9 (k0_pay4 MC MS G) (k0_pay5 VC VS G) (k0_pay7 t) (k0_pay8 t) P

/-- The codes of the first moment. -/
def newMc (G : Vec F S8832x5120 .bf16) (MC : Vec F S8832x5120 .i8) (MS : Vec F S69x5120 .f32) : Vec F S8832x5120 .i8 :=
  k0_pay12 (k0_pay4 MC MS G)

/-- The scales of the first moment. -/
def newMs (G : Vec F S8832x5120 .bf16) (MC : Vec F S8832x5120 .i8) (MS : Vec F S69x5120 .f32) : Vec F S69x5120 .f32 :=
  k0_pay11 (k0_pay4 MC MS G)

/-- The codes of the second moment. -/
def newVc (G : Vec F S8832x5120 .bf16) (VC : Vec F S8832x5120 .i8) (VS : Vec F S69x5120 .f32) : Vec F S8832x5120 .i8 :=
  k0_pay2 (k0_pay13 (k0_pay5 VC VS G)) (k0_pay14 (k0_pay5 VC VS G)) (FloatOps.ofBits .f32 0x00000000#32)

/-- The scales of the second moment. -/
def newVs (G : Vec F S8832x5120 .bf16) (VC : Vec F S8832x5120 .i8) (VS : Vec F S69x5120 .f32) : Vec F S69x5120 .f32 :=
  k0_pay1 (k0_pay14 (k0_pay5 VC VS G)) (FloatOps.ofBits .f32 0x00000000#32)

/-! ## The body's stores -/

/-- A load of a whole buffer reads what the buffer holds. -/
theorem load_whole {sp : Space} {s : Shape} {e : EltTy} (a : Memref sig .tc sp s e) (h : a.IsWhole) (x : Vec F s e)
    {off : Fin s.rank → ℕ} (inb : ∀ a, off a + s.size a ≤ s.size a) :
    View.readAt (Elt F) a.view (Rect.unit off s.size inb).toLoadRect (h.unread x) = x := by
  funext y
  refine (h.readAt_unread x _ y).trans (congrArg x (funext fun a => Fin.ext ?_))
  have := inb a
  show off a + 1 * (y a).val = (y a).val
  omega

section Outs

variable (c : Dev nD) (a0 : Memref sig .tc .smem S1 .i32) (h0 : a0.IsWhole)
  (a1 : Memref sig .tc .vmem S8832x5120 .f32) (h1 : a1.IsWhole)
  (a2 : Memref sig .tc .vmem S8832x5120 .bf16) (h2 : a2.IsWhole)
  (a3 : Memref sig .tc .vmem S8832x5120 .i8) (h3 : a3.IsWhole)
  (a4 : Memref sig .tc .vmem S69x5120 .f32) (h4 : a4.IsWhole)
  (a5 : Memref sig .tc .vmem S8832x5120 .i8) (h5 : a5.IsWhole)
  (a6 : Memref sig .tc .vmem S69x5120 .f32) (h6 : a6.IsWhole)
  (a7 : Memref sig .tc .vmem S8832x5120 .f32) (h7 : a7.IsWhole)
  (a8 : Memref sig .tc .vmem S8832x5120 .i8) (h8 : a8.IsWhole)
  (a9 : Memref sig .tc .vmem S69x5120 .f32) (h9 : a9.IsWhole)
  (a10 : Memref sig .tc .vmem S8832x5120 .i8) (h10 : a10.IsWhole)
  (a11 : Memref sig .tc .vmem S69x5120 .f32) (h11 : a11.IsWhole)
  (x0 : Vec F S1 .i32) (x1 : Vec F S8832x5120 .f32) (x2 : Vec F S8832x5120 .bf16) (x3 : Vec F S8832x5120 .i8) (x4 : Vec F S69x5120 .f32) (x5 : Vec F S8832x5120 .i8) (x6 : Vec F S69x5120 .f32)

theorem out_7 : out0_A_7 c a0 h0 a1 h1 a2 h2 a3 h3 a4 h4 a5 h5 a6 h6 a7 h7 a8 h8 a9 h9 a10 h10 a11 h11 x0 x1 x2 x3 x4 x5 x6
    = newD (word x0) x1 x2 x3 x4 x5 x6 := by
  unfold out0_A_7 kernelRun0_A newD word
  dsimp only [kernelRun0_A.sl.r, kernelRun0_A.sl.r_1, kernelRun0_A.sl.r_2, kernelRun0_A.sl.r_3, kernelRun0_A.sl.r_4, kernelRun0_A.sl.r_5, kernelRun0_A.sl.r_6,
    kernelRun0_A.sl.cst_35]
  refine (View.read_writes_full VO0_7 VO0_7.junk inb_S8832x5120_S8832x5120_0_0 _ []).trans ?_
  rw [load_whole a3 h3 x3, load_whole a4 h4 x4, load_whole a2 h2 x2, load_whole a5 h5 x5, load_whole a6 h6 x6, load_whole a1 h1 x1, load_whole a0 h0 x0]
  rfl

theorem out_8 : out0_A_8 c a0 h0 a1 h1 a2 h2 a3 h3 a4 h4 a5 h5 a6 h6 a7 h7 a8 h8 a9 h9 a10 h10 a11 h11 x0 x1 x2 x3 x4 x5 x6
    = newMc x2 x3 x4 := by
  unfold out0_A_8 kernelRun0_A newMc
  dsimp only [kernelRun0_A.sl.r, kernelRun0_A.sl.r_1, kernelRun0_A.sl.r_2, kernelRun0_A.sl.r_3, kernelRun0_A.sl.r_4, kernelRun0_A.sl.r_5, kernelRun0_A.sl.r_6,
    kernelRun0_A.sl.cst_35]
  refine (View.read_writes_full VO0_8 VO0_8.junk inb_S8832x5120_S8832x5120_0_0 _ []).trans ?_
  rw [load_whole a3 h3 x3, load_whole a4 h4 x4, load_whole a2 h2 x2]

theorem out_9 : out0_A_9 c a0 h0 a1 h1 a2 h2 a3 h3 a4 h4 a5 h5 a6 h6 a7 h7 a8 h8 a9 h9 a10 h10 a11 h11 x0 x1 x2 x3 x4 x5 x6
    = newMs x2 x3 x4 := by
  unfold out0_A_9 kernelRun0_A newMs
  dsimp only [kernelRun0_A.sl.r, kernelRun0_A.sl.r_1, kernelRun0_A.sl.r_2, kernelRun0_A.sl.r_3, kernelRun0_A.sl.r_4, kernelRun0_A.sl.r_5, kernelRun0_A.sl.r_6,
    kernelRun0_A.sl.cst_35]
  refine (View.read_writes_full VO0_9 VO0_9.junk inb_S69x5120_S69x5120_0_0 _ []).trans ?_
  rw [load_whole a3 h3 x3, load_whole a4 h4 x4, load_whole a2 h2 x2]

theorem out_10 : out0_A_10 c a0 h0 a1 h1 a2 h2 a3 h3 a4 h4 a5 h5 a6 h6 a7 h7 a8 h8 a9 h9 a10 h10 a11 h11 x0 x1 x2 x3 x4 x5 x6
    = newVc x2 x5 x6 := by
  unfold out0_A_10 kernelRun0_A newVc
  dsimp only [kernelRun0_A.sl.r, kernelRun0_A.sl.r_1, kernelRun0_A.sl.r_2, kernelRun0_A.sl.r_3, kernelRun0_A.sl.r_4, kernelRun0_A.sl.r_5, kernelRun0_A.sl.r_6,
    kernelRun0_A.sl.cst_35]
  refine (View.read_writes_full VO0_10 VO0_10.junk inb_S8832x5120_S8832x5120_0_0 _ []).trans ?_
  rw [load_whole a5 h5 x5, load_whole a6 h6 x6, load_whole a2 h2 x2]

theorem out_11 : out0_A_11 c a0 h0 a1 h1 a2 h2 a3 h3 a4 h4 a5 h5 a6 h6 a7 h7 a8 h8 a9 h9 a10 h10 a11 h11 x0 x1 x2 x3 x4 x5 x6
    = newVs x2 x5 x6 := by
  unfold out0_A_11 kernelRun0_A newVs
  dsimp only [kernelRun0_A.sl.r, kernelRun0_A.sl.r_1, kernelRun0_A.sl.r_2, kernelRun0_A.sl.r_3, kernelRun0_A.sl.r_4, kernelRun0_A.sl.r_5, kernelRun0_A.sl.r_6,
    kernelRun0_A.sl.cst_35]
  refine (View.read_writes_full VO0_11 VO0_11.junk inb_S69x5120_S69x5120_0_0 _ []).trans ?_
  rw [load_whole a5 h5 x5, load_whole a6 h6 x6, load_whole a2 h2 x2]

end Outs

/-! ## The result arrays -/

variable (m : (ℓ : Loc nD τ sig) → Buf (Elt F) ℓ) (ρ : Dev nD → PrngReg)

theorem emb_1 (t : Fin cfg0.N) (y : S8832x5120.Idx) : (win0_1.blk t).view.emb y = y := by
  funext a
  fin_cases a
  · exact Fin.ext (by show 0 * 8832 + 1 * (y 0).val = (y 0).val; omega)
  · exact Fin.ext (by show 0 * 5120 + 1 * (y 1).val = (y 1).val; omega)
theorem emb_2 (t : Fin cfg0.N) (y : S8832x5120.Idx) : (win0_2.blk t).view.emb y = y := by
  funext a
  fin_cases a
  · exact Fin.ext (by show 0 * 8832 + 1 * (y 0).val = (y 0).val; omega)
  · exact Fin.ext (by show 0 * 5120 + 1 * (y 1).val = (y 1).val; omega)
theorem emb_3 (t : Fin cfg0.N) (y : S8832x5120.Idx) : (win0_3.blk t).view.emb y = y := by
  funext a
  fin_cases a
  · exact Fin.ext (by show 0 * 8832 + 1 * (y 0).val = (y 0).val; omega)
  · exact Fin.ext (by show 0 * 5120 + 1 * (y 1).val = (y 1).val; omega)
theorem emb_4 (t : Fin cfg0.N) (y : S69x5120.Idx) : (win0_4.blk t).view.emb y = y := by
  funext a
  fin_cases a
  · exact Fin.ext (by show 0 * 69 + 1 * (y 0).val = (y 0).val; omega)
  · exact Fin.ext (by show 0 * 5120 + 1 * (y 1).val = (y 1).val; omega)
theorem emb_5 (t : Fin cfg0.N) (y : S8832x5120.Idx) : (win0_5.blk t).view.emb y = y := by
  funext a
  fin_cases a
  · exact Fin.ext (by show 0 * 8832 + 1 * (y 0).val = (y 0).val; omega)
  · exact Fin.ext (by show 0 * 5120 + 1 * (y 1).val = (y 1).val; omega)
theorem emb_6 (t : Fin cfg0.N) (y : S69x5120.Idx) : (win0_6.blk t).view.emb y = y := by
  funext a
  fin_cases a
  · exact Fin.ext (by show 0 * 69 + 1 * (y 0).val = (y 0).val; omega)
  · exact Fin.ext (by show 0 * 5120 + 1 * (y 1).val = (y 1).val; omega)
theorem emb_7 (t : Fin cfg0.N) (y : S8832x5120.Idx) : (win0_7.blk t).view.emb y = y := by
  funext a
  fin_cases a
  · exact Fin.ext (by show 0 * 8832 + 1 * (y 0).val = (y 0).val; omega)
  · exact Fin.ext (by show 0 * 5120 + 1 * (y 1).val = (y 1).val; omega)
theorem emb_8 (t : Fin cfg0.N) (y : S8832x5120.Idx) : (win0_8.blk t).view.emb y = y := by
  funext a
  fin_cases a
  · exact Fin.ext (by show 0 * 8832 + 1 * (y 0).val = (y 0).val; omega)
  · exact Fin.ext (by show 0 * 5120 + 1 * (y 1).val = (y 1).val; omega)
theorem emb_9 (t : Fin cfg0.N) (y : S69x5120.Idx) : (win0_9.blk t).view.emb y = y := by
  funext a
  fin_cases a
  · exact Fin.ext (by show 0 * 69 + 1 * (y 0).val = (y 0).val; omega)
  · exact Fin.ext (by show 0 * 5120 + 1 * (y 1).val = (y 1).val; omega)
theorem emb_10 (t : Fin cfg0.N) (y : S8832x5120.Idx) : (win0_10.blk t).view.emb y = y := by
  funext a
  fin_cases a
  · exact Fin.ext (by show 0 * 8832 + 1 * (y 0).val = (y 0).val; omega)
  · exact Fin.ext (by show 0 * 5120 + 1 * (y 1).val = (y 1).val; omega)
theorem emb_11 (t : Fin cfg0.N) (y : S69x5120.Idx) : (win0_11.blk t).view.emb y = y := by
  funext a
  fin_cases a
  · exact Fin.ext (by show 0 * 69 + 1 * (y 0).val = (y 0).val; omega)
  · exact Fin.ext (by show 0 * 5120 + 1 * (y 1).val = (y 1).val; omega)
theorem iblk_1 (c : Dev nD) (t : Fin cfg0.N) : iblk m c 1 t = V m c main_arg0 := funext fun y => congrArg (V m c main_arg0) (emb_1 t y)
theorem iblk_2 (c : Dev nD) (t : Fin cfg0.N) : iblk m c 2 t = V m c main_arg1 := funext fun y => congrArg (V m c main_arg1) (emb_2 t y)
theorem iblk_3 (c : Dev nD) (t : Fin cfg0.N) : iblk m c 3 t = V m c main_arg2 := funext fun y => congrArg (V m c main_arg2) (emb_3 t y)
theorem iblk_4 (c : Dev nD) (t : Fin cfg0.N) : iblk m c 4 t = V m c main_arg3 := funext fun y => congrArg (V m c main_arg3) (emb_4 t y)
theorem iblk_5 (c : Dev nD) (t : Fin cfg0.N) : iblk m c 5 t = V m c main_arg4 := funext fun y => congrArg (V m c main_arg4) (emb_5 t y)
theorem iblk_6 (c : Dev nD) (t : Fin cfg0.N) : iblk m c 6 t = V m c main_arg5 := funext fun y => congrArg (V m c main_arg5) (emb_6 t y)
theorem iblk_0 (c : Dev nD) (t : Fin cfg0.N) : word (F := F) (iblk m c 0 t) = word (V m c main_v0) := by
  unfold word iblk
  refine congrArg (V m c main_v0) (funext fun a => ?_)
  fin_cases a
  exact Fin.ext (Nat.lt_one_iff.mp (Fin.isLt _))

theorem outs_7 (c : Dev nD) (t : Fin cfg0.N) : (outsAt0 m c t).1
    = newD (word (V m c main_v0)) (V m c main_arg0) (V m c main_arg1) (V m c main_arg2) (V m c main_arg3) (V m c main_arg4) (V m c main_arg5) := by
  unfold outsAt0
  dsimp only
  rw [out_7, iblk_0, iblk_1, iblk_2, iblk_3, iblk_4, iblk_5, iblk_6]

theorem final_7 (c : Dev nD) : (dats m 0 c).arrAt 7 cfg0.N
    = newD (word (V m c main_v0)) (V m c main_arg0) (V m c main_arg1) (V m c main_arg2) (V m c main_arg3) (V m c main_arg4) (V m c main_arg5) := by
  refine (dats m 0 c).arrAt_eq_of_covers 7 _ (by decide +kernel) fun t _ y => ?_
  have e := (after0_7 m c t).trans (outs_7 m c t)
  revert e
  generalize newD (word (V m c main_v0)) (V m c main_arg0) (V m c main_arg1) (V m c main_arg2) (V m c main_arg3) (V m c main_arg4) (V m c main_arg5) = X
  generalize (dats m 0 c).after 7 t = Y
  intro e
  subst e
  exact congrArg Y (emb_7 t y).symm

theorem outs_8 (c : Dev nD) (t : Fin cfg0.N) : (outsAt0 m c t).2.1
    = newMc (V m c main_arg1) (V m c main_arg2) (V m c main_arg3) := by
  unfold outsAt0
  dsimp only
  rw [out_8, iblk_2, iblk_3, iblk_4]

theorem final_8 (c : Dev nD) : (dats m 0 c).arrAt 8 cfg0.N
    = newMc (V m c main_arg1) (V m c main_arg2) (V m c main_arg3) := by
  refine (dats m 0 c).arrAt_eq_of_covers 8 _ (by decide +kernel) fun t _ y => ?_
  have e := (after0_8 m c t).trans (outs_8 m c t)
  revert e
  generalize newMc (V m c main_arg1) (V m c main_arg2) (V m c main_arg3) = X
  generalize (dats m 0 c).after 8 t = Y
  intro e
  subst e
  exact congrArg Y (emb_8 t y).symm

theorem outs_9 (c : Dev nD) (t : Fin cfg0.N) : (outsAt0 m c t).2.2.1
    = newMs (V m c main_arg1) (V m c main_arg2) (V m c main_arg3) := by
  unfold outsAt0
  dsimp only
  rw [out_9, iblk_2, iblk_3, iblk_4]

theorem final_9 (c : Dev nD) : (dats m 0 c).arrAt 9 cfg0.N
    = newMs (V m c main_arg1) (V m c main_arg2) (V m c main_arg3) := by
  refine (dats m 0 c).arrAt_eq_of_covers 9 _ (by decide +kernel) fun t _ y => ?_
  have e := (after0_9 m c t).trans (outs_9 m c t)
  revert e
  generalize newMs (V m c main_arg1) (V m c main_arg2) (V m c main_arg3) = X
  generalize (dats m 0 c).after 9 t = Y
  intro e
  subst e
  exact congrArg Y (emb_9 t y).symm

theorem outs_10 (c : Dev nD) (t : Fin cfg0.N) : (outsAt0 m c t).2.2.2.1
    = newVc (V m c main_arg1) (V m c main_arg4) (V m c main_arg5) := by
  unfold outsAt0
  dsimp only
  rw [out_10, iblk_2, iblk_5, iblk_6]

theorem final_10 (c : Dev nD) : (dats m 0 c).arrAt 10 cfg0.N
    = newVc (V m c main_arg1) (V m c main_arg4) (V m c main_arg5) := by
  refine (dats m 0 c).arrAt_eq_of_covers 10 _ (by decide +kernel) fun t _ y => ?_
  have e := (after0_10 m c t).trans (outs_10 m c t)
  revert e
  generalize newVc (V m c main_arg1) (V m c main_arg4) (V m c main_arg5) = X
  generalize (dats m 0 c).after 10 t = Y
  intro e
  subst e
  exact congrArg Y (emb_10 t y).symm

theorem outs_11 (c : Dev nD) (t : Fin cfg0.N) : (outsAt0 m c t).2.2.2.2
    = newVs (V m c main_arg1) (V m c main_arg4) (V m c main_arg5) := by
  unfold outsAt0
  dsimp only
  rw [out_11, iblk_2, iblk_5, iblk_6]

theorem final_11 (c : Dev nD) : (dats m 0 c).arrAt 11 cfg0.N
    = newVs (V m c main_arg1) (V m c main_arg4) (V m c main_arg5) := by
  refine (dats m 0 c).arrAt_eq_of_covers 11 _ (by decide +kernel) fun t _ y => ?_
  have e := (after0_11 m c t).trans (outs_11 m c t)
  revert e
  generalize newVs (V m c main_arg1) (V m c main_arg4) (V m c main_arg5) = X
  generalize (dats m 0 c).after 11 t = Y
  intro e
  subst e
  exact congrArg Y (emb_11 t y).symm

end Cert.ReferenceIdeal.Body

end
-- ==== Proof.Step.lean ====
/- The step count as both programs read it: the one word of the argument. -/
module

public import proofs.«01_k».proof.Proof.KernelIdeal.Dats
public import proofs.«01_k».proof.Proof.ReferenceIdeal.Values

@[expose] public section

noncomputable section

namespace Cert

open Idealize.ShloMosaic Idealize.ShloMosaic.TcCoe

/-- The kernel's step count. -/
theorem KernelIdeal.Body.aT_eq (m : (ℓ : Loc Cert.KernelIdeal.nD Cert.KernelIdeal.τ Cert.KernelIdeal.sig) → Buf (Elt Ideal) ℓ)
    (c : Dev Cert.KernelIdeal.nD) (i) :
    Cert.KernelIdeal.Body.aT (F := Ideal) m c
      = (m ((c.tc : Thread Cert.KernelIdeal.nD Cert.KernelIdeal.τ).loc Cert.KernelIdeal.main_arg6)) i := by
  unfold KernelIdeal.Body.aT KernelIdeal.Body.word
  rw [show i = fun a => a.elim0 from funext fun a => a.elim0]
  simp only [KernelIdeal.Gen.V, KernelIdeal.Gen.hostOps0, StableHlo.after]
  rw [StableHlo.reshape_result']
  exact congrArg (m (c.tc.loc Cert.KernelIdeal.main_arg6)) (funext fun a => a.elim0)

/-- The reference's step count. -/
theorem ReferenceIdeal.Body.word_eq (m : (ℓ : Loc Cert.ReferenceIdeal.nD Cert.ReferenceIdeal.τ Cert.ReferenceIdeal.sig) → Buf (Elt Ideal) ℓ)
    (c : Dev Cert.ReferenceIdeal.nD) (i) :
    Cert.ReferenceIdeal.Body.word (F := Ideal) (Cert.ReferenceIdeal.Gen.V m c Cert.ReferenceIdeal.main_v0)
      = (m ((c.tc : Thread Cert.ReferenceIdeal.nD Cert.ReferenceIdeal.τ).loc Cert.ReferenceIdeal.main_arg6)) i := by
  unfold ReferenceIdeal.Body.word
  rw [show i = fun a => a.elim0 from funext fun a => a.elim0]
  simp only [ReferenceIdeal.Gen.V, ReferenceIdeal.Gen.hostOps0, StableHlo.after]
  rw [StableHlo.reshape_result']
  exact congrArg (m (c.tc.loc Cert.ReferenceIdeal.main_arg6)) (funext fun a => a.elim0)

end Cert

end
-- ==== Proof.Scalar.lean ====
/- The arithmetic of the step over the extended reals. -/
module

public import proofs.«01_k».proof.KernelIdeal
public import Idealize.ShloMosaic.Lib.Pointwise
public import Idealize.ShloMosaic.Lib.IdealHost
public import Idealize.ShloMosaic.PureOps.IdealRules

@[expose] public section

noncomputable section

namespace Cert.Scalar

open Idealize.ShloMosaic

/-- The literal 127. -/
theorem c127 : Ideal.ofBits .f32 0x42FE0000#32 = ((127 : ℝ) : EReal) := by
  simp [Ideal.ofBits, Ideal.ieee]; rw [← EReal.coe_mul]; norm_num

/-- The literal `β₁`. -/
theorem beta1 : Ideal.ofBits .f32 0x3F666666#32 = ((7549747 / 8388608 : ℝ) : EReal) := by
  simp [Ideal.ofBits, Ideal.ieee]; rw [← EReal.coe_mul]; norm_num

/-- The literal `β₂`. -/
theorem beta2 : Ideal.ofBits .f32 0x3F7FBE77#32 = ((16760439 / 16777216 : ℝ) : EReal) := by
  simp [Ideal.ofBits, Ideal.ieee]; rw [← EReal.coe_mul]; norm_num

/-- A product with the inverse of a nonzero scale is a quotient by it. -/
theorem mul_div_one {x s : EReal} (h : s ≠ 0) : x * Ideal.div 1 s = Ideal.div x s := by
  unfold Ideal.div; rw [if_neg h, if_neg h, one_mul]

/-- The scale of a block whose largest magnitude is `a`. -/
def scaleOf (a : EReal) : EReal := if a = 0 then 1 else Ideal.div a (Ideal.ofBits .f32 0x42FE0000#32)

theorem scaleOf_ne (a : EReal) : scaleOf a ≠ 0 := by
  unfold scaleOf
  split
  · exact one_ne_zero
  · next h =>
    rw [c127, Ideal.div_coe (by norm_num)]
    intro h0
    rcases mul_eq_zero.mp h0 with h1 | h1
    · exact h h1
    · norm_num at h1

theorem exp_log {b : ℝ} (hb : 0 < b) (t : ℝ) :
    Ideal.exp ((t : EReal) * ((Real.log b : ℝ) : EReal)) = Ideal.pow (b : EReal) (t : EReal) := by
  rw [← EReal.coe_mul, Ideal.exp_coe, Ideal.pow_coe_coe]
  exact congrArg _ ((Real.rpow_def_of_pos hb t).trans (by rw [mul_comm])).symm

theorem bc_ne {b : ℝ} (hb : 0 < b) (hb1 : b < 1) {t : ℝ} (ht : t ≠ 0) :
    (1 : EReal) - Ideal.pow (b : EReal) (t : EReal) ≠ 0 := by
  rw [Ideal.pow_coe_coe, ← EReal.coe_one, ← EReal.coe_sub]
  intro h
  have h : 1 - Real.rpow b t = 0 := by exact_mod_cast h
  have h2 : Real.exp (Real.log b * t) = 1 := (Real.rpow_def_of_pos hb t).symm.trans (by linarith : Real.rpow b t = 1)
  rcases mul_eq_zero.mp (Real.exp_eq_one_iff _ |>.mp h2) with h | h
  · exact (Real.log_neg hb hb1).ne h
  · exact ht h

theorem log_beta1 : Named.named (F := Ideal) Cert.KernelIdeal.κ "log_beta1" (φ := .f32) 0xBDD7C745#32 = ((Real.log (7549747 / 8388608) : ℝ) : EReal) :=
  IdealRules.named_const.ideal_named_scalar _ _ _ _ rfl
theorem log_beta2 : Named.named (F := Ideal) Cert.KernelIdeal.κ "log_beta2" (φ := .f32) 0xBA8322CA#32 = ((Real.log (16760439 / 16777216) : ℝ) : EReal) :=
  IdealRules.named_const.ideal_named_scalar _ _ _ _ rfl

/-! ## The step at one element -/

/-- The new first moment, from the old code, its block's scale and the gradient. -/
def mom1 (q : BitVec 8) (s g : EReal) : EReal :=
  Ideal.ofBits .f32 0x3F666666#32 * (FloatOps.sitofp (F := Ideal) .f32 q * s) + Ideal.ofBits .f32 0x3DCCCCCD#32 * g

/-- The new second moment, from the old code, its block's scale and the gradient. -/
def mom2 (q : BitVec 8) (s g : EReal) : EReal :=
  Ideal.ofBits .f32 0x3F7FBE77#32 * (FloatOps.sitofp (F := Ideal) .f32 q * s) + Ideal.ofBits .f32 0x3A83126F#32 * (g * g)

/-- The largest magnitude in a block of 128 values. -/
def amax (f : Fin 128 → EReal) : EReal :=
  Finset.univ.fold max (Ideal.ofBits .f32 0xFF800000#32) fun k => FloatOps.absf (F := Ideal) (φ := .f32) (f k)

/-- A value's code at a scale: the quotient, rounded to an integer and held between -127 and 127. -/
def code (x s : EReal) : BitVec 8 :=
  FloatOps.fptosi (F := Ideal) (φ := .f32) 8 (min (Ideal.ofBits .f32 0x42FE0000#32)
    (max (Ideal.ofBits .f32 0xC2FE0000#32) (Ideal.liftRound Ideal.roundHalfEven (Ideal.div x s))))

/-- The update, from the two moments with their bias removed and the parameter. -/
def upd (a b p : EReal) : EReal :=
  Ideal.ofBits .f32 0xBA83126F#32 * (Ideal.div a (Ideal.sqrt b + Ideal.ofBits .f32 0x322BCC77#32)
    + Ideal.ofBits .f32 0x3C23D70A#32 * p)

/-- The bias after `t` steps, for the rate given by its bits. -/
def bias (b : BitVec 32) (t : BitVec 32) : EReal :=
  1 - Ideal.pow (Ideal.ofBits .f32 b) (FloatOps.sitofp (F := Ideal) .f32 t)

end Cert.Scalar

end
-- ==== Proof.KerAt.lean ====
/- One trip of the kernel over the extended reals, at an index. -/
module

public import proofs.«01_k».proof.Proof.Scalar
public import proofs.«01_k».proof.Proof.KernelIdeal.Values
public import Idealize.ShloMosaic.Lib.Pointwise

@[expose] public section

set_option maxRecDepth 8192

noncomputable section

namespace Cert.KernelIdeal.At

open Idealize.ShloMosaic
open Cert.KernelIdeal Cert.KernelIdeal.Gen Cert.Scalar

/-- The first moment. -/
theorem pay80 (g : FVec Ideal S128x128 .bf16) (q : IVec S128x128 8) (s : FVec Ideal S1x1x128 .f32) (j : S128x128.Idx) :
    k0_pay80 (F := Ideal) g q s j = mom1 (q j) (s (ix3 0 0 (j 1))) (g j) := by
  unfold mom1
  pointwise [k0_pay80, k0_pay79]

/-- The second moment. -/
theorem pay81 (g : FVec Ideal S128x128 .bf16) (q : IVec S128x128 8) (s : FVec Ideal S1x1x128 .f32) (j : S128x128.Idx) :
    k0_pay81 (F := Ideal) g q s j = mom2 (q j) (s (ix3 0 0 (j 1))) (g j) := by
  unfold mom2
  pointwise [k0_pay81, k0_pay79]

/-- The scale. -/
theorem pay88 (x : FVec Ideal S128x128 .f32) (j : S1x128.Idx) :
    k0_pay88 (F := Ideal) x j = scaleOf (amax fun b => x (ix2 b (j 1))) := by
  unfold scaleOf amax
  pointwise [k0_pay88]

/-- The row of scales as it is put away. -/
theorem pay176 (y : FVec Ideal S1x128 .f32) (j : S1x1x128.Idx) :
    k0_pay176 (F := Ideal) y j = y (ix2 0 (j 2)) := by
  pointwise [k0_pay176]

/-- The code: the kernel multiplies by the inverse of the scale. -/
theorem pay175 (x : FVec Ideal S128x128 .f32) (y : FVec Ideal S1x128 .f32) (j : S128x128.Idx) (h : y (ix2 0 (j 1)) ≠ 0) :
    k0_pay175 (F := Ideal) x y (k0_pay89 (F := Ideal)) j = code (x j) (y (ix2 0 (j 1))) := by
  unfold code
  rw [← mul_div_one h]
  pointwise [k0_pay175, k0_pay89]

/-- The update, with the two inverse biases still arrays. -/
theorem pay84 (a b : FVec Ideal S1x128 .f32) (g : FVec Ideal S128x128 .bf16) (q q' : IVec S128x128 8) (s s' : FVec Ideal S1x1x128 .f32)
    (p : FVec Ideal S128x128 .f32) (j : S128x128.Idx) :
    k0_pay84 (F := Ideal) (k0_pay82 a b g q s q' s') (k0_pay83 p) j
      = upd (k0_pay80 (F := Ideal) g q s j * a (ix2 0 (j 1))) (k0_pay81 (F := Ideal) g q' s' j * b (ix2 0 (j 1))) (p j) := by
  unfold upd
  pointwise [k0_pay84, k0_pay82, k0_pay83]

theorem pay171_exp (t : BitVec 32) (j : S1x128.Idx) : k0_pay171 (F := Ideal) t j
    = Ideal.div 1 (1 - Ideal.exp (FloatOps.sitofp (F := Ideal) .f32 t * Named.named (F := Ideal) κ "log_beta1" (φ := .f32) 0xBDD7C745#32)) := by
  pointwise [k0_pay171, k0_pay170]

theorem pay172_exp (t : BitVec 32) (j : S1x128.Idx) : k0_pay172 (F := Ideal) t j
    = Ideal.div 1 (1 - Ideal.exp (FloatOps.sitofp (F := Ideal) .f32 t * Named.named (F := Ideal) κ "log_beta2" (φ := .f32) 0xBA8322CA#32)) := by
  pointwise [k0_pay172, k0_pay170]

/-- The inverse of the first bias. -/
theorem pay171 (t : BitVec 32) (j : S1x128.Idx) : k0_pay171 (F := Ideal) t j = Ideal.div 1 (bias 0x3F666666#32 t) := by
  rw [pay171_exp, log_beta1]
  unfold bias
  rw [beta1]
  exact congrArg (fun x => Ideal.div 1 (1 - x)) (exp_log (by norm_num) (t.toInt : ℝ))

/-- The inverse of the second bias. -/
theorem pay172 (t : BitVec 32) (j : S1x128.Idx) : k0_pay172 (F := Ideal) t j = Ideal.div 1 (bias 0x3F7FBE77#32 t) := by
  rw [pay172_exp, log_beta2]
  unfold bias
  rw [beta2]
  exact congrArg (fun x => Ideal.div 1 (1 - x)) (exp_log (by norm_num) (t.toInt : ℝ))

theorem toInt_ne {t : BitVec 32} (h : t ≠ 0#32) : (t.toInt : ℝ) ≠ 0 := fun e =>
  h (BitVec.toInt_inj.mp ((Int.cast_eq_zero.mp e).trans BitVec.toInt_zero.symm))

/-- After at least one step neither bias is zero. -/
theorem bias1_ne {t : BitVec 32} (h : t ≠ 0#32) : bias 0x3F666666#32 t ≠ 0 := by
  unfold bias
  rw [beta1]
  exact bc_ne (by norm_num) (by norm_num) (t := (t.toInt : ℝ)) (toInt_ne h)
theorem bias2_ne {t : BitVec 32} (h : t ≠ 0#32) : bias 0x3F7FBE77#32 t ≠ 0 := by
  unfold bias
  rw [beta2]
  exact bc_ne (by norm_num) (by norm_num) (t := (t.toInt : ℝ)) (toInt_ne h)

/-- The first moment's codes and scales are read as the second moment's are. -/
theorem pay86 (x : FVec Ideal S128x128 .f32) :
    k0_pay86 (F := Ideal) x = k0_pay175 x (k0_pay88 x) (k0_pay89 (F := Ideal)) := rfl
theorem pay87 (x : FVec Ideal S128x128 .f32) : k0_pay87 (F := Ideal) x = k0_pay176 (k0_pay88 x) := rfl

end Cert.KernelIdeal.At

end
-- ==== Proof.RefAt.lean ====
/- The reference's arrays over the extended reals, at an index. -/
module

public import proofs.«01_k».proof.Proof.Scalar
public import proofs.«01_k».proof.Proof.ReferenceIdeal.Values
public import Idealize.ShloMosaic.Lib.Pointwise

@[expose] public section

set_option maxRecDepth 8192

noncomputable section

namespace Cert.ReferenceIdeal.At

open Idealize.ShloMosaic
open Cert.ReferenceIdeal Cert.ReferenceIdeal.Gen Cert.Scalar

/-- The first moment. -/
theorem pay4 (q : IVec S8832x5120 8) (s : FVec Ideal S69x5120 .f32) (g : FVec Ideal S8832x5120 .bf16) (j : S8832x5120.Idx) :
    k0_pay4 (F := Ideal) q s g j
      = mom1 (q j) (s (ix2 ⟨(j 0).val / 128, by have : (j 0).val < 8832 := (j 0).isLt; omega⟩ (j 1))) (g j) := by
  unfold mom1
  pointwise [k0_pay4, k0_pay3]

/-- The second moment. -/
theorem pay5 (q : IVec S8832x5120 8) (s : FVec Ideal S69x5120 .f32) (g : FVec Ideal S8832x5120 .bf16) (j : S8832x5120.Idx) :
    k0_pay5 (F := Ideal) q s g j
      = mom2 (q j) (s (ix2 ⟨(j 0).val / 128, by have : (j 0).val < 8832 := (j 0).isLt; omega⟩ (j 1))) (g j) := by
  unfold mom2
  pointwise [k0_pay5, k0_pay3]

/-- The array cut into blocks of 128 rows. -/
theorem pay13 (x : FVec Ideal S8832x5120 .f32) (a : Fin 69) (b : Fin 128) (d : Fin 5120) :
    k0_pay13 (F := Ideal) x (ix3 a b d) = x (ix2 ⟨a.val * 128 + b.val, by omega⟩ d) := by
  pointwise [k0_pay13]

/-- A block's largest magnitude. -/
theorem pay14 (x : FVec Ideal S8832x5120 .f32) (a : Fin 69) (d : Fin 5120) :
    k0_pay14 (F := Ideal) x (ix2 a d) = amax fun b => x (ix2 ⟨a.val * 128 + b.val, by omega⟩ d) := by
  have h : k0_pay14 (F := Ideal) x (ix2 a d) = amax fun b => k0_pay13 (F := Ideal) x (ix3 a b d) := by
    unfold amax
    pointwise [k0_pay14]
  rw [h]
  exact congrArg amax (funext fun b => pay13 x a b d)

/-- A scale, from the largest magnitude. -/
theorem pay1 (y : FVec Ideal S69x5120 .f32) (j : S69x5120.Idx) :
    k0_pay1 (F := Ideal) y (Ideal.ofBits .f32 0x00000000#32) j = scaleOf (y j) := by
  unfold scaleOf
  pointwise [k0_pay1]

/-- A code, from the array cut into blocks and the largest magnitudes. -/
theorem pay2 (x : FVec Ideal S69x128x5120 .f32) (y : FVec Ideal S69x5120 .f32) (z : Ideal .f32) (j : S8832x5120.Idx) :
    k0_pay2 (F := Ideal) x y z j
      = code (x (ix3 ⟨(j 0).val / 128, by have : (j 0).val < 8832 := (j 0).isLt; omega⟩ ⟨(j 0).val % 128, Nat.mod_lt _ (by decide)⟩ (j 1)))
          (k0_pay1 (F := Ideal) y z (ix2 ⟨(j 0).val / 128, by have : (j 0).val < 8832 := (j 0).isLt; omega⟩ (j 1))) := by
  unfold code
  pointwise [k0_pay2]

/-- The update. -/
theorem pay9 (t : BitVec 32) (m v p : FVec Ideal S8832x5120 .f32) (j : S8832x5120.Idx) :
    k0_pay9 (F := Ideal) m v (k0_pay7 t) (k0_pay8 t) p j
      = upd (Ideal.div (m j) (bias 0x3F666666#32 t)) (Ideal.div (v j) (bias 0x3F7FBE77#32 t)) (p j) := by
  unfold upd bias
  pointwise [k0_pay9, k0_pay8, k0_pay7, k0_pay6]

/-- The first moment's scales and codes are read as the second moment's are. -/
theorem pay11 (x : FVec Ideal S8832x5120 .f32) :
    k0_pay11 (F := Ideal) x = k0_pay1 (k0_pay14 x) (FloatOps.ofBits .f32 0x00000000#32) := rfl
theorem pay12 (x : FVec Ideal S8832x5120 .f32) :
    k0_pay12 (F := Ideal) x = k0_pay2 (k0_pay13 x) (k0_pay14 x) (FloatOps.ofBits .f32 0x00000000#32) := rfl

end Cert.ReferenceIdeal.At

end
-- ==== Proof.Same.lean ====
/- Over the extended reals the kernel's five arrays are the reference's: a trip's block is the reference's array at the
   block's rows and the trip's columns, so the two agree element by element. -/
module

public import proofs.«01_k».proof.Proof.KerAt
public import proofs.«01_k».proof.Proof.RefAt

@[expose] public section

set_option maxRecDepth 8192

noncomputable section

namespace Cert.Same

open Idealize.ShloMosaic
open Cert.KernelIdeal Cert.KernelIdeal.Gen Cert.Scalar
open Cert.KernelIdeal.Body (pt grp rowsAt scaleRow asmAll asmScales wholeM wholeV wholeD lt0 lt1 ext2 colR rowR trips_lt
  off1_eq off2_eq trips_eq tripM tripV tripD)

/-- Row `r` of block `n`. -/
def rowOf (n : Fin 69) (r : Fin 128) : Fin 8832 := ⟨n.val * 128 + r.val, by omega⟩

/-- Column `d` of group `k`. -/
def colOf (k : Fin k0_t1_loop.trips) (d : Fin 128) : Fin 5120 := ⟨128 * k.val + d.val, by have := trips_lt k; omega⟩

/-- The place in the whole array of element `j` of block `n`, column group `k`. -/
def place (n : Fin 69) (k : Fin k0_t1_loop.trips) (j : S128x128.Idx) : S8832x5120.Idx :=
  ix2 (rowOf n (j 0)) (colOf k (j 1))

section Reads

variable {Val : EltTy → Type} {e : EltTy} (n : Fin 69) (k : Fin k0_t1_loop.trips)

/-- What a trip loads from a block of rows is the array at the places. -/
theorem ld_rows (X : S8832x5120.Idx → Val e) (j : S128x128.Idx) :
    View.ld (Val := Val) (e' := e) (rowsAt X n.val n.isLt) (colR k) j = X (place n k j) := by
  refine congrArg X (ext2 (m := 8832) (n := 5120) ?_ ?_)
  · show 128 * n.val + (k0_off1 k 0 + 1 * (j 0).val) = n.val * 128 + (j 0).val
    rw [off1_eq]; simp; omega
  · show k0_off1 k 1 + 1 * (j 1).val = 128 * k.val + (j 1).val
    rw [off1_eq]; simp

/-- What a trip loads from the block's row of scales. -/
theorem ld_scale (S : S69x5120.Idx → Val e) (d : Fin 128) :
    View.ld (Val := Val) (e' := e) (scaleRow S n.val n.isLt) (rowR (pt n) k) (ix3 0 0 d) = S (ix2 n (colOf k d)) := by
  refine congrArg S (ext2 (m := 69) (n := 5120) rfl ?_)
  show 128 * (k0_off2 (pt n) k 0 + 1 * 0) + (k0_off2 (pt n) k 2 + 1 * d.val) = 128 * k.val + d.val
  rw [off2_eq]; simp

end Reads

section Moments

variable (G : Vec Ideal S8832x5120 .bf16) (C : Vec Ideal S8832x5120 .i8) (S : Vec Ideal S69x5120 .f32)
  (n : Fin 69) (k : Fin k0_t1_loop.trips) (j : S128x128.Idx)

theorem block_place : (⟨(place n k j 0).val / 128, by have : (place n k j 0).val < 8832 := (place n k j 0).isLt; omega⟩ : Fin 69) = n :=
  Fin.ext (by
    have : (j 0).val < 128 := (j 0).isLt
    show (n.val * 128 + (j 0).val) / 128 = n.val
    omega)

/-- The first moment of a trip is the reference's, at the places. -/
theorem wholeM_eq : wholeM (F := Ideal) G C S n k j = Cert.ReferenceIdeal.Gen.k0_pay4 C S G (place n k j) := by
  unfold wholeM tripM
  rw [Cert.KernelIdeal.At.pay80, Cert.ReferenceIdeal.At.pay4, block_place, ld_rows, ld_rows]
  exact congrArg (fun s => mom1 _ s _) (ld_scale n k S (j 1))

/-- The second moment of a trip is the reference's, at the places. -/
theorem wholeV_eq : wholeV (F := Ideal) G C S n k j = Cert.ReferenceIdeal.Gen.k0_pay5 C S G (place n k j) := by
  unfold wholeV tripV
  rw [Cert.KernelIdeal.At.pay81, Cert.ReferenceIdeal.At.pay5, block_place, ld_rows, ld_rows]
  exact congrArg (fun s => mom2 _ s _) (ld_scale n k S (j 1))

/-- The update of a trip is the reference's, at the places, after at least one step. -/
theorem wholeD_eq (T : BitVec 32) (hT : T ≠ 0#32) (P : Vec Ideal S8832x5120 .f32) (C' : Vec Ideal S8832x5120 .i8)
    (S' : Vec Ideal S69x5120 .f32) :
    wholeD (F := Ideal) T P G C C' S S' n k j = Cert.ReferenceIdeal.Body.newD T P G C S C' S' (place n k j) := by
  have hM := wholeM_eq G C S n k j
  have hV := wholeV_eq G C' S' n k j
  unfold wholeM tripM at hM
  unfold wholeV tripV at hV
  unfold wholeD tripD Cert.ReferenceIdeal.Body.newD
  rw [Cert.KernelIdeal.At.pay84, Cert.ReferenceIdeal.At.pay9, hM, hV, ld_rows, Cert.KernelIdeal.At.pay171,
    Cert.KernelIdeal.At.pay172, mul_div_one (Cert.KernelIdeal.At.bias1_ne hT), mul_div_one (Cert.KernelIdeal.At.bias2_ne hT)]

end Moments

section Codes

variable {W : Fin 69 → Fin k0_t1_loop.trips → FVec Ideal S128x128 .f32} {X : FVec Ideal S8832x5120 .f32}
  (h : ∀ n k j, W n k j = X (place n k j))

/-- An element's own block, group and place in it. -/
theorem place_self (j : S8832x5120.Idx) : place ⟨(j 0).val / 128, by have := lt0 j; omega⟩ (grp (j 1).val (lt1 j))
    (Cert.KernelIdeal.Body.ix2 ((j 0).val % 128) ((j 1).val % 128) (Nat.mod_lt _ (by decide)) (Nat.mod_lt _ (by decide))) = j := by
  refine ext2 (m := 8832) (n := 5120) ?_ ?_
  · show (j 0).val / 128 * 128 + (j 0).val % 128 = (j 0).val
    omega
  · show 128 * ((j 1).val / 128) + (j 1).val % 128 = (j 1).val
    omega

include h

/-- Blocks that hold an array at the places make up the array. -/
theorem asmAll_eq : asmAll W = X := funext fun j => by
  unfold asmAll
  rw [h, place_self]

/-- A trip's scales are those of the array's blocks. -/
theorem scale_eq (n : Fin 69) (k : Fin k0_t1_loop.trips) (d : S1x128.Idx) :
    k0_pay88 (F := Ideal) (W n k) d = scaleOf (amax fun b => X (ix2 (rowOf n b) (colOf k (d 1)))) := by
  rw [Cert.KernelIdeal.At.pay88]
  exact congrArg (fun f => scaleOf (amax f)) (funext fun b => h n k _)

/-- The scales put together are the reference's. -/
theorem scales_eq : (asmScales fun n k => k0_pay176 (k0_pay88 (F := Ideal) (W n k)))
    = Cert.ReferenceIdeal.Gen.k0_pay1 (Cert.ReferenceIdeal.Gen.k0_pay14 X) (Ideal.ofBits .f32 0x00000000#32) := funext fun j => by
  unfold asmScales
  beta_reduce
  rw [Cert.KernelIdeal.At.pay176, scale_eq h, Cert.ReferenceIdeal.At.pay1]
  refine congrArg scaleOf ?_
  rw [show j = ix2 (j 0) (j 1) from ext2 (m := 69) (n := 5120) rfl rfl]
  refine Eq.trans ?_ (Cert.ReferenceIdeal.At.pay14 X (j 0) (j 1)).symm
  refine congrArg amax (funext fun b => congrArg X (ext2 (m := 8832) (n := 5120) rfl ?_))
  show 128 * ((j 1).val / 128) + (j 1).val % 128 = (j 1).val
  omega

/-- The codes put together are the reference's. -/
theorem codes_eq : (asmAll fun n k => k0_pay175 (W n k) (k0_pay88 (F := Ideal) (W n k)) (k0_pay89 (F := Ideal)))
    = Cert.ReferenceIdeal.Gen.k0_pay2 (Cert.ReferenceIdeal.Gen.k0_pay13 X) (Cert.ReferenceIdeal.Gen.k0_pay14 X)
        (Ideal.ofBits .f32 0x00000000#32) := funext fun j => by
  unfold asmAll
  beta_reduce
  have h0 := lt0 j
  rw [Cert.KernelIdeal.At.pay175 _ _ _ (by rw [scale_eq h]; exact scaleOf_ne _), scale_eq h, h, place_self,
    Cert.ReferenceIdeal.At.pay2, Cert.ReferenceIdeal.At.pay1]
  refine congrArg₂ code (Eq.trans ?_ (Cert.ReferenceIdeal.At.pay13 X _ _ (j 1)).symm)
    (congrArg scaleOf (Eq.trans (congrArg amax (funext fun b => ?_)) (Cert.ReferenceIdeal.At.pay14 X _ (j 1)).symm))
  · refine congrArg X (ext2 (m := 8832) (n := 5120) ?_ rfl)
    show (j 0).val = (j 0).val / 128 * 128 + (j 0).val % 128
    omega
  · refine congrArg X (ext2 (m := 8832) (n := 5120) rfl ?_)
    show 128 * ((j 1).val / 128) + (j 1).val % 128 = (j 1).val
    omega

end Codes

section Arrays

variable (T : BitVec 32) (P : Vec Ideal S8832x5120 .f32) (G : Vec Ideal S8832x5120 .bf16)
  (MC VC : Vec Ideal S8832x5120 .i8) (MS VS : Vec Ideal S69x5120 .f32)

/-- The updates agree, after at least one step. -/
theorem newD_eq (hT : T ≠ 0#32) : Cert.KernelIdeal.Body.newD (F := Ideal) T P G MC VC MS VS
    = Cert.ReferenceIdeal.Body.newD T P G MC MS VC VS :=
  asmAll_eq fun n k j => wholeD_eq G MC MS n k j T hT P VC VS

/-- The codes of the first moment agree. -/
theorem newMc_eq : Cert.KernelIdeal.Body.newMc (F := Ideal) G MC MS = Cert.ReferenceIdeal.Body.newMc G MC MS :=
  (codes_eq (wholeM_eq G MC MS)).trans (Cert.ReferenceIdeal.At.pay12 _).symm

/-- The scales of the first moment agree. -/
theorem newMs_eq : Cert.KernelIdeal.Body.newMs (F := Ideal) G MC MS = Cert.ReferenceIdeal.Body.newMs G MC MS :=
  (scales_eq (wholeM_eq G MC MS)).trans (Cert.ReferenceIdeal.At.pay11 _).symm

/-- The codes of the second moment agree. -/
theorem newVc_eq : Cert.KernelIdeal.Body.newVc (F := Ideal) G VC VS = Cert.ReferenceIdeal.Body.newVc G VC VS :=
  codes_eq (wholeV_eq G VC VS)

/-- The scales of the second moment agree. -/
theorem newVs_eq : Cert.KernelIdeal.Body.newVs (F := Ideal) G VC VS = Cert.ReferenceIdeal.Body.newVs G VC VS :=
  scales_eq (wholeV_eq G VC VS)

end Arrays

end Cert.Same

end
-- ==== Proof.lean ====
/- The proof of the certificate's claim: each program leaves its arguments unchanged and every counter at zero, the
   kernel over the reals is the kernel with its two logarithm literals named, and its five results over the reals are
   the reference's. -/
module

public import proofs.«01_k».proof.Defs
public import proofs.«01_k».proof.Proof.Kernel.Final
public import proofs.«01_k».proof.Proof.KernelIdeal.Final
public import proofs.«01_k».proof.Proof.Gen.ReferenceIdeal.Frame
public import proofs.«01_k».proof.Proof.Gen.ReferenceIdeal.Value
public import proofs.«01_k».proof.Proof.Step
public import proofs.«01_k».proof.Proof.Same

@[expose] public section

set_option maxRecDepth 8192

noncomputable section

namespace Cert.Proof

open Idealize.ShloMosaic Idealize.ShloMosaic.TcCoe Idealize.SL.Sem

/-- The literal that stands for `log β₁` is named by a real logarithm, and so is the one for `log β₂`. -/
theorem preserves : Cert.preserves_Kernel_KernelIdeal :=
  ⟨IdealRules.named_const.statement Cert.KernelIdeal.κ "log_beta1" .f32 0xBDD7C745#32 _ rfl,
   IdealRules.named_const.statement Cert.KernelIdeal.κ "log_beta2" .f32 0xBA8322CA#32 _ rfl⟩

section Kernel

open Cert.KernelIdeal Cert.KernelIdeal.Gen Cert.KernelIdeal.Body

variable (m : (ℓ : Loc nD τ sig) → Buf (Elt Ideal) ℓ)

/-- The kernel's run, its five results named and its arguments unchanged. -/
theorem kernel_run (g : Dev nD → PrngReg) : θ_run (defs (F := Ideal)) (onTc (τ := τ) (main (F := Ideal))) ⟨m, fun _ => 0, g⟩
    fun r => ∀ c : Dev nD, r.2.mem ((c : Thread nD τ).loc main_v1_0) = rD m c
      ∧ r.2.mem ((c : Thread nD τ).loc main_v1_1) = rMc m c
      ∧ r.2.mem ((c : Thread nD τ).loc main_v1_2) = rMs m c
      ∧ r.2.mem ((c : Thread nD τ).loc main_v1_3) = rVc m c
      ∧ r.2.mem ((c : Thread nD τ).loc main_v1_4) = rVs m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h.1 c).1 7).trans (final_7 m c), ((h.1 c).1 8).trans (final_8 m c),
      ((h.1 c).1 9).trans (final_9 m c), ((h.1 c).1 10).trans (final_10 m c), ((h.1 c).1 11).trans (final_11 m c),
      ((h.1 c).1 1).trans (((dats m 0 c).arrAt_in 1 rfl _).trans ((A_eq m c 1).trans (V_main_arg0 m c))),
      ((h.1 c).1 2).trans (((dats m 0 c).arrAt_in 2 rfl _).trans ((A_eq m c 2).trans (V_main_arg1 m c))),
      ((h.1 c).1 3).trans (((dats m 0 c).arrAt_in 3 rfl _).trans ((A_eq m c 3).trans (V_main_arg2 m c))),
      ((h.1 c).1 4).trans (((dats m 0 c).arrAt_in 4 rfl _).trans ((A_eq m c 4).trans (V_main_arg3 m c))),
      ((h.1 c).1 5).trans (((dats m 0 c).arrAt_in 5 rfl _).trans ((A_eq m c 5).trans (V_main_arg4 m c))),
      ((h.1 c).1 6).trans (((dats m 0 c).arrAt_in 6 rfl _).trans ((A_eq m c 6).trans (V_main_arg5 m c))),
      ((h.1 c).2 main_arg6 (Pipeline.mem_restRefs_of main_arg6 (by decide) (by decide))).trans (V_main_arg6 m c)⟩) (run_main m g)

end Kernel

section Values

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

/-- An argument as the reference's launch finds it is the argument as the kernel's finds it. -/
theorem arg_eq {α : Type} {v m1 m2 w : α} (hv : v = m1) (h : m1 = m2) (hw : w = m2) : v = w := hv.trans (h.trans hw.symm)

variable (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))

include h

/-- The arguments as both launches find them. -/
theorem args : Cert.ReferenceIdeal.Gen.V m' c Cert.ReferenceIdeal.main_arg0 = Cert.KernelIdeal.Body.aP m c
    ∧ Cert.ReferenceIdeal.Gen.V m' c Cert.ReferenceIdeal.main_arg1 = Cert.KernelIdeal.Body.aG m c
    ∧ Cert.ReferenceIdeal.Gen.V m' c Cert.ReferenceIdeal.main_arg2 = Cert.KernelIdeal.Body.aMC m c
    ∧ Cert.ReferenceIdeal.Gen.V m' c Cert.ReferenceIdeal.main_arg3 = Cert.KernelIdeal.Body.aMS m c
    ∧ Cert.ReferenceIdeal.Gen.V m' c Cert.ReferenceIdeal.main_arg4 = Cert.KernelIdeal.Body.aVC m c
    ∧ Cert.ReferenceIdeal.Gen.V m' c Cert.ReferenceIdeal.main_arg5 = Cert.KernelIdeal.Body.aVS m c
    ∧ Cert.ReferenceIdeal.Body.word (F := Ideal) (Cert.ReferenceIdeal.Gen.V m' c Cert.ReferenceIdeal.main_v0) = Cert.KernelIdeal.Body.aT m c :=
  ⟨arg_eq (Cert.ReferenceIdeal.Gen.V_main_arg0 m' c) h.1 (Cert.KernelIdeal.Gen.V_main_arg0 m c),
   arg_eq (Cert.ReferenceIdeal.Gen.V_main_arg1 m' c) h.2.1 (Cert.KernelIdeal.Gen.V_main_arg1 m c),
   arg_eq (Cert.ReferenceIdeal.Gen.V_main_arg2 m' c) h.2.2.1 (Cert.KernelIdeal.Gen.V_main_arg2 m c),
   arg_eq (Cert.ReferenceIdeal.Gen.V_main_arg3 m' c) h.2.2.2.1 (Cert.KernelIdeal.Gen.V_main_arg3 m c),
   arg_eq (Cert.ReferenceIdeal.Gen.V_main_arg4 m' c) h.2.2.2.2.1 (Cert.KernelIdeal.Gen.V_main_arg4 m c),
   arg_eq (Cert.ReferenceIdeal.Gen.V_main_arg5 m' c) h.2.2.2.2.2.1 (Cert.KernelIdeal.Gen.V_main_arg5 m c),
   arg_eq (Cert.ReferenceIdeal.Body.word_eq m' c fun a => a.elim0) (congrFun h.2.2.2.2.2.2 _) (Cert.KernelIdeal.Body.aT_eq m c _)⟩

open Cert.ReferenceIdeal Cert.ReferenceIdeal.Gen in
/-- The reference's five results are the kernel's, after at least one step. -/
theorem results (hT : Cert.KernelIdeal.Body.aT (F := Ideal) m c ≠ 0#32) :
    (dats m' 0 c).arrAt 7 cfg0.N = Cert.KernelIdeal.Body.rD m c
    ∧ (dats m' 0 c).arrAt 8 cfg0.N = Cert.KernelIdeal.Body.rMc m c
    ∧ (dats m' 0 c).arrAt 9 cfg0.N = Cert.KernelIdeal.Body.rMs m c
    ∧ (dats m' 0 c).arrAt 10 cfg0.N = Cert.KernelIdeal.Body.rVc m c
    ∧ (dats m' 0 c).arrAt 11 cfg0.N = Cert.KernelIdeal.Body.rVs m c := by
  obtain ⟨e0, e1, e2, e3, e4, e5, e6⟩ := args m m' c h
  have h7 := Cert.ReferenceIdeal.Body.final_7 m' c
  have h8 := Cert.ReferenceIdeal.Body.final_8 m' c
  have h9 := Cert.ReferenceIdeal.Body.final_9 m' c
  have h10 := Cert.ReferenceIdeal.Body.final_10 m' c
  have h11 := Cert.ReferenceIdeal.Body.final_11 m' c
  rw [e0, e1, e2, e3, e4, e5, e6] at h7
  rw [e1, e2, e3] at h8 h9
  rw [e1, e4, e5] at h10 h11
  exact ⟨h7.trans (Cert.Same.newD_eq _ _ _ _ _ _ _ hT).symm, h8.trans (Cert.Same.newMc_eq _ _ _).symm,
    h9.trans (Cert.Same.newMs_eq _ _ _).symm, h10.trans (Cert.Same.newVc_eq _ _ _).symm,
    h11.trans (Cert.Same.newVs_eq _ _ _).symm⟩

end Values

/-- The step count the precondition speaks of is not zero. -/
theorem step_ne [Cert.Pre_step_counted.Facts]
    (m : (ℓ : Loc Cert.KernelIdeal.nD Cert.KernelIdeal.τ Cert.KernelIdeal.sig) → Buf (Elt Ideal) ℓ)
    (h : Cert.Pre_KernelIdeal_step_counted m) (c : Dev Cert.KernelIdeal.nD) : Cert.KernelIdeal.Body.aT (F := Ideal) m c ≠ 0#32 := by
  rw [Cert.KernelIdeal.Body.aT_eq m c fun a => a.elim0]
  intro h0
  have h1 : Scalar.cmpi .ne ((m ((c.tc : Thread Cert.KernelIdeal.nD Cert.KernelIdeal.τ).loc Cert.KernelIdeal.main_arg6)) fun a => a.elim0) 0#32 = 1#1 :=
    congrFun (h c) fun a => a.elim0
  rw [h0] at h1
  exact absurd h1 (by decide)

/-- THE VALUE CLAIM: over the extended reals, after at least one step, the kernel's five results are the reference's. -/
theorem algebraic [Cert.Pre_step_counted.Facts] :
    Cert.algebraic_KernelIdeal_ReferenceIdeal_pre_step_counted (hKernelIdeal := Cert.KernelIdeal.Gen.facts)
      (hReferenceIdeal := Cert.ReferenceIdeal.Gen.facts) := by
  intro m g m' g' hp h
  refine ⟨Cert.KernelIdeal.Body.rD m, Cert.KernelIdeal.Body.rMc m, Cert.KernelIdeal.Body.rMs m,
    Cert.KernelIdeal.Body.rVc m, Cert.KernelIdeal.Body.rVs m, kernel_run m g, ?_⟩
  refine (θ_run Cert.ReferenceIdeal.defs _ _).mono (fun r hr c => ?_) (Cert.ReferenceIdeal.Value.run_blocks m' g')
  obtain ⟨v7, v8, v9, v10, v11, ha⟩ := hr c
  obtain ⟨w7, w8, w9, w10, w11⟩ := results m m' c (h c) (step_ne m hp c)
  exact ⟨v7.trans w7, v8.trans w8, v9.trans w9, v10.trans w10, v11.trans w11, ha⟩

theorem claim : Cert.Claim :=
  ⟨Cert.Kernel.Gen.facts, Cert.KernelIdeal.Gen.facts, Cert.ReferenceIdeal.Gen.facts, {},
    fun m g _ => Cert.Kernel.Body.frame m g, fun m g _ => Cert.KernelIdeal.Body.frame m g,
    fun m g _ => Cert.KernelIdeal.Body.frame m g,
    fun m g _ => Cert.ReferenceIdeal.Gen.frame m g, fun m g _ => Cert.ReferenceIdeal.Gen.frame m g, preserves,
    letI : Cert.Pre_step_counted.Facts := {}
    algebraic⟩

end Cert.Proof

end
